-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S2x256x2048 : Shape := ⟨3, ![2, 256, 2048]⟩
abbrev S3x256x2048 : Shape := ⟨3, ![3, 256, 2048]⟩
abbrev S2 : Shape := ⟨1, ![2]⟩
abbrev S3 : Shape := ⟨1, ![3]⟩
abbrev S_ : Shape := ⟨0, ![]⟩
abbrev S16x128 : Shape := ⟨2, ![16, 128]⟩
abbrev S16 : Shape := ⟨1, ![16]⟩
abbrev S256x256 : Shape := ⟨2, ![256, 256]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S4 : Shape := ⟨1, ![4]⟩
abbrev S1x4 : Shape := ⟨2, ![1, 4]⟩
abbrev S1x1 : Shape := ⟨2, ![1, 1]⟩
abbrev S1x128 : Shape := ⟨2, ![1, 128]⟩
abbrev S1x16x128 : Shape := ⟨3, ![1, 16, 128]⟩

abbrev nBuf : Space → Nat
  | .hbm => 3
  | .vmem => 19
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S4096x8192, .bf16⟩
  | .local _ .vmem, ⟨0, _⟩ => ⟨S4096x256, .bf16⟩
  | .local _ .vmem, ⟨1, _⟩ => ⟨S256x8192, .bf16⟩
  | .local _ .vmem, ⟨2, _⟩ => ⟨S2x256x2048, .bf16⟩
  | .local _ .vmem, ⟨3, _⟩ => ⟨S2x256x2048, .f32⟩
  | .local _ .vmem, ⟨4, _⟩ => ⟨S3x256x2048, .fp8e4m3⟩
  | .local _ .vmem, ⟨5, _⟩ => ⟨S2x256x2048, .bf16⟩
  | .local _ .vmem, ⟨6, _⟩ => ⟨S2x256x2048, .bf16⟩
  | .local _ .vmem, ⟨7, _⟩ => ⟨S2x256x2048, .f32⟩
  | .local _ .vmem, ⟨8, _⟩ => ⟨S3x256x2048, .fp8e4m3⟩
  | .local _ .vmem, ⟨9, _⟩ => ⟨S2x256x2048, .bf16⟩
  | .local _ .vmem, ⟨10, _⟩ => ⟨S2x256x2048, .bf16⟩
  | .local _ .vmem, ⟨11, _⟩ => ⟨S2x256x2048, .f32⟩
  | .local _ .vmem, ⟨12, _⟩ => ⟨S3x256x2048, .fp8e4m3⟩
  | .local _ .vmem, ⟨13, _⟩ => ⟨S2x256x2048, .bf16⟩
  | .local _ .vmem, ⟨14, _⟩ => ⟨S2x256x2048, .bf16⟩
  | .local _ .vmem, ⟨15, _⟩ => ⟨S2x256x2048, .f32⟩
  | .local _ .vmem, ⟨16, _⟩ => ⟨S3x256x2048, .fp8e4m3⟩
  | .local _ .vmem, ⟨17, _⟩ => ⟨S2x256x2048, .bf16⟩
  | .local _ .vmem, ⟨18, _⟩ => ⟨S16x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 9 82 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch11 : Ref sig .tc := ⟨.vmem, 6, rfl⟩
abbrev cc0_scratch12 : Ref sig .tc := ⟨.vmem, 7, rfl⟩
abbrev cc0_scratch13 : Ref sig .tc := ⟨.vmem, 8, rfl⟩
abbrev cc0_scratch14 : Ref sig .tc := ⟨.vmem, 9, rfl⟩
abbrev cc0_scratch22 : Ref sig .tc := ⟨.vmem, 10, rfl⟩
abbrev cc0_scratch23 : Ref sig .tc := ⟨.vmem, 11, rfl⟩
abbrev cc0_scratch24 : Ref sig .tc := ⟨.vmem, 12, rfl⟩
abbrev cc0_scratch25 : Ref sig .tc := ⟨.vmem, 13, rfl⟩
abbrev cc0_scratch33 : Ref sig .tc := ⟨.vmem, 14, rfl⟩
abbrev cc0_scratch34 : Ref sig .tc := ⟨.vmem, 15, rfl⟩
abbrev cc0_scratch35 : Ref sig .tc := ⟨.vmem, 16, rfl⟩
abbrev cc0_scratch36 : Ref sig .tc := ⟨.vmem, 17, rfl⟩
abbrev cc0_scratch44 : Ref sig .tc := ⟨.vmem, 18, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v74 : BitVec 32 := Scalar.muli v2 c256_i32
  let v75 : Index := Scalar.indexCast v74
  let c0 : Index := 0#32
  ![v75.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_56 : BitVec 32 := 1#32
  let v85 : BitVec 32 := Scalar.muli v24 c1_i32_56
  let v86 : BitVec 32 := Scalar.addi c0_i32_57 v85
  v86.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_73 : BitVec 32 := 1#32
  let v106 : BitVec 32 := Scalar.muli v13 c1_i32_73
  let v107 : BitVec 32 := Scalar.addi c0_i32_74 v106
  v107.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v127 : BitVec 32 := Scalar.muli v24 c1_i32_90
  let v128 : BitVec 32 := Scalar.addi c0_i32_91 v127
  v128.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_107 : BitVec 32 := 1#32
  let v148 : BitVec 32 := Scalar.muli v13 c1_i32_107
  let v149 : BitVec 32 := Scalar.addi c0_i32_108 v148
  v149.toNat
def k0_off2 (d0 : Dev nD) (c0_i32_125 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v169 : BitVec 32 := Scalar.subi v2 c0_i32_125
  let c1_i32_126 : BitVec 32 := 1#32
  let v170 : BitVec 32 := Scalar.subi v169 c1_i32_126
  let c16_i32_127 : BitVec 32 := 16#32
  let c0_i32_128 : BitVec 32 := 0#32
  let v171 : BitVec 1 := Scalar.cmpi .eq c16_i32_127 c0_i32_128
  let c1_i32_129 : BitVec 32 := 1#32
  let v172 : BitVec 32 := Scalar.select v171 c1_i32_129 c16_i32_127
  let v173 : BitVec 32 := Scalar.remsi v170 v172
  let c0_i32_131 : BitVec 32 := 0#32
  let v175 : BitVec 1 := Scalar.cmpi .slt v173 c0_i32_131
  let c0_i32_132 : BitVec 32 := 0#32
  let v176 : BitVec 1 := Scalar.cmpi .slt v172 c0_i32_132
  let v177 : BitVec 1 := Scalar.xori v175 v176
  let c0_i32_130 : BitVec 32 := 0#32
  let v174 : BitVec 1 := Scalar.cmpi .ne v173 c0_i32_130
  let v178 : BitVec 1 := Scalar.andi v177 v174
  let v179 : BitVec 32 := Scalar.addi v173 v172
  let v180 : BitVec 32 := Scalar.select v178 v179 v173
  let c256_i32_133 : BitVec 32 := 256#32
  let v181 : BitVec 32 := Scalar.muli v180 c256_i32_133
  let v182 : Index := Scalar.indexCast v181
  let c0_134 : Index := 0#32
  ![v182.toNat, 0]
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_151 : BitVec 32 := 1#32
  let v199 : BitVec 32 := Scalar.muli v13 c1_i32_151
  let v200 : BitVec 32 := Scalar.addi c0_i32_152 v199
  v200.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_159 : BitVec 32 := 1#32
  let v201 : BitVec 32 := Scalar.muli v24 c1_i32_159
  let v202 : BitVec 32 := Scalar.addi c0_i32_160 v201
  v202.toNat
def k0_off3 (d0 : Dev nD) (c0_i32_178 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v222 : BitVec 32 := Scalar.addi v2 c0_i32_178
  let c1_i32_179 : BitVec 32 := 1#32
  let v223 : BitVec 32 := Scalar.addi v222 c1_i32_179
  let c16_i32_180 : BitVec 32 := 16#32
  let c0_i32_181 : BitVec 32 := 0#32
  let v224 : BitVec 1 := Scalar.cmpi .eq c16_i32_180 c0_i32_181
  let c1_i32_182 : BitVec 32 := 1#32
  let v225 : BitVec 32 := Scalar.select v224 c1_i32_182 c16_i32_180
  let v226 : BitVec 32 := Scalar.remsi v223 v225
  let c0_i32_184 : BitVec 32 := 0#32
  let v228 : BitVec 1 := Scalar.cmpi .slt v226 c0_i32_184
  let c0_i32_185 : BitVec 32 := 0#32
  let v229 : BitVec 1 := Scalar.cmpi .slt v225 c0_i32_185
  let v230 : BitVec 1 := Scalar.xori v228 v229
  let c0_i32_183 : BitVec 32 := 0#32
  let v227 : BitVec 1 := Scalar.cmpi .ne v226 c0_i32_183
  let v231 : BitVec 1 := Scalar.andi v230 v227
  let v232 : BitVec 32 := Scalar.addi v226 v225
  let v233 : BitVec 32 := Scalar.select v231 v232 v226
  let c256_i32_186 : BitVec 32 := 256#32
  let v234 : BitVec 32 := Scalar.muli v233 c256_i32_186
  let v235 : Index := Scalar.indexCast v234
  let c0_187 : Index := 0#32
  ![v235.toNat, 0]
def k0_dev9 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_204 : BitVec 32 := 1#32
  let v252 : BitVec 32 := Scalar.muli v24 c1_i32_204
  let v253 : BitVec 32 := Scalar.addi c0_i32_205 v252
  v253.toNat
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_212 : BitVec 32 := 1#32
  let v254 : BitVec 32 := Scalar.muli v13 c1_i32_212
  let v255 : BitVec 32 := Scalar.addi c0_i32_213 v254
  v255.toNat
def k0_dev11 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_257 : BitVec 32 := 1#32
  let v305 : BitVec 32 := Scalar.muli v13 c1_i32_257
  let v306 : BitVec 32 := Scalar.addi c0_i32_258 v305
  v306.toNat
def k0_dev12 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_265 : BitVec 32 := 1#32
  let v307 : BitVec 32 := Scalar.muli v24 c1_i32_265
  let v308 : BitVec 32 := Scalar.addi c0_i32_266 v307
  v308.toNat
def k0_dev13 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_310 : BitVec 32 := 1#32
  let v358 : BitVec 32 := Scalar.muli v24 c1_i32_310
  let v359 : BitVec 32 := Scalar.addi c0_i32_311 v358
  v359.toNat
def k0_dev14 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_318 : BitVec 32 := 1#32
  let v360 : BitVec 32 := Scalar.muli v13 c1_i32_318
  let v361 : BitVec 32 := Scalar.addi c0_i32_319 v360
  v361.toNat
def k0_dev15 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_363 : BitVec 32 := 1#32
  let v411 : BitVec 32 := Scalar.muli v13 c1_i32_363
  let v412 : BitVec 32 := Scalar.addi c0_i32_364 v411
  v412.toNat
def k0_dev16 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_371 : BitVec 32 := 1#32
  let v413 : BitVec 32 := Scalar.muli v24 c1_i32_371
  let v414 : BitVec 32 := Scalar.addi c0_i32_372 v413
  v414.toNat
def k0_dev17 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_416 : BitVec 32 := 1#32
  let v464 : BitVec 32 := Scalar.muli v24 c1_i32_416
  let v465 : BitVec 32 := Scalar.addi c0_i32_417 v464
  v465.toNat
def k0_dev18 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_424 : BitVec 32 := 1#32
  let v466 : BitVec 32 := Scalar.muli v13 c1_i32_424
  let v467 : BitVec 32 := Scalar.addi c0_i32_425 v466
  v467.toNat
def k0_dev19 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_469 : BitVec 32 := 1#32
  let v517 : BitVec 32 := Scalar.muli v13 c1_i32_469
  let v518 : BitVec 32 := Scalar.addi c0_i32_470 v517
  v518.toNat
def k0_dev20 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_477 : BitVec 32 := 1#32
  let v519 : BitVec 32 := Scalar.muli v24 c1_i32_477
  let v520 : BitVec 32 := Scalar.addi c0_i32_478 v519
  v520.toNat
def k0_dev21 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_522 : BitVec 32 := 1#32
  let v570 : BitVec 32 := Scalar.muli v24 c1_i32_522
  let v571 : BitVec 32 := Scalar.addi c0_i32_523 v570
  v571.toNat
def k0_dev22 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_530 : BitVec 32 := 1#32
  let v572 : BitVec 32 := Scalar.muli v13 c1_i32_530
  let v573 : BitVec 32 := Scalar.addi c0_i32_531 v572
  v573.toNat
def k0_dev23 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_575 : BitVec 32 := 1#32
  let v623 : BitVec 32 := Scalar.muli v13 c1_i32_575
  let v624 : BitVec 32 := Scalar.addi c0_i32_576 v623
  v624.toNat
def k0_dev24 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_583 : BitVec 32 := 1#32
  let v625 : BitVec 32 := Scalar.muli v24 c1_i32_583
  let v626 : BitVec 32 := Scalar.addi c0_i32_584 v625
  v626.toNat
def k0_dev25 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_628 : BitVec 32 := 1#32
  let v676 : BitVec 32 := Scalar.muli v24 c1_i32_628
  let v677 : BitVec 32 := Scalar.addi c0_i32_629 v676
  v677.toNat
def k0_dev26 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_636 : BitVec 32 := 1#32
  let v678 : BitVec 32 := Scalar.muli v13 c1_i32_636
  let v679 : BitVec 32 := Scalar.addi c0_i32_637 v678
  v679.toNat
def k0_dev27 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_681 : BitVec 32 := 1#32
  let v729 : BitVec 32 := Scalar.muli v13 c1_i32_681
  let v730 : BitVec 32 := Scalar.addi c0_i32_682 v729
  v730.toNat
def k0_dev28 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_689 : BitVec 32 := 1#32
  let v731 : BitVec 32 := Scalar.muli v24 c1_i32_689
  let v732 : BitVec 32 := Scalar.addi c0_i32_690 v731
  v732.toNat
def k0_dev29 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_734 : BitVec 32 := 1#32
  let v782 : BitVec 32 := Scalar.muli v24 c1_i32_734
  let v783 : BitVec 32 := Scalar.addi c0_i32_735 v782
  v783.toNat
def k0_dev30 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_742 : BitVec 32 := 1#32
  let v784 : BitVec 32 := Scalar.muli v13 c1_i32_742
  let v785 : BitVec 32 := Scalar.addi c0_i32_743 v784
  v785.toNat
def k0_dev31 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_786 : BitVec 32 := 1#32
  let v835 : BitVec 32 := Scalar.muli v13 c1_i32_786
  let v836 : BitVec 32 := Scalar.addi c0_i32_787 v835
  v836.toNat
def k0_dev32 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_794 : BitVec 32 := 1#32
  let v837 : BitVec 32 := Scalar.muli v24 c1_i32_794
  let v838 : BitVec 32 := Scalar.addi c0_i32_795 v837
  v838.toNat
def k0_dev33 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_839 : BitVec 32 := 1#32
  let v888 : BitVec 32 := Scalar.muli v24 c1_i32_839
  let v889 : BitVec 32 := Scalar.addi c0_i32_840 v888
  v889.toNat
def k0_dev34 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_847 : BitVec 32 := 1#32
  let v890 : BitVec 32 := Scalar.muli v13 c1_i32_847
  let v891 : BitVec 32 := Scalar.addi c0_i32_848 v890
  v891.toNat
def k0_dev35 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_892 : BitVec 32 := 1#32
  let v941 : BitVec 32 := Scalar.muli v13 c1_i32_892
  let v942 : BitVec 32 := Scalar.addi c0_i32_893 v941
  v942.toNat
def k0_dev36 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_900 : BitVec 32 := 1#32
  let v943 : BitVec 32 := Scalar.muli v24 c1_i32_900
  let v944 : BitVec 32 := Scalar.addi c0_i32_901 v943
  v944.toNat
def k0_dev37 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_945 : BitVec 32 := 1#32
  let v994 : BitVec 32 := Scalar.muli v24 c1_i32_945
  let v995 : BitVec 32 := Scalar.addi c0_i32_946 v994
  v995.toNat
def k0_dev38 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_953 : BitVec 32 := 1#32
  let v996 : BitVec 32 := Scalar.muli v13 c1_i32_953
  let v997 : BitVec 32 := Scalar.addi c0_i32_954 v996
  v997.toNat
def k0_dev39 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_997 : BitVec 32 := 1#32
  let v1047 : BitVec 32 := Scalar.muli v13 c1_i32_997
  let v1048 : BitVec 32 := Scalar.addi c0_i32_998 v1047
  v1048.toNat
def k0_dev40 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1005 : BitVec 32 := 1#32
  let v1049 : BitVec 32 := Scalar.muli v24 c1_i32_1005
  let v1050 : BitVec 32 := Scalar.addi c0_i32_1006 v1049
  v1050.toNat
def k0_dev41 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1050 : BitVec 32 := 1#32
  let v1100 : BitVec 32 := Scalar.muli v24 c1_i32_1050
  let v1101 : BitVec 32 := Scalar.addi c0_i32_1051 v1100
  v1101.toNat
def k0_dev42 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1058 : BitVec 32 := 1#32
  let v1102 : BitVec 32 := Scalar.muli v13 c1_i32_1058
  let v1103 : BitVec 32 := Scalar.addi c0_i32_1059 v1102
  v1103.toNat
def k0_dev43 (d0 : Dev nD) : Nat :=
  let c0_i32_1104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1103 : BitVec 32 := 1#32
  let v1153 : BitVec 32 := Scalar.muli v13 c1_i32_1103
  let v1154 : BitVec 32 := Scalar.addi c0_i32_1104 v1153
  v1154.toNat
def k0_dev44 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1111 : BitVec 32 := 1#32
  let v1155 : BitVec 32 := Scalar.muli v24 c1_i32_1111
  let v1156 : BitVec 32 := Scalar.addi c0_i32_1112 v1155
  v1156.toNat
def k0_dev45 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1156 : BitVec 32 := 1#32
  let v1206 : BitVec 32 := Scalar.muli v24 c1_i32_1156
  let v1207 : BitVec 32 := Scalar.addi c0_i32_1157 v1206
  v1207.toNat
def k0_dev46 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1164 : BitVec 32 := 1#32
  let v1208 : BitVec 32 := Scalar.muli v13 c1_i32_1164
  let v1209 : BitVec 32 := Scalar.addi c0_i32_1165 v1208
  v1209.toNat
def k0_dev47 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1208 : BitVec 32 := 1#32
  let v1259 : BitVec 32 := Scalar.muli v13 c1_i32_1208
  let v1260 : BitVec 32 := Scalar.addi c0_i32_1209 v1259
  v1260.toNat
def k0_dev48 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1216 : BitVec 32 := 1#32
  let v1261 : BitVec 32 := Scalar.muli v24 c1_i32_1216
  let v1262 : BitVec 32 := Scalar.addi c0_i32_1217 v1261
  v1262.toNat
def k0_dev49 (d0 : Dev nD) : Nat :=
  let c0_i32_1262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1261 : BitVec 32 := 1#32
  let v1312 : BitVec 32 := Scalar.muli v24 c1_i32_1261
  let v1313 : BitVec 32 := Scalar.addi c0_i32_1262 v1312
  v1313.toNat
def k0_dev50 (d0 : Dev nD) : Nat :=
  let c0_i32_1270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1269 : BitVec 32 := 1#32
  let v1314 : BitVec 32 := Scalar.muli v13 c1_i32_1269
  let v1315 : BitVec 32 := Scalar.addi c0_i32_1270 v1314
  v1315.toNat
def k0_dev51 (d0 : Dev nD) : Nat :=
  let c0_i32_1315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1314 : BitVec 32 := 1#32
  let v1365 : BitVec 32 := Scalar.muli v13 c1_i32_1314
  let v1366 : BitVec 32 := Scalar.addi c0_i32_1315 v1365
  v1366.toNat
def k0_dev52 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1322 : BitVec 32 := 1#32
  let v1367 : BitVec 32 := Scalar.muli v24 c1_i32_1322
  let v1368 : BitVec 32 := Scalar.addi c0_i32_1323 v1367
  v1368.toNat
def k0_dev53 (d0 : Dev nD) : Nat :=
  let c0_i32_1368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1367 : BitVec 32 := 1#32
  let v1418 : BitVec 32 := Scalar.muli v24 c1_i32_1367
  let v1419 : BitVec 32 := Scalar.addi c0_i32_1368 v1418
  v1419.toNat
def k0_dev54 (d0 : Dev nD) : Nat :=
  let c0_i32_1376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1375 : BitVec 32 := 1#32
  let v1420 : BitVec 32 := Scalar.muli v13 c1_i32_1375
  let v1421 : BitVec 32 := Scalar.addi c0_i32_1376 v1420
  v1421.toNat
def k0_dev55 (d0 : Dev nD) : Nat :=
  let c0_i32_1420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1419 : BitVec 32 := 1#32
  let v1471 : BitVec 32 := Scalar.muli v13 c1_i32_1419
  let v1472 : BitVec 32 := Scalar.addi c0_i32_1420 v1471
  v1472.toNat
def k0_dev56 (d0 : Dev nD) : Nat :=
  let c0_i32_1428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1427 : BitVec 32 := 1#32
  let v1473 : BitVec 32 := Scalar.muli v24 c1_i32_1427
  let v1474 : BitVec 32 := Scalar.addi c0_i32_1428 v1473
  v1474.toNat
def k0_dev57 (d0 : Dev nD) : Nat :=
  let c0_i32_1473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1472 : BitVec 32 := 1#32
  let v1524 : BitVec 32 := Scalar.muli v24 c1_i32_1472
  let v1525 : BitVec 32 := Scalar.addi c0_i32_1473 v1524
  v1525.toNat
def k0_dev58 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1480 : BitVec 32 := 1#32
  let v1526 : BitVec 32 := Scalar.muli v13 c1_i32_1480
  let v1527 : BitVec 32 := Scalar.addi c0_i32_1481 v1526
  v1527.toNat
def k0_dev59 (d0 : Dev nD) : Nat :=
  let c0_i32_1526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1525 : BitVec 32 := 1#32
  let v1577 : BitVec 32 := Scalar.muli v13 c1_i32_1525
  let v1578 : BitVec 32 := Scalar.addi c0_i32_1526 v1577
  v1578.toNat
def k0_dev60 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1533 : BitVec 32 := 1#32
  let v1579 : BitVec 32 := Scalar.muli v24 c1_i32_1533
  let v1580 : BitVec 32 := Scalar.addi c0_i32_1534 v1579
  v1580.toNat
def k0_dev61 (d0 : Dev nD) : Nat :=
  let c0_i32_1579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1578 : BitVec 32 := 1#32
  let v1630 : BitVec 32 := Scalar.muli v24 c1_i32_1578
  let v1631 : BitVec 32 := Scalar.addi c0_i32_1579 v1630
  v1631.toNat
def k0_dev62 (d0 : Dev nD) : Nat :=
  let c0_i32_1587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1586 : BitVec 32 := 1#32
  let v1632 : BitVec 32 := Scalar.muli v13 c1_i32_1586
  let v1633 : BitVec 32 := Scalar.addi c0_i32_1587 v1632
  v1633.toNat
def k0_dev63 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1630 : BitVec 32 := 1#32
  let v1683 : BitVec 32 := Scalar.muli v13 c1_i32_1630
  let v1684 : BitVec 32 := Scalar.addi c0_i32_1631 v1683
  v1684.toNat
def k0_dev64 (d0 : Dev nD) : Nat :=
  let c0_i32_1639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1638 : BitVec 32 := 1#32
  let v1685 : BitVec 32 := Scalar.muli v24 c1_i32_1638
  let v1686 : BitVec 32 := Scalar.addi c0_i32_1639 v1685
  v1686.toNat
def k0_dev65 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1683 : BitVec 32 := 1#32
  let v1736 : BitVec 32 := Scalar.muli v24 c1_i32_1683
  let v1737 : BitVec 32 := Scalar.addi c0_i32_1684 v1736
  v1737.toNat
def k0_dev66 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1691 : BitVec 32 := 1#32
  let v1738 : BitVec 32 := Scalar.muli v13 c1_i32_1691
  let v1739 : BitVec 32 := Scalar.addi c0_i32_1692 v1738
  v1739.toNat
def k0_dev67 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1736 : BitVec 32 := 1#32
  let v1789 : BitVec 32 := Scalar.muli v13 c1_i32_1736
  let v1790 : BitVec 32 := Scalar.addi c0_i32_1737 v1789
  v1790.toNat
def k0_dev68 (d0 : Dev nD) : Nat :=
  let c0_i32_1745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1744 : BitVec 32 := 1#32
  let v1791 : BitVec 32 := Scalar.muli v24 c1_i32_1744
  let v1792 : BitVec 32 := Scalar.addi c0_i32_1745 v1791
  v1792.toNat
def k0_dev69 (d0 : Dev nD) : Nat :=
  let c0_i32_1790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1789 : BitVec 32 := 1#32
  let v1842 : BitVec 32 := Scalar.muli v24 c1_i32_1789
  let v1843 : BitVec 32 := Scalar.addi c0_i32_1790 v1842
  v1843.toNat
def k0_dev70 (d0 : Dev nD) : Nat :=
  let c0_i32_1798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1797 : BitVec 32 := 1#32
  let v1844 : BitVec 32 := Scalar.muli v13 c1_i32_1797
  let v1845 : BitVec 32 := Scalar.addi c0_i32_1798 v1844
  v1845.toNat
def k0_dev71 (d0 : Dev nD) : Nat :=
  let c0_i32_1842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1841 : BitVec 32 := 1#32
  let v1895 : BitVec 32 := Scalar.muli v13 c1_i32_1841
  let v1896 : BitVec 32 := Scalar.addi c0_i32_1842 v1895
  v1896.toNat
def k0_dev72 (d0 : Dev nD) : Nat :=
  let c0_i32_1850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1849 : BitVec 32 := 1#32
  let v1897 : BitVec 32 := Scalar.muli v24 c1_i32_1849
  let v1898 : BitVec 32 := Scalar.addi c0_i32_1850 v1897
  v1898.toNat
def k0_dev73 (d0 : Dev nD) : Nat :=
  let c0_i32_1895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1894 : BitVec 32 := 1#32
  let v1948 : BitVec 32 := Scalar.muli v24 c1_i32_1894
  let v1949 : BitVec 32 := Scalar.addi c0_i32_1895 v1948
  v1949.toNat
def k0_dev74 (d0 : Dev nD) : Nat :=
  let c0_i32_1903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1902 : BitVec 32 := 1#32
  let v1950 : BitVec 32 := Scalar.muli v13 c1_i32_1902
  let v1951 : BitVec 32 := Scalar.addi c0_i32_1903 v1950
  v1951.toNat
def k0_dev75 (d0 : Dev nD) : Nat :=
  let c0_i32_1948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1947 : BitVec 32 := 1#32
  let v2001 : BitVec 32 := Scalar.muli v13 c1_i32_1947
  let v2002 : BitVec 32 := Scalar.addi c0_i32_1948 v2001
  v2002.toNat
def k0_dev76 (d0 : Dev nD) : Nat :=
  let c0_i32_1956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1955 : BitVec 32 := 1#32
  let v2003 : BitVec 32 := Scalar.muli v24 c1_i32_1955
  let v2004 : BitVec 32 := Scalar.addi c0_i32_1956 v2003
  v2004.toNat
def k0_dev77 (d0 : Dev nD) : Nat :=
  let c0_i32_2001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2000 : BitVec 32 := 1#32
  let v2054 : BitVec 32 := Scalar.muli v24 c1_i32_2000
  let v2055 : BitVec 32 := Scalar.addi c0_i32_2001 v2054
  v2055.toNat
def k0_dev78 (d0 : Dev nD) : Nat :=
  let c0_i32_2009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2008 : BitVec 32 := 1#32
  let v2056 : BitVec 32 := Scalar.muli v13 c1_i32_2008
  let v2057 : BitVec 32 := Scalar.addi c0_i32_2009 v2056
  v2057.toNat
def k0_dev79 (d0 : Dev nD) : Nat :=
  let c0_i32_2053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2052 : BitVec 32 := 1#32
  let v2107 : BitVec 32 := Scalar.muli v13 c1_i32_2052
  let v2108 : BitVec 32 := Scalar.addi c0_i32_2053 v2107
  v2108.toNat
def k0_dev80 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2060 : BitVec 32 := 1#32
  let v2109 : BitVec 32 := Scalar.muli v24 c1_i32_2060
  let v2110 : BitVec 32 := Scalar.addi c0_i32_2061 v2109
  v2110.toNat
def k0_dev81 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2105 : BitVec 32 := 1#32
  let v2160 : BitVec 32 := Scalar.muli v24 c1_i32_2105
  let v2161 : BitVec 32 := Scalar.addi c0_i32_2106 v2160
  v2161.toNat
def k0_dev82 (d0 : Dev nD) : Nat :=
  let c0_i32_2114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2113 : BitVec 32 := 1#32
  let v2162 : BitVec 32 := Scalar.muli v13 c1_i32_2113
  let v2163 : BitVec 32 := Scalar.addi c0_i32_2114 v2162
  v2163.toNat
def k0_dev83 (d0 : Dev nD) : Nat :=
  let c0_i32_2159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2158 : BitVec 32 := 1#32
  let v2213 : BitVec 32 := Scalar.muli v13 c1_i32_2158
  let v2214 : BitVec 32 := Scalar.addi c0_i32_2159 v2213
  v2214.toNat
def k0_dev84 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2166 : BitVec 32 := 1#32
  let v2215 : BitVec 32 := Scalar.muli v24 c1_i32_2166
  let v2216 : BitVec 32 := Scalar.addi c0_i32_2167 v2215
  v2216.toNat
def k0_dev85 (d0 : Dev nD) : Nat :=
  let c0_i32_2212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2211 : BitVec 32 := 1#32
  let v2266 : BitVec 32 := Scalar.muli v24 c1_i32_2211
  let v2267 : BitVec 32 := Scalar.addi c0_i32_2212 v2266
  v2267.toNat
def k0_dev86 (d0 : Dev nD) : Nat :=
  let c0_i32_2220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2219 : BitVec 32 := 1#32
  let v2268 : BitVec 32 := Scalar.muli v13 c1_i32_2219
  let v2269 : BitVec 32 := Scalar.addi c0_i32_2220 v2268
  v2269.toNat
def k0_dev87 (d0 : Dev nD) : Nat :=
  let c0_i32_2264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2263 : BitVec 32 := 1#32
  let v2318 : BitVec 32 := Scalar.muli v13 c1_i32_2263
  let v2319 : BitVec 32 := Scalar.addi c0_i32_2264 v2318
  v2319.toNat
def k0_dev88 (d0 : Dev nD) : Nat :=
  let c0_i32_2272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2271 : BitVec 32 := 1#32
  let v2320 : BitVec 32 := Scalar.muli v24 c1_i32_2271
  let v2321 : BitVec 32 := Scalar.addi c0_i32_2272 v2320
  v2321.toNat
def k0_dev89 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2316 : BitVec 32 := 1#32
  let v2370 : BitVec 32 := Scalar.muli v24 c1_i32_2316
  let v2371 : BitVec 32 := Scalar.addi c0_i32_2317 v2370
  v2371.toNat
def k0_dev90 (d0 : Dev nD) : Nat :=
  let c0_i32_2325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2324 : BitVec 32 := 1#32
  let v2372 : BitVec 32 := Scalar.muli v13 c1_i32_2324
  let v2373 : BitVec 32 := Scalar.addi c0_i32_2325 v2372
  v2373.toNat
def k0_dev91 (d0 : Dev nD) : Nat :=
  let c0_i32_2370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2369 : BitVec 32 := 1#32
  let v2422 : BitVec 32 := Scalar.muli v13 c1_i32_2369
  let v2423 : BitVec 32 := Scalar.addi c0_i32_2370 v2422
  v2423.toNat
def k0_dev92 (d0 : Dev nD) : Nat :=
  let c0_i32_2378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2377 : BitVec 32 := 1#32
  let v2424 : BitVec 32 := Scalar.muli v24 c1_i32_2377
  let v2425 : BitVec 32 := Scalar.addi c0_i32_2378 v2424
  v2425.toNat
def k0_dev93 (d0 : Dev nD) : Nat :=
  let c0_i32_2423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2422 : BitVec 32 := 1#32
  let v2474 : BitVec 32 := Scalar.muli v24 c1_i32_2422
  let v2475 : BitVec 32 := Scalar.addi c0_i32_2423 v2474
  v2475.toNat
def k0_dev94 (d0 : Dev nD) : Nat :=
  let c0_i32_2431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2430 : BitVec 32 := 1#32
  let v2476 : BitVec 32 := Scalar.muli v13 c1_i32_2430
  let v2477 : BitVec 32 := Scalar.addi c0_i32_2431 v2476
  v2477.toNat
def k0_dev95 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2474 : BitVec 32 := 1#32
  let v2525 : BitVec 32 := Scalar.muli v13 c1_i32_2474
  let v2526 : BitVec 32 := Scalar.addi c0_i32_2475 v2525
  v2526.toNat
def k0_dev96 (d0 : Dev nD) : Nat :=
  let c0_i32_2483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2482 : BitVec 32 := 1#32
  let v2527 : BitVec 32 := Scalar.muli v24 c1_i32_2482
  let v2528 : BitVec 32 := Scalar.addi c0_i32_2483 v2527
  v2528.toNat
def k0_dev97 (d0 : Dev nD) : Nat :=
  let c0_i32_2528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2527 : BitVec 32 := 1#32
  let v2576 : BitVec 32 := Scalar.muli v24 c1_i32_2527
  let v2577 : BitVec 32 := Scalar.addi c0_i32_2528 v2576
  v2577.toNat
def k0_dev98 (d0 : Dev nD) : Nat :=
  let c0_i32_2536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2535 : BitVec 32 := 1#32
  let v2578 : BitVec 32 := Scalar.muli v13 c1_i32_2535
  let v2579 : BitVec 32 := Scalar.addi c0_i32_2536 v2578
  v2579.toNat
def k0_dev99 (d0 : Dev nD) : Nat :=
  let c0_i32_2581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2580 : BitVec 32 := 1#32
  let v2627 : BitVec 32 := Scalar.muli v13 c1_i32_2580
  let v2628 : BitVec 32 := Scalar.addi c0_i32_2581 v2627
  v2628.toNat
def k0_dev100 (d0 : Dev nD) : Nat :=
  let c0_i32_2589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2588 : BitVec 32 := 1#32
  let v2629 : BitVec 32 := Scalar.muli v24 c1_i32_2588
  let v2630 : BitVec 32 := Scalar.addi c0_i32_2589 v2629
  v2630.toNat
def k0_dev101 (d0 : Dev nD) : Nat :=
  let c0_i32_2634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2633 : BitVec 32 := 1#32
  let v2678 : BitVec 32 := Scalar.muli v24 c1_i32_2633
  let v2679 : BitVec 32 := Scalar.addi c0_i32_2634 v2678
  v2679.toNat
def k0_dev102 (d0 : Dev nD) : Nat :=
  let c0_i32_2642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2641 : BitVec 32 := 1#32
  let v2680 : BitVec 32 := Scalar.muli v13 c1_i32_2641
  let v2681 : BitVec 32 := Scalar.addi c0_i32_2642 v2680
  v2681.toNat
def k0_dev103 (d0 : Dev nD) : Nat :=
  let c0_i32_2686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2685 : BitVec 32 := 1#32
  let v2729 : BitVec 32 := Scalar.muli v13 c1_i32_2685
  let v2730 : BitVec 32 := Scalar.addi c0_i32_2686 v2729
  v2730.toNat
def k0_dev104 (d0 : Dev nD) : Nat :=
  let c0_i32_2694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2693 : BitVec 32 := 1#32
  let v2731 : BitVec 32 := Scalar.muli v24 c1_i32_2693
  let v2732 : BitVec 32 := Scalar.addi c0_i32_2694 v2731
  v2732.toNat
def k0_dev105 (d0 : Dev nD) : Nat :=
  let c0_i32_2739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2738 : BitVec 32 := 1#32
  let v2780 : BitVec 32 := Scalar.muli v24 c1_i32_2738
  let v2781 : BitVec 32 := Scalar.addi c0_i32_2739 v2780
  v2781.toNat
def k0_dev106 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2746 : BitVec 32 := 1#32
  let v2782 : BitVec 32 := Scalar.muli v13 c1_i32_2746
  let v2783 : BitVec 32 := Scalar.addi c0_i32_2747 v2782
  v2783.toNat
def k0_dev107 (d0 : Dev nD) : Nat :=
  let c0_i32_2792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2791 : BitVec 32 := 1#32
  let v2831 : BitVec 32 := Scalar.muli v13 c1_i32_2791
  let v2832 : BitVec 32 := Scalar.addi c0_i32_2792 v2831
  v2832.toNat
def k0_dev108 (d0 : Dev nD) : Nat :=
  let c0_i32_2800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2799 : BitVec 32 := 1#32
  let v2833 : BitVec 32 := Scalar.muli v24 c1_i32_2799
  let v2834 : BitVec 32 := Scalar.addi c0_i32_2800 v2833
  v2834.toNat
def k0_dev109 (d0 : Dev nD) : Nat :=
  let c0_i32_2845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2844 : BitVec 32 := 1#32
  let v2882 : BitVec 32 := Scalar.muli v24 c1_i32_2844
  let v2883 : BitVec 32 := Scalar.addi c0_i32_2845 v2882
  v2883.toNat
def k0_dev110 (d0 : Dev nD) : Nat :=
  let c0_i32_2853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2852 : BitVec 32 := 1#32
  let v2884 : BitVec 32 := Scalar.muli v13 c1_i32_2852
  let v2885 : BitVec 32 := Scalar.addi c0_i32_2853 v2884
  v2885.toNat
def k0_dev111 (d0 : Dev nD) : Nat :=
  let c0_i32_2897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2896 : BitVec 32 := 1#32
  let v2933 : BitVec 32 := Scalar.muli v13 c1_i32_2896
  let v2934 : BitVec 32 := Scalar.addi c0_i32_2897 v2933
  v2934.toNat
def k0_dev112 (d0 : Dev nD) : Nat :=
  let c0_i32_2905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2904 : BitVec 32 := 1#32
  let v2935 : BitVec 32 := Scalar.muli v24 c1_i32_2904
  let v2936 : BitVec 32 := Scalar.addi c0_i32_2905 v2935
  v2936.toNat
def k0_dev113 (d0 : Dev nD) : Nat :=
  let c0_i32_2950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2949 : BitVec 32 := 1#32
  let v2984 : BitVec 32 := Scalar.muli v24 c1_i32_2949
  let v2985 : BitVec 32 := Scalar.addi c0_i32_2950 v2984
  v2985.toNat
def k0_dev114 (d0 : Dev nD) : Nat :=
  let c0_i32_2958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2957 : BitVec 32 := 1#32
  let v2986 : BitVec 32 := Scalar.muli v13 c1_i32_2957
  let v2987 : BitVec 32 := Scalar.addi c0_i32_2958 v2986
  v2987.toNat
def k0_dev115 (d0 : Dev nD) : Nat :=
  let c0_i32_3003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3002 : BitVec 32 := 1#32
  let v3035 : BitVec 32 := Scalar.muli v13 c1_i32_3002
  let v3036 : BitVec 32 := Scalar.addi c0_i32_3003 v3035
  v3036.toNat
def k0_dev116 (d0 : Dev nD) : Nat :=
  let c0_i32_3011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3010 : BitVec 32 := 1#32
  let v3037 : BitVec 32 := Scalar.muli v24 c1_i32_3010
  let v3038 : BitVec 32 := Scalar.addi c0_i32_3011 v3037
  v3038.toNat
def k0_dev117 (d0 : Dev nD) : Nat :=
  let c0_i32_3056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3055 : BitVec 32 := 1#32
  let v3086 : BitVec 32 := Scalar.muli v24 c1_i32_3055
  let v3087 : BitVec 32 := Scalar.addi c0_i32_3056 v3086
  v3087.toNat
def k0_dev118 (d0 : Dev nD) : Nat :=
  let c0_i32_3064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3063 : BitVec 32 := 1#32
  let v3088 : BitVec 32 := Scalar.muli v13 c1_i32_3063
  let v3089 : BitVec 32 := Scalar.addi c0_i32_3064 v3088
  v3089.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3284 : Index := Scalar.indexCast v2
  let c0_3225 : Index := 0#32
  ![v3284.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3237 : BitVec 32 := 0#32
  ![v2.toNat, 0]
def k0_dev119 (d0 : Dev nD) : Nat :=
  let c0_i32_3236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3226 : BitVec 32 := 1#32
  let v3288 : BitVec 32 := Scalar.addi v2 c1_i32_3226
  let c16_i32_3227 : BitVec 32 := 16#32
  let c0_i32_3228 : BitVec 32 := 0#32
  let v3289 : BitVec 1 := Scalar.cmpi .eq c16_i32_3227 c0_i32_3228
  let c1_i32_3229 : BitVec 32 := 1#32
  let v3290 : BitVec 32 := Scalar.select v3289 c1_i32_3229 c16_i32_3227
  let v3291 : BitVec 32 := Scalar.remsi v3288 v3290
  let c0_i32_3231 : BitVec 32 := 0#32
  let v3293 : BitVec 1 := Scalar.cmpi .slt v3291 c0_i32_3231
  let c0_i32_3232 : BitVec 32 := 0#32
  let v3294 : BitVec 1 := Scalar.cmpi .slt v3290 c0_i32_3232
  let v3295 : BitVec 1 := Scalar.xori v3293 v3294
  let c0_i32_3230 : BitVec 32 := 0#32
  let v3292 : BitVec 1 := Scalar.cmpi .ne v3291 c0_i32_3230
  let v3296 : BitVec 1 := Scalar.andi v3295 v3292
  let v3297 : BitVec 32 := Scalar.addi v3291 v3290
  let v3298 : BitVec 32 := Scalar.select v3296 v3297 v3291
  let c1_i32_3235 : BitVec 32 := 1#32
  let v3299 : BitVec 32 := Scalar.muli v3298 c1_i32_3235
  let v3300 : BitVec 32 := Scalar.addi c0_i32_3236 v3299
  v3300.toNat
def k0_dev120 (d0 : Dev nD) : Nat :=
  let c0_i32_3249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3239 : BitVec 32 := 2#32
  let v3307 : BitVec 32 := Scalar.addi v2 c2_i32_3239
  let c16_i32_3240 : BitVec 32 := 16#32
  let c0_i32_3241 : BitVec 32 := 0#32
  let v3308 : BitVec 1 := Scalar.cmpi .eq c16_i32_3240 c0_i32_3241
  let c1_i32_3242 : BitVec 32 := 1#32
  let v3309 : BitVec 32 := Scalar.select v3308 c1_i32_3242 c16_i32_3240
  let v3310 : BitVec 32 := Scalar.remsi v3307 v3309
  let c0_i32_3244 : BitVec 32 := 0#32
  let v3312 : BitVec 1 := Scalar.cmpi .slt v3310 c0_i32_3244
  let c0_i32_3245 : BitVec 32 := 0#32
  let v3313 : BitVec 1 := Scalar.cmpi .slt v3309 c0_i32_3245
  let v3314 : BitVec 1 := Scalar.xori v3312 v3313
  let c0_i32_3243 : BitVec 32 := 0#32
  let v3311 : BitVec 1 := Scalar.cmpi .ne v3310 c0_i32_3243
  let v3315 : BitVec 1 := Scalar.andi v3314 v3311
  let v3316 : BitVec 32 := Scalar.addi v3310 v3309
  let v3317 : BitVec 32 := Scalar.select v3315 v3316 v3310
  let c1_i32_3248 : BitVec 32 := 1#32
  let v3318 : BitVec 32 := Scalar.muli v3317 c1_i32_3248
  let v3319 : BitVec 32 := Scalar.addi c0_i32_3249 v3318
  v3319.toNat
def k0_dev121 (d0 : Dev nD) : Nat :=
  let c0_i32_3262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3252 : BitVec 32 := 3#32
  let v3326 : BitVec 32 := Scalar.addi v2 c3_i32_3252
  let c16_i32_3253 : BitVec 32 := 16#32
  let c0_i32_3254 : BitVec 32 := 0#32
  let v3327 : BitVec 1 := Scalar.cmpi .eq c16_i32_3253 c0_i32_3254
  let c1_i32_3255 : BitVec 32 := 1#32
  let v3328 : BitVec 32 := Scalar.select v3327 c1_i32_3255 c16_i32_3253
  let v3329 : BitVec 32 := Scalar.remsi v3326 v3328
  let c0_i32_3257 : BitVec 32 := 0#32
  let v3331 : BitVec 1 := Scalar.cmpi .slt v3329 c0_i32_3257
  let c0_i32_3258 : BitVec 32 := 0#32
  let v3332 : BitVec 1 := Scalar.cmpi .slt v3328 c0_i32_3258
  let v3333 : BitVec 1 := Scalar.xori v3331 v3332
  let c0_i32_3256 : BitVec 32 := 0#32
  let v3330 : BitVec 1 := Scalar.cmpi .ne v3329 c0_i32_3256
  let v3334 : BitVec 1 := Scalar.andi v3333 v3330
  let v3335 : BitVec 32 := Scalar.addi v3329 v3328
  let v3336 : BitVec 32 := Scalar.select v3334 v3335 v3329
  let c1_i32_3261 : BitVec 32 := 1#32
  let v3337 : BitVec 32 := Scalar.muli v3336 c1_i32_3261
  let v3338 : BitVec 32 := Scalar.addi c0_i32_3262 v3337
  v3338.toNat
def k0_dev122 (d0 : Dev nD) : Nat :=
  let c0_i32_3275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3265 : BitVec 32 := 4#32
  let v3345 : BitVec 32 := Scalar.addi v2 c4_i32_3265
  let c16_i32_3266 : BitVec 32 := 16#32
  let c0_i32_3267 : BitVec 32 := 0#32
  let v3346 : BitVec 1 := Scalar.cmpi .eq c16_i32_3266 c0_i32_3267
  let c1_i32_3268 : BitVec 32 := 1#32
  let v3347 : BitVec 32 := Scalar.select v3346 c1_i32_3268 c16_i32_3266
  let v3348 : BitVec 32 := Scalar.remsi v3345 v3347
  let c0_i32_3270 : BitVec 32 := 0#32
  let v3350 : BitVec 1 := Scalar.cmpi .slt v3348 c0_i32_3270
  let c0_i32_3271 : BitVec 32 := 0#32
  let v3351 : BitVec 1 := Scalar.cmpi .slt v3347 c0_i32_3271
  let v3352 : BitVec 1 := Scalar.xori v3350 v3351
  let c0_i32_3269 : BitVec 32 := 0#32
  let v3349 : BitVec 1 := Scalar.cmpi .ne v3348 c0_i32_3269
  let v3353 : BitVec 1 := Scalar.andi v3352 v3349
  let v3354 : BitVec 32 := Scalar.addi v3348 v3347
  let v3355 : BitVec 32 := Scalar.select v3353 v3354 v3348
  let c1_i32_3274 : BitVec 32 := 1#32
  let v3356 : BitVec 32 := Scalar.muli v3355 c1_i32_3274
  let v3357 : BitVec 32 := Scalar.addi c0_i32_3275 v3356
  v3357.toNat
def k0_dev123 (d0 : Dev nD) : Nat :=
  let c0_i32_3288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3278 : BitVec 32 := 5#32
  let v3364 : BitVec 32 := Scalar.addi v2 c5_i32_3278
  let c16_i32_3279 : BitVec 32 := 16#32
  let c0_i32_3280 : BitVec 32 := 0#32
  let v3365 : BitVec 1 := Scalar.cmpi .eq c16_i32_3279 c0_i32_3280
  let c1_i32_3281 : BitVec 32 := 1#32
  let v3366 : BitVec 32 := Scalar.select v3365 c1_i32_3281 c16_i32_3279
  let v3367 : BitVec 32 := Scalar.remsi v3364 v3366
  let c0_i32_3283 : BitVec 32 := 0#32
  let v3369 : BitVec 1 := Scalar.cmpi .slt v3367 c0_i32_3283
  let c0_i32_3284 : BitVec 32 := 0#32
  let v3370 : BitVec 1 := Scalar.cmpi .slt v3366 c0_i32_3284
  let v3371 : BitVec 1 := Scalar.xori v3369 v3370
  let c0_i32_3282 : BitVec 32 := 0#32
  let v3368 : BitVec 1 := Scalar.cmpi .ne v3367 c0_i32_3282
  let v3372 : BitVec 1 := Scalar.andi v3371 v3368
  let v3373 : BitVec 32 := Scalar.addi v3367 v3366
  let v3374 : BitVec 32 := Scalar.select v3372 v3373 v3367
  let c1_i32_3287 : BitVec 32 := 1#32
  let v3375 : BitVec 32 := Scalar.muli v3374 c1_i32_3287
  let v3376 : BitVec 32 := Scalar.addi c0_i32_3288 v3375
  v3376.toNat
def k0_dev124 (d0 : Dev nD) : Nat :=
  let c0_i32_3301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3291 : BitVec 32 := 6#32
  let v3383 : BitVec 32 := Scalar.addi v2 c6_i32_3291
  let c16_i32_3292 : BitVec 32 := 16#32
  let c0_i32_3293 : BitVec 32 := 0#32
  let v3384 : BitVec 1 := Scalar.cmpi .eq c16_i32_3292 c0_i32_3293
  let c1_i32_3294 : BitVec 32 := 1#32
  let v3385 : BitVec 32 := Scalar.select v3384 c1_i32_3294 c16_i32_3292
  let v3386 : BitVec 32 := Scalar.remsi v3383 v3385
  let c0_i32_3296 : BitVec 32 := 0#32
  let v3388 : BitVec 1 := Scalar.cmpi .slt v3386 c0_i32_3296
  let c0_i32_3297 : BitVec 32 := 0#32
  let v3389 : BitVec 1 := Scalar.cmpi .slt v3385 c0_i32_3297
  let v3390 : BitVec 1 := Scalar.xori v3388 v3389
  let c0_i32_3295 : BitVec 32 := 0#32
  let v3387 : BitVec 1 := Scalar.cmpi .ne v3386 c0_i32_3295
  let v3391 : BitVec 1 := Scalar.andi v3390 v3387
  let v3392 : BitVec 32 := Scalar.addi v3386 v3385
  let v3393 : BitVec 32 := Scalar.select v3391 v3392 v3386
  let c1_i32_3300 : BitVec 32 := 1#32
  let v3394 : BitVec 32 := Scalar.muli v3393 c1_i32_3300
  let v3395 : BitVec 32 := Scalar.addi c0_i32_3301 v3394
  v3395.toNat
def k0_dev125 (d0 : Dev nD) : Nat :=
  let c0_i32_3314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3304 : BitVec 32 := 7#32
  let v3402 : BitVec 32 := Scalar.addi v2 c7_i32_3304
  let c16_i32_3305 : BitVec 32 := 16#32
  let c0_i32_3306 : BitVec 32 := 0#32
  let v3403 : BitVec 1 := Scalar.cmpi .eq c16_i32_3305 c0_i32_3306
  let c1_i32_3307 : BitVec 32 := 1#32
  let v3404 : BitVec 32 := Scalar.select v3403 c1_i32_3307 c16_i32_3305
  let v3405 : BitVec 32 := Scalar.remsi v3402 v3404
  let c0_i32_3309 : BitVec 32 := 0#32
  let v3407 : BitVec 1 := Scalar.cmpi .slt v3405 c0_i32_3309
  let c0_i32_3310 : BitVec 32 := 0#32
  let v3408 : BitVec 1 := Scalar.cmpi .slt v3404 c0_i32_3310
  let v3409 : BitVec 1 := Scalar.xori v3407 v3408
  let c0_i32_3308 : BitVec 32 := 0#32
  let v3406 : BitVec 1 := Scalar.cmpi .ne v3405 c0_i32_3308
  let v3410 : BitVec 1 := Scalar.andi v3409 v3406
  let v3411 : BitVec 32 := Scalar.addi v3405 v3404
  let v3412 : BitVec 32 := Scalar.select v3410 v3411 v3405
  let c1_i32_3313 : BitVec 32 := 1#32
  let v3413 : BitVec 32 := Scalar.muli v3412 c1_i32_3313
  let v3414 : BitVec 32 := Scalar.addi c0_i32_3314 v3413
  v3414.toNat
def k0_dev126 (d0 : Dev nD) : Nat :=
  let c0_i32_3327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3317 : BitVec 32 := 8#32
  let v3421 : BitVec 32 := Scalar.addi v2 c8_i32_3317
  let c16_i32_3318 : BitVec 32 := 16#32
  let c0_i32_3319 : BitVec 32 := 0#32
  let v3422 : BitVec 1 := Scalar.cmpi .eq c16_i32_3318 c0_i32_3319
  let c1_i32_3320 : BitVec 32 := 1#32
  let v3423 : BitVec 32 := Scalar.select v3422 c1_i32_3320 c16_i32_3318
  let v3424 : BitVec 32 := Scalar.remsi v3421 v3423
  let c0_i32_3322 : BitVec 32 := 0#32
  let v3426 : BitVec 1 := Scalar.cmpi .slt v3424 c0_i32_3322
  let c0_i32_3323 : BitVec 32 := 0#32
  let v3427 : BitVec 1 := Scalar.cmpi .slt v3423 c0_i32_3323
  let v3428 : BitVec 1 := Scalar.xori v3426 v3427
  let c0_i32_3321 : BitVec 32 := 0#32
  let v3425 : BitVec 1 := Scalar.cmpi .ne v3424 c0_i32_3321
  let v3429 : BitVec 1 := Scalar.andi v3428 v3425
  let v3430 : BitVec 32 := Scalar.addi v3424 v3423
  let v3431 : BitVec 32 := Scalar.select v3429 v3430 v3424
  let c1_i32_3326 : BitVec 32 := 1#32
  let v3432 : BitVec 32 := Scalar.muli v3431 c1_i32_3326
  let v3433 : BitVec 32 := Scalar.addi c0_i32_3327 v3432
  v3433.toNat
def k0_dev127 (d0 : Dev nD) : Nat :=
  let c0_i32_3340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3330 : BitVec 32 := 9#32
  let v3440 : BitVec 32 := Scalar.addi v2 c9_i32_3330
  let c16_i32_3331 : BitVec 32 := 16#32
  let c0_i32_3332 : BitVec 32 := 0#32
  let v3441 : BitVec 1 := Scalar.cmpi .eq c16_i32_3331 c0_i32_3332
  let c1_i32_3333 : BitVec 32 := 1#32
  let v3442 : BitVec 32 := Scalar.select v3441 c1_i32_3333 c16_i32_3331
  let v3443 : BitVec 32 := Scalar.remsi v3440 v3442
  let c0_i32_3335 : BitVec 32 := 0#32
  let v3445 : BitVec 1 := Scalar.cmpi .slt v3443 c0_i32_3335
  let c0_i32_3336 : BitVec 32 := 0#32
  let v3446 : BitVec 1 := Scalar.cmpi .slt v3442 c0_i32_3336
  let v3447 : BitVec 1 := Scalar.xori v3445 v3446
  let c0_i32_3334 : BitVec 32 := 0#32
  let v3444 : BitVec 1 := Scalar.cmpi .ne v3443 c0_i32_3334
  let v3448 : BitVec 1 := Scalar.andi v3447 v3444
  let v3449 : BitVec 32 := Scalar.addi v3443 v3442
  let v3450 : BitVec 32 := Scalar.select v3448 v3449 v3443
  let c1_i32_3339 : BitVec 32 := 1#32
  let v3451 : BitVec 32 := Scalar.muli v3450 c1_i32_3339
  let v3452 : BitVec 32 := Scalar.addi c0_i32_3340 v3451
  v3452.toNat
def k0_dev128 (d0 : Dev nD) : Nat :=
  let c0_i32_3353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3343 : BitVec 32 := 10#32
  let v3459 : BitVec 32 := Scalar.addi v2 c10_i32_3343
  let c16_i32_3344 : BitVec 32 := 16#32
  let c0_i32_3345 : BitVec 32 := 0#32
  let v3460 : BitVec 1 := Scalar.cmpi .eq c16_i32_3344 c0_i32_3345
  let c1_i32_3346 : BitVec 32 := 1#32
  let v3461 : BitVec 32 := Scalar.select v3460 c1_i32_3346 c16_i32_3344
  let v3462 : BitVec 32 := Scalar.remsi v3459 v3461
  let c0_i32_3348 : BitVec 32 := 0#32
  let v3464 : BitVec 1 := Scalar.cmpi .slt v3462 c0_i32_3348
  let c0_i32_3349 : BitVec 32 := 0#32
  let v3465 : BitVec 1 := Scalar.cmpi .slt v3461 c0_i32_3349
  let v3466 : BitVec 1 := Scalar.xori v3464 v3465
  let c0_i32_3347 : BitVec 32 := 0#32
  let v3463 : BitVec 1 := Scalar.cmpi .ne v3462 c0_i32_3347
  let v3467 : BitVec 1 := Scalar.andi v3466 v3463
  let v3468 : BitVec 32 := Scalar.addi v3462 v3461
  let v3469 : BitVec 32 := Scalar.select v3467 v3468 v3462
  let c1_i32_3352 : BitVec 32 := 1#32
  let v3470 : BitVec 32 := Scalar.muli v3469 c1_i32_3352
  let v3471 : BitVec 32 := Scalar.addi c0_i32_3353 v3470
  v3471.toNat
def k0_dev129 (d0 : Dev nD) : Nat :=
  let c0_i32_3366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3356 : BitVec 32 := 11#32
  let v3478 : BitVec 32 := Scalar.addi v2 c11_i32_3356
  let c16_i32_3357 : BitVec 32 := 16#32
  let c0_i32_3358 : BitVec 32 := 0#32
  let v3479 : BitVec 1 := Scalar.cmpi .eq c16_i32_3357 c0_i32_3358
  let c1_i32_3359 : BitVec 32 := 1#32
  let v3480 : BitVec 32 := Scalar.select v3479 c1_i32_3359 c16_i32_3357
  let v3481 : BitVec 32 := Scalar.remsi v3478 v3480
  let c0_i32_3361 : BitVec 32 := 0#32
  let v3483 : BitVec 1 := Scalar.cmpi .slt v3481 c0_i32_3361
  let c0_i32_3362 : BitVec 32 := 0#32
  let v3484 : BitVec 1 := Scalar.cmpi .slt v3480 c0_i32_3362
  let v3485 : BitVec 1 := Scalar.xori v3483 v3484
  let c0_i32_3360 : BitVec 32 := 0#32
  let v3482 : BitVec 1 := Scalar.cmpi .ne v3481 c0_i32_3360
  let v3486 : BitVec 1 := Scalar.andi v3485 v3482
  let v3487 : BitVec 32 := Scalar.addi v3481 v3480
  let v3488 : BitVec 32 := Scalar.select v3486 v3487 v3481
  let c1_i32_3365 : BitVec 32 := 1#32
  let v3489 : BitVec 32 := Scalar.muli v3488 c1_i32_3365
  let v3490 : BitVec 32 := Scalar.addi c0_i32_3366 v3489
  v3490.toNat
def k0_dev130 (d0 : Dev nD) : Nat :=
  let c0_i32_3379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3369 : BitVec 32 := 12#32
  let v3497 : BitVec 32 := Scalar.addi v2 c12_i32_3369
  let c16_i32_3370 : BitVec 32 := 16#32
  let c0_i32_3371 : BitVec 32 := 0#32
  let v3498 : BitVec 1 := Scalar.cmpi .eq c16_i32_3370 c0_i32_3371
  let c1_i32_3372 : BitVec 32 := 1#32
  let v3499 : BitVec 32 := Scalar.select v3498 c1_i32_3372 c16_i32_3370
  let v3500 : BitVec 32 := Scalar.remsi v3497 v3499
  let c0_i32_3374 : BitVec 32 := 0#32
  let v3502 : BitVec 1 := Scalar.cmpi .slt v3500 c0_i32_3374
  let c0_i32_3375 : BitVec 32 := 0#32
  let v3503 : BitVec 1 := Scalar.cmpi .slt v3499 c0_i32_3375
  let v3504 : BitVec 1 := Scalar.xori v3502 v3503
  let c0_i32_3373 : BitVec 32 := 0#32
  let v3501 : BitVec 1 := Scalar.cmpi .ne v3500 c0_i32_3373
  let v3505 : BitVec 1 := Scalar.andi v3504 v3501
  let v3506 : BitVec 32 := Scalar.addi v3500 v3499
  let v3507 : BitVec 32 := Scalar.select v3505 v3506 v3500
  let c1_i32_3378 : BitVec 32 := 1#32
  let v3508 : BitVec 32 := Scalar.muli v3507 c1_i32_3378
  let v3509 : BitVec 32 := Scalar.addi c0_i32_3379 v3508
  v3509.toNat
def k0_dev131 (d0 : Dev nD) : Nat :=
  let c0_i32_3392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3382 : BitVec 32 := 13#32
  let v3516 : BitVec 32 := Scalar.addi v2 c13_i32_3382
  let c16_i32_3383 : BitVec 32 := 16#32
  let c0_i32_3384 : BitVec 32 := 0#32
  let v3517 : BitVec 1 := Scalar.cmpi .eq c16_i32_3383 c0_i32_3384
  let c1_i32_3385 : BitVec 32 := 1#32
  let v3518 : BitVec 32 := Scalar.select v3517 c1_i32_3385 c16_i32_3383
  let v3519 : BitVec 32 := Scalar.remsi v3516 v3518
  let c0_i32_3387 : BitVec 32 := 0#32
  let v3521 : BitVec 1 := Scalar.cmpi .slt v3519 c0_i32_3387
  let c0_i32_3388 : BitVec 32 := 0#32
  let v3522 : BitVec 1 := Scalar.cmpi .slt v3518 c0_i32_3388
  let v3523 : BitVec 1 := Scalar.xori v3521 v3522
  let c0_i32_3386 : BitVec 32 := 0#32
  let v3520 : BitVec 1 := Scalar.cmpi .ne v3519 c0_i32_3386
  let v3524 : BitVec 1 := Scalar.andi v3523 v3520
  let v3525 : BitVec 32 := Scalar.addi v3519 v3518
  let v3526 : BitVec 32 := Scalar.select v3524 v3525 v3519
  let c1_i32_3391 : BitVec 32 := 1#32
  let v3527 : BitVec 32 := Scalar.muli v3526 c1_i32_3391
  let v3528 : BitVec 32 := Scalar.addi c0_i32_3392 v3527
  v3528.toNat
def k0_dev132 (d0 : Dev nD) : Nat :=
  let c0_i32_3405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3395 : BitVec 32 := 14#32
  let v3535 : BitVec 32 := Scalar.addi v2 c14_i32_3395
  let c16_i32_3396 : BitVec 32 := 16#32
  let c0_i32_3397 : BitVec 32 := 0#32
  let v3536 : BitVec 1 := Scalar.cmpi .eq c16_i32_3396 c0_i32_3397
  let c1_i32_3398 : BitVec 32 := 1#32
  let v3537 : BitVec 32 := Scalar.select v3536 c1_i32_3398 c16_i32_3396
  let v3538 : BitVec 32 := Scalar.remsi v3535 v3537
  let c0_i32_3400 : BitVec 32 := 0#32
  let v3540 : BitVec 1 := Scalar.cmpi .slt v3538 c0_i32_3400
  let c0_i32_3401 : BitVec 32 := 0#32
  let v3541 : BitVec 1 := Scalar.cmpi .slt v3537 c0_i32_3401
  let v3542 : BitVec 1 := Scalar.xori v3540 v3541
  let c0_i32_3399 : BitVec 32 := 0#32
  let v3539 : BitVec 1 := Scalar.cmpi .ne v3538 c0_i32_3399
  let v3543 : BitVec 1 := Scalar.andi v3542 v3539
  let v3544 : BitVec 32 := Scalar.addi v3538 v3537
  let v3545 : BitVec 32 := Scalar.select v3543 v3544 v3538
  let c1_i32_3404 : BitVec 32 := 1#32
  let v3546 : BitVec 32 := Scalar.muli v3545 c1_i32_3404
  let v3547 : BitVec 32 := Scalar.addi c0_i32_3405 v3546
  v3547.toNat
def k0_dev133 (d0 : Dev nD) : Nat :=
  let c0_i32_3417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3554 : BitVec 32 := Scalar.addi v2 c15_i32
  let c16_i32_3408 : BitVec 32 := 16#32
  let c0_i32_3409 : BitVec 32 := 0#32
  let v3555 : BitVec 1 := Scalar.cmpi .eq c16_i32_3408 c0_i32_3409
  let c1_i32_3410 : BitVec 32 := 1#32
  let v3556 : BitVec 32 := Scalar.select v3555 c1_i32_3410 c16_i32_3408
  let v3557 : BitVec 32 := Scalar.remsi v3554 v3556
  let c0_i32_3412 : BitVec 32 := 0#32
  let v3559 : BitVec 1 := Scalar.cmpi .slt v3557 c0_i32_3412
  let c0_i32_3413 : BitVec 32 := 0#32
  let v3560 : BitVec 1 := Scalar.cmpi .slt v3556 c0_i32_3413
  let v3561 : BitVec 1 := Scalar.xori v3559 v3560
  let c0_i32_3411 : BitVec 32 := 0#32
  let v3558 : BitVec 1 := Scalar.cmpi .ne v3557 c0_i32_3411
  let v3562 : BitVec 1 := Scalar.andi v3561 v3558
  let v3563 : BitVec 32 := Scalar.addi v3557 v3556
  let v3564 : BitVec 32 := Scalar.select v3562 v3563 v3557
  let c1_i32_3416 : BitVec 32 := 1#32
  let v3565 : BitVec 32 := Scalar.muli v3564 c1_i32_3416
  let v3566 : BitVec 32 := Scalar.addi c0_i32_3417 v3565
  v3566.toNat
def k0_off6 (d0 : Dev nD) (c1_i32_3420 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3573 : BitVec 32 := Scalar.subi v2 c1_i32_3420
  let c16_i32_3421 : BitVec 32 := 16#32
  let c0_i32_3422 : BitVec 32 := 0#32
  let v3574 : BitVec 1 := Scalar.cmpi .eq c16_i32_3421 c0_i32_3422
  let c1_i32_3423 : BitVec 32 := 1#32
  let v3575 : BitVec 32 := Scalar.select v3574 c1_i32_3423 c16_i32_3421
  let v3576 : BitVec 32 := Scalar.remsi v3573 v3575
  let c0_i32_3425 : BitVec 32 := 0#32
  let v3578 : BitVec 1 := Scalar.cmpi .slt v3576 c0_i32_3425
  let c0_i32_3426 : BitVec 32 := 0#32
  let v3579 : BitVec 1 := Scalar.cmpi .slt v3575 c0_i32_3426
  let v3580 : BitVec 1 := Scalar.xori v3578 v3579
  let c0_i32_3424 : BitVec 32 := 0#32
  let v3577 : BitVec 1 := Scalar.cmpi .ne v3576 c0_i32_3424
  let v3581 : BitVec 1 := Scalar.andi v3580 v3577
  let v3582 : BitVec 32 := Scalar.addi v3576 v3575
  let v3583 : BitVec 32 := Scalar.select v3581 v3582 v3576
  let c0_i32_3431 : BitVec 32 := 0#32
  ![v3583.toNat, 0]
def k0_dev134 (d0 : Dev nD) : Nat :=
  let c0_i32_3706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3705 : BitVec 32 := 1#32
  let v3903 : BitVec 32 := Scalar.muli v24 c1_i32_3705
  let v3904 : BitVec 32 := Scalar.addi c0_i32_3706 v3903
  v3904.toNat
def k0_dev135 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3721 : BitVec 32 := 1#32
  let v3921 : BitVec 32 := Scalar.muli v13 c1_i32_3721
  let v3922 : BitVec 32 := Scalar.addi c0_i32_3722 v3921
  v3922.toNat
def k0_dev136 (d0 : Dev nD) : Nat :=
  let c0_i32_3738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3737 : BitVec 32 := 1#32
  let v3939 : BitVec 32 := Scalar.muli v24 c1_i32_3737
  let v3940 : BitVec 32 := Scalar.addi c0_i32_3738 v3939
  v3940.toNat
def k0_dev137 (d0 : Dev nD) : Nat :=
  let c0_i32_3754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3753 : BitVec 32 := 1#32
  let v3957 : BitVec 32 := Scalar.muli v13 c1_i32_3753
  let v3958 : BitVec 32 := Scalar.addi c0_i32_3754 v3957
  v3958.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v30 : BitVec 32 := Scalar.addi v2 c1_i32_19
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32_3765 : BitVec 32 := 256#32
  let v3976 : BitVec 32 := Scalar.muli v40 c256_i32_3765
  let c0_i32_3768 : BitVec 32 := 0#32
  ![v3976.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v41 : BitVec 32 := Scalar.subi v2 c1_i32_26
  let c16_i32_27 : BitVec 32 := 16#32
  let c0_i32_28 : BitVec 32 := 0#32
  let v42 : BitVec 1 := Scalar.cmpi .eq c16_i32_27 c0_i32_28
  let c1_i32_29 : BitVec 32 := 1#32
  let v43 : BitVec 32 := Scalar.select v42 c1_i32_29 c16_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c256_i32_3777 : BitVec 32 := 256#32
  let v3991 : BitVec 32 := Scalar.muli v51 c256_i32_3777
  let c4096_i32 : BitVec 32 := 4096#32
  ![v3991.toNat, 4096]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v52 : BitVec 32 := Scalar.addi v2 c1_i32_33
  let c16_i32_34 : BitVec 32 := 16#32
  let c0_i32_35 : BitVec 32 := 0#32
  let v53 : BitVec 1 := Scalar.cmpi .eq c16_i32_34 c0_i32_35
  let c1_i32_36 : BitVec 32 := 1#32
  let v54 : BitVec 32 := Scalar.select v53 c1_i32_36 c16_i32_34
  let v55 : BitVec 32 := Scalar.remsi v52 v54
  let c0_i32_38 : BitVec 32 := 0#32
  let v57 : BitVec 1 := Scalar.cmpi .slt v55 c0_i32_38
  let c0_i32_39 : BitVec 32 := 0#32
  let v58 : BitVec 1 := Scalar.cmpi .slt v54 c0_i32_39
  let v59 : BitVec 1 := Scalar.xori v57 v58
  let c0_i32_37 : BitVec 32 := 0#32
  let v56 : BitVec 1 := Scalar.cmpi .ne v55 c0_i32_37
  let v60 : BitVec 1 := Scalar.andi v59 v56
  let v61 : BitVec 32 := Scalar.addi v55 v54
  let v62 : BitVec 32 := Scalar.select v60 v61 v55
  let c256_i32_3788 : BitVec 32 := 256#32
  let v4006 : BitVec 32 := Scalar.muli v62 c256_i32_3788
  let c2048_i32 : BitVec 32 := 2048#32
  ![v4006.toNat, 2048]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_40 : BitVec 32 := 1#32
  let v63 : BitVec 32 := Scalar.subi v2 c1_i32_40
  let c16_i32_41 : BitVec 32 := 16#32
  let c0_i32_42 : BitVec 32 := 0#32
  let v64 : BitVec 1 := Scalar.cmpi .eq c16_i32_41 c0_i32_42
  let c1_i32_43 : BitVec 32 := 1#32
  let v65 : BitVec 32 := Scalar.select v64 c1_i32_43 c16_i32_41
  let v66 : BitVec 32 := Scalar.remsi v63 v65
  let c0_i32_45 : BitVec 32 := 0#32
  let v68 : BitVec 1 := Scalar.cmpi .slt v66 c0_i32_45
  let c0_i32_46 : BitVec 32 := 0#32
  let v69 : BitVec 1 := Scalar.cmpi .slt v65 c0_i32_46
  let v70 : BitVec 1 := Scalar.xori v68 v69
  let c0_i32_44 : BitVec 32 := 0#32
  let v67 : BitVec 1 := Scalar.cmpi .ne v66 c0_i32_44
  let v71 : BitVec 1 := Scalar.andi v70 v67
  let v72 : BitVec 32 := Scalar.addi v66 v65
  let v73 : BitVec 32 := Scalar.select v71 v72 v66
  let c256_i32_3799 : BitVec 32 := 256#32
  let v4021 : BitVec 32 := Scalar.muli v73 c256_i32_3799
  let c6144_i32 : BitVec 32 := 6144#32
  ![v4021.toNat, 6144]
def k0_dev138 (d0 : Dev nD) : Nat :=
  let c0_i32_3816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3815 : BitVec 32 := 1#32
  let v4035 : BitVec 32 := Scalar.muli v13 c1_i32_3815
  let v4036 : BitVec 32 := Scalar.addi c0_i32_3816 v4035
  v4036.toNat
def k0_dev139 (d0 : Dev nD) : Nat :=
  let c0_i32_3824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3823 : BitVec 32 := 1#32
  let v4037 : BitVec 32 := Scalar.muli v24 c1_i32_3823
  let v4038 : BitVec 32 := Scalar.addi c0_i32_3824 v4037
  v4038.toNat
def k0_off11 (d0 : Dev nD) (c0_i32_3838 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4053 : BitVec 32 := Scalar.subi v2 c0_i32_3838
  let c16_i32_3839 : BitVec 32 := 16#32
  let c0_i32_3840 : BitVec 32 := 0#32
  let v4054 : BitVec 1 := Scalar.cmpi .eq c16_i32_3839 c0_i32_3840
  let c1_i32_3841 : BitVec 32 := 1#32
  let v4055 : BitVec 32 := Scalar.select v4054 c1_i32_3841 c16_i32_3839
  let v4056 : BitVec 32 := Scalar.remsi v4053 v4055
  let c0_i32_3843 : BitVec 32 := 0#32
  let v4058 : BitVec 1 := Scalar.cmpi .slt v4056 c0_i32_3843
  let c0_i32_3844 : BitVec 32 := 0#32
  let v4059 : BitVec 1 := Scalar.cmpi .slt v4055 c0_i32_3844
  let v4060 : BitVec 1 := Scalar.xori v4058 v4059
  let c0_i32_3842 : BitVec 32 := 0#32
  let v4057 : BitVec 1 := Scalar.cmpi .ne v4056 c0_i32_3842
  let v4061 : BitVec 1 := Scalar.andi v4060 v4057
  let v4062 : BitVec 32 := Scalar.addi v4056 v4055
  let v4063 : BitVec 32 := Scalar.select v4061 v4062 v4056
  let c256_i32_3851 : BitVec 32 := 256#32
  let v4073 : BitVec 32 := Scalar.muli v4063 c256_i32_3851
  let c0_i32_3854 : BitVec 32 := 0#32
  ![v4073.toNat, 0]
def k0_dev140 (d0 : Dev nD) : Nat :=
  let c0_i32_3869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3868 : BitVec 32 := 1#32
  let v4087 : BitVec 32 := Scalar.muli v24 c1_i32_3868
  let v4088 : BitVec 32 := Scalar.addi c0_i32_3869 v4087
  v4088.toNat
def k0_dev141 (d0 : Dev nD) : Nat :=
  let c0_i32_3877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3876 : BitVec 32 := 1#32
  let v4089 : BitVec 32 := Scalar.muli v13 c1_i32_3876
  let v4090 : BitVec 32 := Scalar.addi c0_i32_3877 v4089
  v4090.toNat
def k0_off12 (d0 : Dev nD) (c0_i32_3891 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4105 : BitVec 32 := Scalar.addi v2 c0_i32_3891
  let c16_i32_3892 : BitVec 32 := 16#32
  let c0_i32_3893 : BitVec 32 := 0#32
  let v4106 : BitVec 1 := Scalar.cmpi .eq c16_i32_3892 c0_i32_3893
  let c1_i32_3894 : BitVec 32 := 1#32
  let v4107 : BitVec 32 := Scalar.select v4106 c1_i32_3894 c16_i32_3892
  let v4108 : BitVec 32 := Scalar.remsi v4105 v4107
  let c0_i32_3896 : BitVec 32 := 0#32
  let v4110 : BitVec 1 := Scalar.cmpi .slt v4108 c0_i32_3896
  let c0_i32_3897 : BitVec 32 := 0#32
  let v4111 : BitVec 1 := Scalar.cmpi .slt v4107 c0_i32_3897
  let v4112 : BitVec 1 := Scalar.xori v4110 v4111
  let c0_i32_3895 : BitVec 32 := 0#32
  let v4109 : BitVec 1 := Scalar.cmpi .ne v4108 c0_i32_3895
  let v4113 : BitVec 1 := Scalar.andi v4112 v4109
  let v4114 : BitVec 32 := Scalar.addi v4108 v4107
  let v4115 : BitVec 32 := Scalar.select v4113 v4114 v4108
  let c256_i32_3904 : BitVec 32 := 256#32
  let v4125 : BitVec 32 := Scalar.muli v4115 c256_i32_3904
  let c4096_i32_3907 : BitVec 32 := 4096#32
  ![v4125.toNat, 4096]
def k0_dev142 (d0 : Dev nD) : Nat :=
  let c0_i32_3922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3921 : BitVec 32 := 1#32
  let v4139 : BitVec 32 := Scalar.muli v13 c1_i32_3921
  let v4140 : BitVec 32 := Scalar.addi c0_i32_3922 v4139
  v4140.toNat
def k0_dev143 (d0 : Dev nD) : Nat :=
  let c0_i32_3930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3929 : BitVec 32 := 1#32
  let v4141 : BitVec 32 := Scalar.muli v24 c1_i32_3929
  let v4142 : BitVec 32 := Scalar.addi c0_i32_3930 v4141
  v4142.toNat
def k0_off13 (d0 : Dev nD) (c0_i32_3944 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4157 : BitVec 32 := Scalar.subi v2 c0_i32_3944
  let c16_i32_3945 : BitVec 32 := 16#32
  let c0_i32_3946 : BitVec 32 := 0#32
  let v4158 : BitVec 1 := Scalar.cmpi .eq c16_i32_3945 c0_i32_3946
  let c1_i32_3947 : BitVec 32 := 1#32
  let v4159 : BitVec 32 := Scalar.select v4158 c1_i32_3947 c16_i32_3945
  let v4160 : BitVec 32 := Scalar.remsi v4157 v4159
  let c0_i32_3949 : BitVec 32 := 0#32
  let v4162 : BitVec 1 := Scalar.cmpi .slt v4160 c0_i32_3949
  let c0_i32_3950 : BitVec 32 := 0#32
  let v4163 : BitVec 1 := Scalar.cmpi .slt v4159 c0_i32_3950
  let v4164 : BitVec 1 := Scalar.xori v4162 v4163
  let c0_i32_3948 : BitVec 32 := 0#32
  let v4161 : BitVec 1 := Scalar.cmpi .ne v4160 c0_i32_3948
  let v4165 : BitVec 1 := Scalar.andi v4164 v4161
  let v4166 : BitVec 32 := Scalar.addi v4160 v4159
  let v4167 : BitVec 32 := Scalar.select v4165 v4166 v4160
  let c256_i32_3957 : BitVec 32 := 256#32
  let v4177 : BitVec 32 := Scalar.muli v4167 c256_i32_3957
  let c2048_i32_3960 : BitVec 32 := 2048#32
  ![v4177.toNat, 2048]
def k0_dev144 (d0 : Dev nD) : Nat :=
  let c0_i32_3975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3974 : BitVec 32 := 1#32
  let v4191 : BitVec 32 := Scalar.muli v24 c1_i32_3974
  let v4192 : BitVec 32 := Scalar.addi c0_i32_3975 v4191
  v4192.toNat
def k0_dev145 (d0 : Dev nD) : Nat :=
  let c0_i32_3983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3982 : BitVec 32 := 1#32
  let v4193 : BitVec 32 := Scalar.muli v13 c1_i32_3982
  let v4194 : BitVec 32 := Scalar.addi c0_i32_3983 v4193
  v4194.toNat
def k0_off14 (d0 : Dev nD) (c0_i32_3997 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4209 : BitVec 32 := Scalar.addi v2 c0_i32_3997
  let c16_i32_3998 : BitVec 32 := 16#32
  let c0_i32_3999 : BitVec 32 := 0#32
  let v4210 : BitVec 1 := Scalar.cmpi .eq c16_i32_3998 c0_i32_3999
  let c1_i32_4000 : BitVec 32 := 1#32
  let v4211 : BitVec 32 := Scalar.select v4210 c1_i32_4000 c16_i32_3998
  let v4212 : BitVec 32 := Scalar.remsi v4209 v4211
  let c0_i32_4002 : BitVec 32 := 0#32
  let v4214 : BitVec 1 := Scalar.cmpi .slt v4212 c0_i32_4002
  let c0_i32_4003 : BitVec 32 := 0#32
  let v4215 : BitVec 1 := Scalar.cmpi .slt v4211 c0_i32_4003
  let v4216 : BitVec 1 := Scalar.xori v4214 v4215
  let c0_i32_4001 : BitVec 32 := 0#32
  let v4213 : BitVec 1 := Scalar.cmpi .ne v4212 c0_i32_4001
  let v4217 : BitVec 1 := Scalar.andi v4216 v4213
  let v4218 : BitVec 32 := Scalar.addi v4212 v4211
  let v4219 : BitVec 32 := Scalar.select v4217 v4218 v4212
  let c256_i32_4010 : BitVec 32 := 256#32
  let v4229 : BitVec 32 := Scalar.muli v4219 c256_i32_4010
  let c6144_i32_4013 : BitVec 32 := 6144#32
  ![v4229.toNat, 6144]
def k0_dev146 (d0 : Dev nD) : Nat :=
  let c0_i32_4028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4027 : BitVec 32 := 1#32
  let v4243 : BitVec 32 := Scalar.muli v13 c1_i32_4027
  let v4244 : BitVec 32 := Scalar.addi c0_i32_4028 v4243
  v4244.toNat
def k0_dev147 (d0 : Dev nD) : Nat :=
  let c0_i32_4036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4035 : BitVec 32 := 1#32
  let v4245 : BitVec 32 := Scalar.muli v24 c1_i32_4035
  let v4246 : BitVec 32 := Scalar.addi c0_i32_4036 v4245
  v4246.toNat
def k0_dev148 (d0 : Dev nD) : Nat :=
  let c0_i32_4085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4084 : BitVec 32 := 1#32
  let v4300 : BitVec 32 := Scalar.muli v24 c1_i32_4084
  let v4301 : BitVec 32 := Scalar.addi c0_i32_4085 v4300
  v4301.toNat
def k0_dev149 (d0 : Dev nD) : Nat :=
  let c0_i32_4093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4092 : BitVec 32 := 1#32
  let v4302 : BitVec 32 := Scalar.muli v13 c1_i32_4092
  let v4303 : BitVec 32 := Scalar.addi c0_i32_4093 v4302
  v4303.toNat
def k0_dev150 (d0 : Dev nD) : Nat :=
  let c0_i32_4143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4142 : BitVec 32 := 1#32
  let v4357 : BitVec 32 := Scalar.muli v13 c1_i32_4142
  let v4358 : BitVec 32 := Scalar.addi c0_i32_4143 v4357
  v4358.toNat
def k0_dev151 (d0 : Dev nD) : Nat :=
  let c0_i32_4151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4150 : BitVec 32 := 1#32
  let v4359 : BitVec 32 := Scalar.muli v24 c1_i32_4150
  let v4360 : BitVec 32 := Scalar.addi c0_i32_4151 v4359
  v4360.toNat
def k0_dev152 (d0 : Dev nD) : Nat :=
  let c0_i32_4201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4200 : BitVec 32 := 1#32
  let v4414 : BitVec 32 := Scalar.muli v24 c1_i32_4200
  let v4415 : BitVec 32 := Scalar.addi c0_i32_4201 v4414
  v4415.toNat
def k0_dev153 (d0 : Dev nD) : Nat :=
  let c0_i32_4209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4208 : BitVec 32 := 1#32
  let v4416 : BitVec 32 := Scalar.muli v13 c1_i32_4208
  let v4417 : BitVec 32 := Scalar.addi c0_i32_4209 v4416
  v4417.toNat
def k0_dev154 (d0 : Dev nD) : Nat :=
  let c0_i32_4259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4258 : BitVec 32 := 1#32
  let v4471 : BitVec 32 := Scalar.muli v13 c1_i32_4258
  let v4472 : BitVec 32 := Scalar.addi c0_i32_4259 v4471
  v4472.toNat
def k0_dev155 (d0 : Dev nD) : Nat :=
  let c0_i32_4267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4266 : BitVec 32 := 1#32
  let v4473 : BitVec 32 := Scalar.muli v24 c1_i32_4266
  let v4474 : BitVec 32 := Scalar.addi c0_i32_4267 v4473
  v4474.toNat
def k0_dev156 (d0 : Dev nD) : Nat :=
  let c0_i32_4317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4316 : BitVec 32 := 1#32
  let v4528 : BitVec 32 := Scalar.muli v24 c1_i32_4316
  let v4529 : BitVec 32 := Scalar.addi c0_i32_4317 v4528
  v4529.toNat
def k0_dev157 (d0 : Dev nD) : Nat :=
  let c0_i32_4325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4324 : BitVec 32 := 1#32
  let v4530 : BitVec 32 := Scalar.muli v13 c1_i32_4324
  let v4531 : BitVec 32 := Scalar.addi c0_i32_4325 v4530
  v4531.toNat
def k0_dev158 (d0 : Dev nD) : Nat :=
  let c0_i32_4375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4374 : BitVec 32 := 1#32
  let v4585 : BitVec 32 := Scalar.muli v13 c1_i32_4374
  let v4586 : BitVec 32 := Scalar.addi c0_i32_4375 v4585
  v4586.toNat
def k0_dev159 (d0 : Dev nD) : Nat :=
  let c0_i32_4383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4382 : BitVec 32 := 1#32
  let v4587 : BitVec 32 := Scalar.muli v24 c1_i32_4382
  let v4588 : BitVec 32 := Scalar.addi c0_i32_4383 v4587
  v4588.toNat
def k0_dev160 (d0 : Dev nD) : Nat :=
  let c0_i32_4433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4432 : BitVec 32 := 1#32
  let v4642 : BitVec 32 := Scalar.muli v24 c1_i32_4432
  let v4643 : BitVec 32 := Scalar.addi c0_i32_4433 v4642
  v4643.toNat
def k0_dev161 (d0 : Dev nD) : Nat :=
  let c0_i32_4441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4440 : BitVec 32 := 1#32
  let v4644 : BitVec 32 := Scalar.muli v13 c1_i32_4440
  let v4645 : BitVec 32 := Scalar.addi c0_i32_4441 v4644
  v4645.toNat
def k0_dev162 (d0 : Dev nD) : Nat :=
  let c0_i32_4491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4490 : BitVec 32 := 1#32
  let v4699 : BitVec 32 := Scalar.muli v13 c1_i32_4490
  let v4700 : BitVec 32 := Scalar.addi c0_i32_4491 v4699
  v4700.toNat
def k0_dev163 (d0 : Dev nD) : Nat :=
  let c0_i32_4499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4498 : BitVec 32 := 1#32
  let v4701 : BitVec 32 := Scalar.muli v24 c1_i32_4498
  let v4702 : BitVec 32 := Scalar.addi c0_i32_4499 v4701
  v4702.toNat
def k0_dev164 (d0 : Dev nD) : Nat :=
  let c0_i32_4549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4548 : BitVec 32 := 1#32
  let v4756 : BitVec 32 := Scalar.muli v24 c1_i32_4548
  let v4757 : BitVec 32 := Scalar.addi c0_i32_4549 v4756
  v4757.toNat
def k0_dev165 (d0 : Dev nD) : Nat :=
  let c0_i32_4557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4556 : BitVec 32 := 1#32
  let v4758 : BitVec 32 := Scalar.muli v13 c1_i32_4556
  let v4759 : BitVec 32 := Scalar.addi c0_i32_4557 v4758
  v4759.toNat
def k0_dev166 (d0 : Dev nD) : Nat :=
  let c0_i32_4607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4606 : BitVec 32 := 1#32
  let v4813 : BitVec 32 := Scalar.muli v13 c1_i32_4606
  let v4814 : BitVec 32 := Scalar.addi c0_i32_4607 v4813
  v4814.toNat
def k0_dev167 (d0 : Dev nD) : Nat :=
  let c0_i32_4615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4614 : BitVec 32 := 1#32
  let v4815 : BitVec 32 := Scalar.muli v24 c1_i32_4614
  let v4816 : BitVec 32 := Scalar.addi c0_i32_4615 v4815
  v4816.toNat
def k0_dev168 (d0 : Dev nD) : Nat :=
  let c0_i32_4665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4664 : BitVec 32 := 1#32
  let v4870 : BitVec 32 := Scalar.muli v24 c1_i32_4664
  let v4871 : BitVec 32 := Scalar.addi c0_i32_4665 v4870
  v4871.toNat
def k0_dev169 (d0 : Dev nD) : Nat :=
  let c0_i32_4673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4672 : BitVec 32 := 1#32
  let v4872 : BitVec 32 := Scalar.muli v13 c1_i32_4672
  let v4873 : BitVec 32 := Scalar.addi c0_i32_4673 v4872
  v4873.toNat
def k0_dev170 (d0 : Dev nD) : Nat :=
  let c0_i32_4723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4722 : BitVec 32 := 1#32
  let v4927 : BitVec 32 := Scalar.muli v13 c1_i32_4722
  let v4928 : BitVec 32 := Scalar.addi c0_i32_4723 v4927
  v4928.toNat
def k0_dev171 (d0 : Dev nD) : Nat :=
  let c0_i32_4731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4730 : BitVec 32 := 1#32
  let v4929 : BitVec 32 := Scalar.muli v24 c1_i32_4730
  let v4930 : BitVec 32 := Scalar.addi c0_i32_4731 v4929
  v4930.toNat
def k0_dev172 (d0 : Dev nD) : Nat :=
  let c0_i32_4781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4780 : BitVec 32 := 1#32
  let v4984 : BitVec 32 := Scalar.muli v24 c1_i32_4780
  let v4985 : BitVec 32 := Scalar.addi c0_i32_4781 v4984
  v4985.toNat
def k0_dev173 (d0 : Dev nD) : Nat :=
  let c0_i32_4789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4788 : BitVec 32 := 1#32
  let v4986 : BitVec 32 := Scalar.muli v13 c1_i32_4788
  let v4987 : BitVec 32 := Scalar.addi c0_i32_4789 v4986
  v4987.toNat
def k0_dev174 (d0 : Dev nD) : Nat :=
  let c0_i32_4839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4838 : BitVec 32 := 1#32
  let v5041 : BitVec 32 := Scalar.muli v13 c1_i32_4838
  let v5042 : BitVec 32 := Scalar.addi c0_i32_4839 v5041
  v5042.toNat
def k0_dev175 (d0 : Dev nD) : Nat :=
  let c0_i32_4847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4846 : BitVec 32 := 1#32
  let v5043 : BitVec 32 := Scalar.muli v24 c1_i32_4846
  let v5044 : BitVec 32 := Scalar.addi c0_i32_4847 v5043
  v5044.toNat
def k0_dev176 (d0 : Dev nD) : Nat :=
  let c0_i32_4897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4896 : BitVec 32 := 1#32
  let v5098 : BitVec 32 := Scalar.muli v24 c1_i32_4896
  let v5099 : BitVec 32 := Scalar.addi c0_i32_4897 v5098
  v5099.toNat
def k0_dev177 (d0 : Dev nD) : Nat :=
  let c0_i32_4905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4904 : BitVec 32 := 1#32
  let v5100 : BitVec 32 := Scalar.muli v13 c1_i32_4904
  let v5101 : BitVec 32 := Scalar.addi c0_i32_4905 v5100
  v5101.toNat
def k0_dev178 (d0 : Dev nD) : Nat :=
  let c0_i32_4955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4954 : BitVec 32 := 1#32
  let v5155 : BitVec 32 := Scalar.muli v13 c1_i32_4954
  let v5156 : BitVec 32 := Scalar.addi c0_i32_4955 v5155
  v5156.toNat
def k0_dev179 (d0 : Dev nD) : Nat :=
  let c0_i32_4963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4962 : BitVec 32 := 1#32
  let v5157 : BitVec 32 := Scalar.muli v24 c1_i32_4962
  let v5158 : BitVec 32 := Scalar.addi c0_i32_4963 v5157
  v5158.toNat
def k0_dev180 (d0 : Dev nD) : Nat :=
  let c0_i32_5013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5012 : BitVec 32 := 1#32
  let v5212 : BitVec 32 := Scalar.muli v24 c1_i32_5012
  let v5213 : BitVec 32 := Scalar.addi c0_i32_5013 v5212
  v5213.toNat
def k0_dev181 (d0 : Dev nD) : Nat :=
  let c0_i32_5021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5020 : BitVec 32 := 1#32
  let v5214 : BitVec 32 := Scalar.muli v13 c1_i32_5020
  let v5215 : BitVec 32 := Scalar.addi c0_i32_5021 v5214
  v5215.toNat
def k0_dev182 (d0 : Dev nD) : Nat :=
  let c0_i32_5071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5070 : BitVec 32 := 1#32
  let v5269 : BitVec 32 := Scalar.muli v13 c1_i32_5070
  let v5270 : BitVec 32 := Scalar.addi c0_i32_5071 v5269
  v5270.toNat
def k0_dev183 (d0 : Dev nD) : Nat :=
  let c0_i32_5079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5078 : BitVec 32 := 1#32
  let v5271 : BitVec 32 := Scalar.muli v24 c1_i32_5078
  let v5272 : BitVec 32 := Scalar.addi c0_i32_5079 v5271
  v5272.toNat
def k0_dev184 (d0 : Dev nD) : Nat :=
  let c0_i32_5129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5128 : BitVec 32 := 1#32
  let v5326 : BitVec 32 := Scalar.muli v24 c1_i32_5128
  let v5327 : BitVec 32 := Scalar.addi c0_i32_5129 v5326
  v5327.toNat
def k0_dev185 (d0 : Dev nD) : Nat :=
  let c0_i32_5137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5136 : BitVec 32 := 1#32
  let v5328 : BitVec 32 := Scalar.muli v13 c1_i32_5136
  let v5329 : BitVec 32 := Scalar.addi c0_i32_5137 v5328
  v5329.toNat
def k0_dev186 (d0 : Dev nD) : Nat :=
  let c0_i32_5187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5186 : BitVec 32 := 1#32
  let v5383 : BitVec 32 := Scalar.muli v13 c1_i32_5186
  let v5384 : BitVec 32 := Scalar.addi c0_i32_5187 v5383
  v5384.toNat
def k0_dev187 (d0 : Dev nD) : Nat :=
  let c0_i32_5195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5194 : BitVec 32 := 1#32
  let v5385 : BitVec 32 := Scalar.muli v24 c1_i32_5194
  let v5386 : BitVec 32 := Scalar.addi c0_i32_5195 v5385
  v5386.toNat
def k0_dev188 (d0 : Dev nD) : Nat :=
  let c0_i32_5245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5244 : BitVec 32 := 1#32
  let v5440 : BitVec 32 := Scalar.muli v24 c1_i32_5244
  let v5441 : BitVec 32 := Scalar.addi c0_i32_5245 v5440
  v5441.toNat
def k0_dev189 (d0 : Dev nD) : Nat :=
  let c0_i32_5253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5252 : BitVec 32 := 1#32
  let v5442 : BitVec 32 := Scalar.muli v13 c1_i32_5252
  let v5443 : BitVec 32 := Scalar.addi c0_i32_5253 v5442
  v5443.toNat
def k0_dev190 (d0 : Dev nD) : Nat :=
  let c0_i32_5303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5302 : BitVec 32 := 1#32
  let v5497 : BitVec 32 := Scalar.muli v13 c1_i32_5302
  let v5498 : BitVec 32 := Scalar.addi c0_i32_5303 v5497
  v5498.toNat
def k0_dev191 (d0 : Dev nD) : Nat :=
  let c0_i32_5311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5310 : BitVec 32 := 1#32
  let v5499 : BitVec 32 := Scalar.muli v24 c1_i32_5310
  let v5500 : BitVec 32 := Scalar.addi c0_i32_5311 v5499
  v5500.toNat
def k0_dev192 (d0 : Dev nD) : Nat :=
  let c0_i32_5361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5360 : BitVec 32 := 1#32
  let v5554 : BitVec 32 := Scalar.muli v24 c1_i32_5360
  let v5555 : BitVec 32 := Scalar.addi c0_i32_5361 v5554
  v5555.toNat
def k0_dev193 (d0 : Dev nD) : Nat :=
  let c0_i32_5369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5368 : BitVec 32 := 1#32
  let v5556 : BitVec 32 := Scalar.muli v13 c1_i32_5368
  let v5557 : BitVec 32 := Scalar.addi c0_i32_5369 v5556
  v5557.toNat
def k0_dev194 (d0 : Dev nD) : Nat :=
  let c0_i32_5419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5418 : BitVec 32 := 1#32
  let v5611 : BitVec 32 := Scalar.muli v13 c1_i32_5418
  let v5612 : BitVec 32 := Scalar.addi c0_i32_5419 v5611
  v5612.toNat
def k0_dev195 (d0 : Dev nD) : Nat :=
  let c0_i32_5427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5426 : BitVec 32 := 1#32
  let v5613 : BitVec 32 := Scalar.muli v24 c1_i32_5426
  let v5614 : BitVec 32 := Scalar.addi c0_i32_5427 v5613
  v5614.toNat
def k0_dev196 (d0 : Dev nD) : Nat :=
  let c0_i32_5477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5476 : BitVec 32 := 1#32
  let v5668 : BitVec 32 := Scalar.muli v24 c1_i32_5476
  let v5669 : BitVec 32 := Scalar.addi c0_i32_5477 v5668
  v5669.toNat
def k0_dev197 (d0 : Dev nD) : Nat :=
  let c0_i32_5485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5484 : BitVec 32 := 1#32
  let v5670 : BitVec 32 := Scalar.muli v13 c1_i32_5484
  let v5671 : BitVec 32 := Scalar.addi c0_i32_5485 v5670
  v5671.toNat
def k0_dev198 (d0 : Dev nD) : Nat :=
  let c0_i32_5535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5534 : BitVec 32 := 1#32
  let v5725 : BitVec 32 := Scalar.muli v13 c1_i32_5534
  let v5726 : BitVec 32 := Scalar.addi c0_i32_5535 v5725
  v5726.toNat
def k0_dev199 (d0 : Dev nD) : Nat :=
  let c0_i32_5543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5542 : BitVec 32 := 1#32
  let v5727 : BitVec 32 := Scalar.muli v24 c1_i32_5542
  let v5728 : BitVec 32 := Scalar.addi c0_i32_5543 v5727
  v5728.toNat
def k0_dev200 (d0 : Dev nD) : Nat :=
  let c0_i32_5593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5592 : BitVec 32 := 1#32
  let v5782 : BitVec 32 := Scalar.muli v24 c1_i32_5592
  let v5783 : BitVec 32 := Scalar.addi c0_i32_5593 v5782
  v5783.toNat
def k0_dev201 (d0 : Dev nD) : Nat :=
  let c0_i32_5601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5600 : BitVec 32 := 1#32
  let v5784 : BitVec 32 := Scalar.muli v13 c1_i32_5600
  let v5785 : BitVec 32 := Scalar.addi c0_i32_5601 v5784
  v5785.toNat
def k0_dev202 (d0 : Dev nD) : Nat :=
  let c0_i32_5651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5650 : BitVec 32 := 1#32
  let v5839 : BitVec 32 := Scalar.muli v13 c1_i32_5650
  let v5840 : BitVec 32 := Scalar.addi c0_i32_5651 v5839
  v5840.toNat
def k0_dev203 (d0 : Dev nD) : Nat :=
  let c0_i32_5659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5658 : BitVec 32 := 1#32
  let v5841 : BitVec 32 := Scalar.muli v24 c1_i32_5658
  let v5842 : BitVec 32 := Scalar.addi c0_i32_5659 v5841
  v5842.toNat
def k0_dev204 (d0 : Dev nD) : Nat :=
  let c0_i32_5709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5708 : BitVec 32 := 1#32
  let v5896 : BitVec 32 := Scalar.muli v24 c1_i32_5708
  let v5897 : BitVec 32 := Scalar.addi c0_i32_5709 v5896
  v5897.toNat
def k0_dev205 (d0 : Dev nD) : Nat :=
  let c0_i32_5717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5716 : BitVec 32 := 1#32
  let v5898 : BitVec 32 := Scalar.muli v13 c1_i32_5716
  let v5899 : BitVec 32 := Scalar.addi c0_i32_5717 v5898
  v5899.toNat
def k0_dev206 (d0 : Dev nD) : Nat :=
  let c0_i32_5767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5766 : BitVec 32 := 1#32
  let v5953 : BitVec 32 := Scalar.muli v13 c1_i32_5766
  let v5954 : BitVec 32 := Scalar.addi c0_i32_5767 v5953
  v5954.toNat
def k0_dev207 (d0 : Dev nD) : Nat :=
  let c0_i32_5775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5774 : BitVec 32 := 1#32
  let v5955 : BitVec 32 := Scalar.muli v24 c1_i32_5774
  let v5956 : BitVec 32 := Scalar.addi c0_i32_5775 v5955
  v5956.toNat
def k0_dev208 (d0 : Dev nD) : Nat :=
  let c0_i32_5825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5824 : BitVec 32 := 1#32
  let v6010 : BitVec 32 := Scalar.muli v24 c1_i32_5824
  let v6011 : BitVec 32 := Scalar.addi c0_i32_5825 v6010
  v6011.toNat
def k0_dev209 (d0 : Dev nD) : Nat :=
  let c0_i32_5833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5832 : BitVec 32 := 1#32
  let v6012 : BitVec 32 := Scalar.muli v13 c1_i32_5832
  let v6013 : BitVec 32 := Scalar.addi c0_i32_5833 v6012
  v6013.toNat
def k0_dev210 (d0 : Dev nD) : Nat :=
  let c0_i32_5883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5882 : BitVec 32 := 1#32
  let v6067 : BitVec 32 := Scalar.muli v13 c1_i32_5882
  let v6068 : BitVec 32 := Scalar.addi c0_i32_5883 v6067
  v6068.toNat
def k0_dev211 (d0 : Dev nD) : Nat :=
  let c0_i32_5891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5890 : BitVec 32 := 1#32
  let v6069 : BitVec 32 := Scalar.muli v24 c1_i32_5890
  let v6070 : BitVec 32 := Scalar.addi c0_i32_5891 v6069
  v6070.toNat
def k0_dev212 (d0 : Dev nD) : Nat :=
  let c0_i32_5941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5940 : BitVec 32 := 1#32
  let v6124 : BitVec 32 := Scalar.muli v24 c1_i32_5940
  let v6125 : BitVec 32 := Scalar.addi c0_i32_5941 v6124
  v6125.toNat
def k0_dev213 (d0 : Dev nD) : Nat :=
  let c0_i32_5949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5948 : BitVec 32 := 1#32
  let v6126 : BitVec 32 := Scalar.muli v13 c1_i32_5948
  let v6127 : BitVec 32 := Scalar.addi c0_i32_5949 v6126
  v6127.toNat
def k0_dev214 (d0 : Dev nD) : Nat :=
  let c0_i32_5999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5998 : BitVec 32 := 1#32
  let v6181 : BitVec 32 := Scalar.muli v13 c1_i32_5998
  let v6182 : BitVec 32 := Scalar.addi c0_i32_5999 v6181
  v6182.toNat
def k0_dev215 (d0 : Dev nD) : Nat :=
  let c0_i32_6007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6006 : BitVec 32 := 1#32
  let v6183 : BitVec 32 := Scalar.muli v24 c1_i32_6006
  let v6184 : BitVec 32 := Scalar.addi c0_i32_6007 v6183
  v6184.toNat
def k0_dev216 (d0 : Dev nD) : Nat :=
  let c0_i32_6057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6056 : BitVec 32 := 1#32
  let v6238 : BitVec 32 := Scalar.muli v24 c1_i32_6056
  let v6239 : BitVec 32 := Scalar.addi c0_i32_6057 v6238
  v6239.toNat
def k0_dev217 (d0 : Dev nD) : Nat :=
  let c0_i32_6065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6064 : BitVec 32 := 1#32
  let v6240 : BitVec 32 := Scalar.muli v13 c1_i32_6064
  let v6241 : BitVec 32 := Scalar.addi c0_i32_6065 v6240
  v6241.toNat
def k0_dev218 (d0 : Dev nD) : Nat :=
  let c0_i32_6115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6114 : BitVec 32 := 1#32
  let v6295 : BitVec 32 := Scalar.muli v13 c1_i32_6114
  let v6296 : BitVec 32 := Scalar.addi c0_i32_6115 v6295
  v6296.toNat
def k0_dev219 (d0 : Dev nD) : Nat :=
  let c0_i32_6123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6122 : BitVec 32 := 1#32
  let v6297 : BitVec 32 := Scalar.muli v24 c1_i32_6122
  let v6298 : BitVec 32 := Scalar.addi c0_i32_6123 v6297
  v6298.toNat
def k0_dev220 (d0 : Dev nD) : Nat :=
  let c0_i32_6173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6172 : BitVec 32 := 1#32
  let v6352 : BitVec 32 := Scalar.muli v24 c1_i32_6172
  let v6353 : BitVec 32 := Scalar.addi c0_i32_6173 v6352
  v6353.toNat
def k0_dev221 (d0 : Dev nD) : Nat :=
  let c0_i32_6181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6180 : BitVec 32 := 1#32
  let v6354 : BitVec 32 := Scalar.muli v13 c1_i32_6180
  let v6355 : BitVec 32 := Scalar.addi c0_i32_6181 v6354
  v6355.toNat
def k0_dev222 (d0 : Dev nD) : Nat :=
  let c0_i32_6231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6230 : BitVec 32 := 1#32
  let v6409 : BitVec 32 := Scalar.muli v13 c1_i32_6230
  let v6410 : BitVec 32 := Scalar.addi c0_i32_6231 v6409
  v6410.toNat
def k0_dev223 (d0 : Dev nD) : Nat :=
  let c0_i32_6239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6238 : BitVec 32 := 1#32
  let v6411 : BitVec 32 := Scalar.muli v24 c1_i32_6238
  let v6412 : BitVec 32 := Scalar.addi c0_i32_6239 v6411
  v6412.toNat
def k0_dev224 (d0 : Dev nD) : Nat :=
  let c0_i32_6289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6288 : BitVec 32 := 1#32
  let v6466 : BitVec 32 := Scalar.muli v24 c1_i32_6288
  let v6467 : BitVec 32 := Scalar.addi c0_i32_6289 v6466
  v6467.toNat
def k0_dev225 (d0 : Dev nD) : Nat :=
  let c0_i32_6297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6296 : BitVec 32 := 1#32
  let v6468 : BitVec 32 := Scalar.muli v13 c1_i32_6296
  let v6469 : BitVec 32 := Scalar.addi c0_i32_6297 v6468
  v6469.toNat
def k0_dev226 (d0 : Dev nD) : Nat :=
  let c0_i32_6347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6346 : BitVec 32 := 1#32
  let v6523 : BitVec 32 := Scalar.muli v13 c1_i32_6346
  let v6524 : BitVec 32 := Scalar.addi c0_i32_6347 v6523
  v6524.toNat
def k0_dev227 (d0 : Dev nD) : Nat :=
  let c0_i32_6355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6354 : BitVec 32 := 1#32
  let v6525 : BitVec 32 := Scalar.muli v24 c1_i32_6354
  let v6526 : BitVec 32 := Scalar.addi c0_i32_6355 v6525
  v6526.toNat
def k0_dev228 (d0 : Dev nD) : Nat :=
  let c0_i32_6405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6404 : BitVec 32 := 1#32
  let v6580 : BitVec 32 := Scalar.muli v24 c1_i32_6404
  let v6581 : BitVec 32 := Scalar.addi c0_i32_6405 v6580
  v6581.toNat
def k0_dev229 (d0 : Dev nD) : Nat :=
  let c0_i32_6413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6412 : BitVec 32 := 1#32
  let v6582 : BitVec 32 := Scalar.muli v13 c1_i32_6412
  let v6583 : BitVec 32 := Scalar.addi c0_i32_6413 v6582
  v6583.toNat
def k0_dev230 (d0 : Dev nD) : Nat :=
  let c0_i32_6463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6462 : BitVec 32 := 1#32
  let v6637 : BitVec 32 := Scalar.muli v13 c1_i32_6462
  let v6638 : BitVec 32 := Scalar.addi c0_i32_6463 v6637
  v6638.toNat
def k0_dev231 (d0 : Dev nD) : Nat :=
  let c0_i32_6471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6470 : BitVec 32 := 1#32
  let v6639 : BitVec 32 := Scalar.muli v24 c1_i32_6470
  let v6640 : BitVec 32 := Scalar.addi c0_i32_6471 v6639
  v6640.toNat
def k0_dev232 (d0 : Dev nD) : Nat :=
  let c0_i32_6521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6520 : BitVec 32 := 1#32
  let v6694 : BitVec 32 := Scalar.muli v24 c1_i32_6520
  let v6695 : BitVec 32 := Scalar.addi c0_i32_6521 v6694
  v6695.toNat
def k0_dev233 (d0 : Dev nD) : Nat :=
  let c0_i32_6529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6528 : BitVec 32 := 1#32
  let v6696 : BitVec 32 := Scalar.muli v13 c1_i32_6528
  let v6697 : BitVec 32 := Scalar.addi c0_i32_6529 v6696
  v6697.toNat
def k0_dev234 (d0 : Dev nD) : Nat :=
  let c0_i32_6579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6578 : BitVec 32 := 1#32
  let v6751 : BitVec 32 := Scalar.muli v13 c1_i32_6578
  let v6752 : BitVec 32 := Scalar.addi c0_i32_6579 v6751
  v6752.toNat
def k0_dev235 (d0 : Dev nD) : Nat :=
  let c0_i32_6587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6586 : BitVec 32 := 1#32
  let v6753 : BitVec 32 := Scalar.muli v24 c1_i32_6586
  let v6754 : BitVec 32 := Scalar.addi c0_i32_6587 v6753
  v6754.toNat
def k0_dev236 (d0 : Dev nD) : Nat :=
  let c0_i32_6637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6636 : BitVec 32 := 1#32
  let v6808 : BitVec 32 := Scalar.muli v24 c1_i32_6636
  let v6809 : BitVec 32 := Scalar.addi c0_i32_6637 v6808
  v6809.toNat
def k0_dev237 (d0 : Dev nD) : Nat :=
  let c0_i32_6645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6644 : BitVec 32 := 1#32
  let v6810 : BitVec 32 := Scalar.muli v13 c1_i32_6644
  let v6811 : BitVec 32 := Scalar.addi c0_i32_6645 v6810
  v6811.toNat
def k0_dev238 (d0 : Dev nD) : Nat :=
  let c0_i32_6695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6694 : BitVec 32 := 1#32
  let v6865 : BitVec 32 := Scalar.muli v13 c1_i32_6694
  let v6866 : BitVec 32 := Scalar.addi c0_i32_6695 v6865
  v6866.toNat
def k0_dev239 (d0 : Dev nD) : Nat :=
  let c0_i32_6703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6702 : BitVec 32 := 1#32
  let v6867 : BitVec 32 := Scalar.muli v24 c1_i32_6702
  let v6868 : BitVec 32 := Scalar.addi c0_i32_6703 v6867
  v6868.toNat
def k0_dev240 (d0 : Dev nD) : Nat :=
  let c0_i32_6753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6752 : BitVec 32 := 1#32
  let v6922 : BitVec 32 := Scalar.muli v24 c1_i32_6752
  let v6923 : BitVec 32 := Scalar.addi c0_i32_6753 v6922
  v6923.toNat
def k0_dev241 (d0 : Dev nD) : Nat :=
  let c0_i32_6761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6760 : BitVec 32 := 1#32
  let v6924 : BitVec 32 := Scalar.muli v13 c1_i32_6760
  let v6925 : BitVec 32 := Scalar.addi c0_i32_6761 v6924
  v6925.toNat
def k0_dev242 (d0 : Dev nD) : Nat :=
  let c0_i32_6811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6810 : BitVec 32 := 1#32
  let v6979 : BitVec 32 := Scalar.muli v13 c1_i32_6810
  let v6980 : BitVec 32 := Scalar.addi c0_i32_6811 v6979
  v6980.toNat
def k0_dev243 (d0 : Dev nD) : Nat :=
  let c0_i32_6819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6818 : BitVec 32 := 1#32
  let v6981 : BitVec 32 := Scalar.muli v24 c1_i32_6818
  let v6982 : BitVec 32 := Scalar.addi c0_i32_6819 v6981
  v6982.toNat
def k0_dev244 (d0 : Dev nD) : Nat :=
  let c0_i32_6869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6868 : BitVec 32 := 1#32
  let v7036 : BitVec 32 := Scalar.muli v24 c1_i32_6868
  let v7037 : BitVec 32 := Scalar.addi c0_i32_6869 v7036
  v7037.toNat
def k0_dev245 (d0 : Dev nD) : Nat :=
  let c0_i32_6877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6876 : BitVec 32 := 1#32
  let v7038 : BitVec 32 := Scalar.muli v13 c1_i32_6876
  let v7039 : BitVec 32 := Scalar.addi c0_i32_6877 v7038
  v7039.toNat
def k0_dev246 (d0 : Dev nD) : Nat :=
  let c0_i32_6927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6926 : BitVec 32 := 1#32
  let v7093 : BitVec 32 := Scalar.muli v13 c1_i32_6926
  let v7094 : BitVec 32 := Scalar.addi c0_i32_6927 v7093
  v7094.toNat
def k0_dev247 (d0 : Dev nD) : Nat :=
  let c0_i32_6935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6934 : BitVec 32 := 1#32
  let v7095 : BitVec 32 := Scalar.muli v24 c1_i32_6934
  let v7096 : BitVec 32 := Scalar.addi c0_i32_6935 v7095
  v7096.toNat
def k0_dev248 (d0 : Dev nD) : Nat :=
  let c0_i32_6985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6984 : BitVec 32 := 1#32
  let v7150 : BitVec 32 := Scalar.muli v24 c1_i32_6984
  let v7151 : BitVec 32 := Scalar.addi c0_i32_6985 v7150
  v7151.toNat
def k0_dev249 (d0 : Dev nD) : Nat :=
  let c0_i32_6993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6992 : BitVec 32 := 1#32
  let v7152 : BitVec 32 := Scalar.muli v13 c1_i32_6992
  let v7153 : BitVec 32 := Scalar.addi c0_i32_6993 v7152
  v7153.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 21
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .fp8e4m3⟩
  | .hbm, ⟨19, _⟩ => ⟨S1x1, .f32⟩
  | .hbm, ⟨20, _⟩ => ⟨S4096x8192, .bf16⟩
  | .local _ .vmem, ⟨0, _⟩ => ⟨S4096x8192, .fp8e4m3⟩
  | .local _ .vmem, ⟨1, _⟩ => ⟨S1x1, .f32⟩
  | .local _ .vmem, ⟨2, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ring.Body.lean ====
/- The kernel's body once more, as a short program over lanes and steps: the four lanes of the ring (`lane`), one
   step of the reduce-scatter (`rsStep`), the exchange of the maxima, one step of the all-gather (`agStep`); and that
   the printed body is this program (`body_eq`). The proof of the run is by lanes and steps over it. -/
module

public import proofs.«01_k».proof.Proof.Gen.KernelIdeal.Skeleton

@[expose] public section

noncomputable section

namespace Cert.KernelIdeal.Ring

open Idealize.ShloMosaic Idealize.SL.Sem Cert.KernelIdeal.Gen

variable {F : FTy → Type} [FloatOps F]

/-! ## The lanes' buffers and semaphores -/

/-- A program of the kernel's core. -/
abbrev P (F : FTy → Type) (α : Type) := Prog (TpuEff nD τ sig (Elt F) Λ₀ .tc) α

/-- Lane `X`'s two-slot buffer of running sums, narrow. -/
def wb : Fin 4 → Memref sig .tc .vmem S2x256x2048 .bf16 :=
  ![Memref.whole cc0_scratch0, Memref.whole cc0_scratch11, Memref.whole cc0_scratch22, Memref.whole cc0_scratch33]
/-- Lane `X`'s two-slot buffer of running sums, wide. -/
def wf : Fin 4 → Memref sig .tc .vmem S2x256x2048 .f32 :=
  ![Memref.whole cc0_scratch1, Memref.whole cc0_scratch12, Memref.whole cc0_scratch23, Memref.whole cc0_scratch34]
/-- Lane `X`'s three-slot buffer of quantised chunks. -/
def ag : Fin 4 → Memref sig .tc .vmem S3x256x2048 .fp8e4m3 :=
  ![Memref.whole cc0_scratch2, Memref.whole cc0_scratch13, Memref.whole cc0_scratch24, Memref.whole cc0_scratch35]
/-- Lane `X`'s two-slot staging buffer of the result. -/
def st : Fin 4 → Memref sig .tc .vmem S2x256x2048 .bf16 :=
  ![Memref.whole cc0_scratch3, Memref.whole cc0_scratch14, Memref.whole cc0_scratch25, Memref.whole cc0_scratch36]
/-- The buffer of the devices' maxima. -/
abbrev am : Memref sig .tc .vmem S16x128 .f32 := Memref.whole cc0_scratch44
/-- The result. -/
abbrev out : Memref sig .tc .hbm S4096x8192 .bf16 := Memref.whole main_v1

def rsSnd : Fin 4 → DmaSems sig S2 := ![cc0_scratch4, cc0_scratch15, cc0_scratch26, cc0_scratch37]
def rsRcv : Fin 4 → DmaSems sig S2 := ![cc0_scratch5, cc0_scratch16, cc0_scratch27, cc0_scratch38]
def agSnd : Fin 4 → DmaSems sig S3 := ![cc0_scratch6, cc0_scratch17, cc0_scratch28, cc0_scratch39]
def agRcv : Fin 4 → DmaSems sig S3 := ![cc0_scratch7, cc0_scratch18, cc0_scratch29, cc0_scratch40]
def stSnd : Fin 4 → DmaSems sig S2 := ![cc0_scratch8, cc0_scratch19, cc0_scratch30, cc0_scratch41]
def rsCrd : Fin 4 → Sems sig S_ := ![cc0_scratch9, cc0_scratch20, cc0_scratch31, cc0_scratch42]
def agCrd : Fin 4 → Sems sig S_ := ![cc0_scratch10, cc0_scratch21, cc0_scratch32, cc0_scratch43]

theorem in2 (r : Fin 2) : ∀ a, (![r.val] : Fin 1 → ℕ) a + S1.size a ≤ S2.size a := by revert r; decide
theorem in3 (r : Fin 3) : ∀ a, (![r.val] : Fin 1 → ℕ) a + S1.size a ≤ S3.size a := by revert r; decide
theorem in16 (r : Fin 16) : ∀ a, (![r.val] : Fin 1 → ℕ) a + S1.size a ≤ S16.size a := by revert r; decide

/-- Semaphore `r` of a pair. -/
def sem2 (a : DmaSems sig S2) (r : Fin 2) : DmaSem sig :=
  ((a.slice (Rect.unit (s := S2) ![r.val] S1.size (in2 r))).squeeze S_ squeezes_S1_S_).sem
/-- Semaphore `r` of a triple. -/
def sem3 (a : DmaSems sig S3) (r : Fin 3) : DmaSem sig :=
  ((a.slice (Rect.unit (s := S3) ![r.val] S1.size (in3 r))).squeeze S_ squeezes_S1_S_).sem
/-- Semaphore `j` of sixteen. -/
def sem16 (a : DmaSems sig S16) (j : Fin 16) : DmaSem sig :=
  ((a.slice (Rect.unit (s := S16) ![j.val] S1.size (in16 j))).squeeze S_ squeezes_S1_S_).sem

theorem inb2 (r : Fin 2) : ∀ a, (![r.val, 0, 0] : Fin 3 → ℕ) a + S1x256x2048.size a ≤ S2x256x2048.size a := by
  revert r; decide
theorem inb3 (r : Fin 3) : ∀ a, (![r.val, 0, 0] : Fin 3 → ℕ) a + S1x256x2048.size a ≤ S3x256x2048.size a := by
  revert r; decide

/-- Slot `r` of a two-slot buffer, as a rectangle. -/
abbrev slot2 (r : Fin 2) : Rect S2x256x2048 := Rect.unit (s := S2x256x2048) ![r.val, 0, 0] S1x256x2048.size (inb2 r)
/-- Slot `r` of a three-slot buffer, as a rectangle. -/
abbrev slot3 (r : Fin 3) : Rect S3x256x2048 := Rect.unit (s := S3x256x2048) ![r.val, 0, 0] S1x256x2048.size (inb3 r)

/-- Slot `r` of a two-slot buffer, as a chunk. -/
abbrev chunk2 {e : EltTy} (m : Memref sig .tc .vmem S2x256x2048 e) (r : Fin 2) : Memref sig .tc .vmem S256x2048 e :=
  (m.slice (slot2 r) (fun _ => rfl)).squeeze S256x2048 squeezes_S1x256x2048_S256x2048
/-- Slot `r` of a three-slot buffer, as a chunk. -/
abbrev chunk3 {e : EltTy} (m : Memref sig .tc .vmem S3x256x2048 e) (r : Fin 3) : Memref sig .tc .vmem S256x2048 e :=
  (m.slice (slot3 r) (fun _ => rfl)).squeeze S256x2048 squeezes_S1x256x2048_S256x2048

/-! ## The devices and the offsets -/

/-- The left neighbour. -/
def devL (d : Dev nD) : Dev nD := ⟨k0_dev1 d, k0_dev1_lt d⟩
/-- The right neighbour. -/
def devR (d : Dev nD) : Dev nD := ⟨k0_dev2 d, k0_dev2_lt d⟩
/-- The neighbour lane `X` sends to. -/
def devTo : Fin 4 → Dev nD → Dev nD := ![devR, devR, devL, devL]
/-- The neighbour lane `X` receives from. -/
def devFrom : Fin 4 → Dev nD → Dev nD := ![devL, devL, devR, devR]
/-- The device `j` places to the right, `1 ≤ j ≤ 15`. -/
def devJ (d : Dev nD) : Fin 15 → Dev nD :=
  ![⟨k0_dev119 d, k0_dev119_lt d⟩, ⟨k0_dev120 d, k0_dev120_lt d⟩, ⟨k0_dev121 d, k0_dev121_lt d⟩,
    ⟨k0_dev122 d, k0_dev122_lt d⟩, ⟨k0_dev123 d, k0_dev123_lt d⟩, ⟨k0_dev124 d, k0_dev124_lt d⟩,
    ⟨k0_dev125 d, k0_dev125_lt d⟩, ⟨k0_dev126 d, k0_dev126_lt d⟩, ⟨k0_dev127 d, k0_dev127_lt d⟩,
    ⟨k0_dev128 d, k0_dev128_lt d⟩, ⟨k0_dev129 d, k0_dev129_lt d⟩, ⟨k0_dev130 d, k0_dev130_lt d⟩,
    ⟨k0_dev131 d, k0_dev131_lt d⟩, ⟨k0_dev132 d, k0_dev132_lt d⟩, ⟨k0_dev133 d, k0_dev133_lt d⟩]

/-- The rows of `x` lane `X` multiplies at step `h`. -/
def xoff : Fin 4 → Dev nD → Fin 15 → Fin 2 → ℕ :=
  ![fun d h => k0_off2 d (BitVec.ofNat 32 h.val), fun d h => k0_off2 d (BitVec.ofNat 32 h.val),
    fun d h => k0_off3 d (BitVec.ofNat 32 h.val), fun d h => k0_off3 d (BitVec.ofNat 32 h.val)]
theorem xoff_inb (X : Fin 4) (d : Dev nD) (h : Fin 15) : ∀ a, xoff X d h a + S256x256.size a ≤ S4096x256.size a :=
  match X with
  | 0 => k0_off2_inb d h
  | 1 => k0_off2_inb d h
  | 2 => k0_off3_inb d h
  | 3 => k0_off3_inb d h

theorem wcol_inb (X : Fin 4) : ∀ a, (![0, 2048 * X.val] : Fin 2 → ℕ) a + S256x2048.size a ≤ S256x8192.size a := by
  revert X; decide

/-- Where lane `X`'s chunk of arrival `k` goes in the result: its own at `0`, the arrival of step `g` at `g + 1`. -/
def ooff : Fin 4 → Dev nD → ℕ → Fin 2 → ℕ
  | 0, d, 0 => k0_off7 d
  | 1, d, 0 => k0_off9 d
  | 2, d, 0 => k0_off8 d
  | 3, d, 0 => k0_off10 d
  | 0, d, g + 1 => k0_off11 d (BitVec.ofNat 32 g)
  | 1, d, g + 1 => k0_off13 d (BitVec.ofNat 32 g)
  | 2, d, g + 1 => k0_off12 d (BitVec.ofNat 32 g)
  | 3, d, g + 1 => k0_off14 d (BitVec.ofNat 32 g)
theorem ooff_inb (X : Fin 4) (d : Dev nD) (k : ℕ) (hk : k < 16) :
    ∀ a, ooff X d k a + S256x2048.size a ≤ S4096x8192.size a :=
  match X, k, hk with
  | 0, 0, _ => k0_off7_inb d
  | 1, 0, _ => k0_off9_inb d
  | 2, 0, _ => k0_off8_inb d
  | 3, 0, _ => k0_off10_inb d
  | 0, g + 1, h => k0_off11_inb d ⟨g, by omega⟩
  | 1, g + 1, h => k0_off13_inb d ⟨g, by omega⟩
  | 2, g + 1, h => k0_off12_inb d ⟨g, by omega⟩
  | 3, g + 1, h => k0_off14_inb d ⟨g, by omega⟩
theorem ooff_words (X : Fin 4) (d : Dev nD) (k : ℕ) (hk : k < 16) :
    (Rect.unit (s := S4096x8192) (ooff X d k) S256x2048.size (ooff_inb X d k hk)).WholeWords (EltTy.packing .bf16) :=
  match X, k, hk with
  | 0, 0, _ => k0_off7_wordsbf16 d
  | 1, 0, _ => k0_off9_wordsbf16 d
  | 2, 0, _ => k0_off8_wordsbf16 d
  | 3, 0, _ => k0_off10_wordsbf16 d
  | 0, g + 1, h => k0_off11_wordsbf16 d ⟨g, by omega⟩
  | 1, g + 1, h => k0_off13_wordsbf16 d ⟨g, by omega⟩
  | 2, g + 1, h => k0_off12_wordsbf16 d ⟨g, by omega⟩
  | 3, g + 1, h => k0_off14_wordsbf16 d ⟨g, by omega⟩

/-- Chunk `k` of lane `X` in the result. -/
abbrev outChunk (X : Fin 4) (d : Dev nD) (k : ℕ) (hk : k < 16) : Memref sig .tc .hbm S256x2048 .bf16 :=
  out.slice (Rect.unit (s := S4096x8192) (ooff X d k) S256x2048.size (ooff_inb X d k hk)) (fun _ => rfl)

/-- The row of the maxima of the device `j + 1` places to the left. -/
abbrev amFrom (d : Dev nD) (j : Fin 15) : Memref sig .tc .vmem S1x128 .f32 :=
  am.slice (Rect.unit (s := S16x128) (k0_off6 d (BitVec.ofNat 32 (1 + j.val))) S1x128.size (k0_off6_inb d j)) (fun _ => rfl)
/-- The device's own row of the maxima. -/
abbrev amOwn (d : Dev nD) : Memref sig .tc .vmem S1x128 .f32 :=
  am.slice (Rect.unit (s := S16x128) (k0_off5 d) S1x128.size (k0_off5_inb d)) (fun _ => rfl)

/-! ## What the buffers allow -/

theorem wb_whole : ∀ X, (wb X).IsWhole
  | 0 => Memref.isWhole_whole _ | 1 => Memref.isWhole_whole _ | 2 => Memref.isWhole_whole _ | 3 => Memref.isWhole_whole _
theorem ag_whole : ∀ X, (ag X).IsWhole
  | 0 => Memref.isWhole_whole _ | 1 => Memref.isWhole_whole _ | 2 => Memref.isWhole_whole _ | 3 => Memref.isWhole_whole _
theorem st_whole : ∀ X, (st X).IsWhole
  | 0 => Memref.isWhole_whole _ | 1 => Memref.isWhole_whole _ | 2 => Memref.isWhole_whole _ | 3 => Memref.isWhole_whole _
theorem wf_whole : ∀ X, (wf X).IsWhole
  | 0 => Memref.isWhole_whole _ | 1 => Memref.isWhole_whole _ | 2 => Memref.isWhole_whole _ | 3 => Memref.isWhole_whole _

theorem words2 (r : Fin 2) : (slot2 r).WholeWords (EltTy.packing .bf16) :=
  match r with
  | 0 => wordsbf16_S2x256x2048_S1x256x2048_0_0_0
  | 1 => wordsbf16_S2x256x2048_S1x256x2048_1_0_0
theorem words3 (r : Fin 3) : (slot3 r).WholeWords (EltTy.packing .fp8e4m3) :=
  match r with
  | 0 => wordsfp8e4m3_S3x256x2048_S1x256x2048_0_0_0
  | 1 => wordsfp8e4m3_S3x256x2048_S1x256x2048_1_0_0
  | 2 => wordsfp8e4m3_S3x256x2048_S1x256x2048_2_0_0

theorem packed2 (r : Fin 2) : (slot2 r).PackedRows (EltTy.packing .bf16) :=
  match r with
  | 0 => packedbf16_S2x256x2048_S1x256x2048_0_0_0
  | 1 => packedbf16_S2x256x2048_S1x256x2048_1_0_0

theorem wb_words (X : Fin 4) (r : Fin 2) : (chunk2 (wb X) r).view.WordExact :=
  ((wb_whole X).wordExact_slice rfl _ (words2 r)).reshape _ _
theorem st_words (X : Fin 4) (r : Fin 2) : (chunk2 (st X) r).view.WordExact :=
  ((st_whole X).wordExact_slice rfl _ (words2 r)).reshape _ _
theorem ag_words (X : Fin 4) (r : Fin 3) : (chunk3 (ag X) r).view.WordExact :=
  ((ag_whole X).wordExact_slice rfl _ (words3 r)).reshape _ _
theorem wf_words (X : Fin 4) (r : Fin 2) : (chunk2 (wf X) r).view.WordExact :=
  (View.wordExact_bits rfl).reshape _ _
theorem out_words (X : Fin 4) (d : Dev nD) (k : ℕ) (hk : k < 16) : (outChunk X d k hk).view.WordExact :=
  (Memref.isWhole_whole main_v1).wordExact_slice rfl _ (ooff_words X d k hk)
theorem wb_stores (X : Fin 4) (r : Fin 2) : ((wb X).access (slot2 r)).Stores Finset.univ :=
  View.stores_vmem h_S1x256x2048 ((wb_whole X).storeExact_slice rfl _ (packed2 r)) (fun _ => rfl)
theorem st_stores (X : Fin 4) (r : Fin 2) : ((st X).access (slot2 r)).Stores Finset.univ :=
  View.stores_vmem h_S1x256x2048 ((st_whole X).storeExact_slice rfl _ (packed2 r)) (fun _ => rfl)
theorem wf_stores (X : Fin 4) (r : Fin 2) : ((wf X).access (slot2 r)).Stores Finset.univ :=
  View.stores_vmem_bits_univ h_S1x256x2048 rfl
theorem ag_stores (X : Fin 4) : ((ag X).access (slot3 0)).Stores Finset.univ :=
  View.stores_vmem h_S1x256x2048 ((ag_whole X).storeExact_slice rfl _ packedfp8e4m3_S3x256x2048_S1x256x2048_0_0_0)
    (fun _ => rfl)

/-! ## The kernel's arithmetic -/

/-- The first partial product of a chunk. -/
def seedOf (a : Vec F S256x256 .bf16) (b : Vec F S256x2048 .bf16) : Vec F S1x256x2048 .bf16 := k0_pay1 a b
/-- A running sum and the next partial product, narrow to narrow. -/
def sumBB (v : Vec F S1x256x2048 .bf16) (a : Vec F S256x256 .bf16) (b : Vec F S256x2048 .bf16) :
    Vec F S1x256x2048 .bf16 := k0_pay6 v a b
/-- The same, narrow to wide. -/
def sumBF (v : Vec F S1x256x2048 .bf16) (a : Vec F S256x256 .bf16) (b : Vec F S256x2048 .bf16) :
    Vec F S1x256x2048 .f32 := k0_pay75 (k0_pay74 v) a b
/-- The same, wide to wide. -/
def sumFF (v : Vec F S1x256x2048 .f32) (a : Vec F S256x256 .bf16) (b : Vec F S256x2048 .bf16) :
    Vec F S1x256x2048 .f32 := k0_pay84 (k0_pay83 v a b)
/-- The greatest magnitude of the last sum. -/
def maxOf (v : Vec F S1x256x2048 .f32) (a : Vec F S256x256 .bf16) (b : Vec F S256x2048 .bf16) : F .f32 := k0_pay114 v a b
/-- The device's row of the maxima, of three lanes' maxima and the fourth's last sum. -/
def rowOf (m0 m2 m1 : F .f32) (v : Vec F S1x256x2048 .f32) (a : Vec F S256x256 .bf16) (b : Vec F S256x2048 .bf16) :
    Vec F S1x128 .f32 := k0_pay119 m0 m2 m1 (k0_pay116 v) a b
/-- The scale, of the maxima. -/
def scaleOf (v : Vec F S16x128 .f32) : F .f32 := k0_pay121 v
/-- Its inverse. -/
def invOf (v : Vec F S16x128 .f32) : F .f32 := k0_pay122 v
/-- A chunk quantised. -/
def quant (i : F .f32) (v : Vec F S1x256x2048 .f32) : Vec F S1x256x2048 .fp8e4m3 := k0_pay124 i v
/-- A quantised chunk put back. -/
def deq (s : F .f32) (v : Vec F S1x256x2048 .fp8e4m3) : Vec F S1x256x2048 .bf16 := k0_pay128 s v

/-! ## The steps -/

/-- A slot of two at a count. -/
def sl2 (n : ℕ) : Fin 2 := ⟨n % 2, Nat.mod_lt _ (by decide)⟩
/-- A slot of three at a count. -/
def sl3 (n : ℕ) : Fin 3 := ⟨n % 3, Nat.mod_lt _ (by decide)⟩

/-- Some steps, one after another. -/
def forL {α : Type} : List α → (α → P F PUnit) → P F PUnit
  | [], _ => pure ⟨⟩
  | a :: l, f => f a >>= fun _ => forL l f

/-- The lanes in the order the kernel takes them. -/
def lanes : List (Fin 4) := [0, 2, 1, 3]

abbrev ld2 {e : EltTy} (m : Memref sig .tc .vmem S2x256x2048 e) (r : Fin 2) : P F (Vec F S1x256x2048 e) :=
  Prog.lift (.load m (slot2 r).toLoadRect (View.loadsAt_vmem h_S1x256x2048))
abbrev ld3 {e : EltTy} (m : Memref sig .tc .vmem S3x256x2048 e) (r : Fin 3) : P F (Vec F S1x256x2048 e) :=
  Prog.lift (.load m (slot3 r).toLoadRect (View.loadsAt_vmem h_S1x256x2048))
abbrev st2 {e : EltTy} (m : Memref sig .tc .vmem S2x256x2048 e) (r : Fin 2) (v : Vec F S1x256x2048 e)
    (hs : (m.access (slot2 r)).Stores Finset.univ) : P F PUnit :=
  Prog.lift (.store m (slot2 r) v Finset.univ hs (.inl rfl))
/-- A chunk of vector memory sent to a chunk of a neighbour's. -/
abbrev sendC {e : EltTy} (src dst : Memref sig .tc .vmem S256x2048 e) (d' : Dev nD) (sS sR : DmaSem sig)
    (hs : src.view.WordExact) (hd : dst.view.WordExact) : P F PUnit :=
  Prog.lift (.enqueueDma src (.remote (Dev.tc d') dst (.dma sS)) (.dma sR) hs hd ⟨⟨rfl, Or.inl rfl⟩, trivial⟩)

/-- The rows of `x`. -/
abbrev ldx (xb : Memref sig .tc .vmem S4096x256 .bf16) (off : Fin 2 → ℕ) (h : ∀ a, off a + S256x256.size a ≤ S4096x256.size a) :
    P F (Vec F S256x256 .bf16) :=
  Prog.lift (.load xb (Rect.unit (s := S4096x256) off S256x256.size h).toLoadRect (View.loadsAt_vmem h_S256x256))
/-- Lane `X`'s columns of `w`. -/
abbrev ldw (wk : Memref sig .tc .vmem S256x8192 .bf16) (X : Fin 4) : P F (Vec F S256x2048 .bf16) :=
  Prog.lift (.load wk (Rect.unit (s := S256x8192) ![0, 2048 * X.val] S256x2048.size (wcol_inb X)).toLoadRect
    (View.loadsAt_vmem h_S256x2048))

/-- The barrier's semaphore. -/
def barS : Sem sig := (SemArray.scalar (sig.barrier 0 rfl) : Sems sig S_).sem

/-- Lane `X`'s first partial product, and its departure. -/
def seedStep (xb : Memref sig .tc .vmem S4096x256 .bf16) (wk : Memref sig .tc .vmem S256x8192 .bf16) (d : Dev nD)
    (X : Fin 4) : P F PUnit := do
  let a ← ldx xb (k0_off1 d) (k0_off1_inb d)
  let b ← ldw wk X
  let _ ← ld2 (wb X) 0
  st2 (wb X) 0 (seedOf a b) (wb_stores X 0)
  sendC (chunk2 (wb X) 0) (chunk2 (wb X) 1) (devTo X d) (sem2 (rsSnd X) 0) (sem2 (rsRcv X) 1) (wb_words X 0) (wb_words X 1)

/-- Step `h` of lane `X`'s reduce-scatter: take the sum that arrived in `A`, add the device's partial product into `B`,
    and pass it on once the neighbour has room. -/
def rsStep (xb : Memref sig .tc .vmem S4096x256 .bf16) (wk : Memref sig .tc .vmem S256x8192 .bf16) (d : Dev nD)
    {e e' : EltTy} (A : Memref sig .tc .vmem S2x256x2048 e) (B : Memref sig .tc .vmem S2x256x2048 e')
    (wA : ∀ r, (chunk2 A r).view.WordExact) (wB : ∀ r, (chunk2 B r).view.WordExact)
    (sB : ∀ r, (B.access (slot2 r)).Stores Finset.univ)
    (pay : Vec F S1x256x2048 e → Vec F S256x256 .bf16 → Vec F S256x2048 .bf16 → Vec F S1x256x2048 e')
    (h : Fin 15) (X : Fin 4) : P F PUnit := do
  Prog.lift (.waitDma2 (sem2 (rsRcv X) (sl2 (h + 1))) (chunk2 A (sl2 h)) (chunk2 A (sl2 (h + 1))) (wA _) (wA _))
  let v ← ld2 A (sl2 (h + 1))
  let a ← ldx xb (xoff X d h) (xoff_inb X d h)
  let b ← ldw wk X
  let _ ← ld2 B (sl2 (h + 1))
  st2 B (sl2 (h + 1)) (pay v a b) (sB _)
  Prog.lift (.waitDma2 (sem2 (rsSnd X) (sl2 h)) (chunk2 A (sl2 (h + 1))) (chunk2 A (sl2 h)) (wA _) (wA _))
  semSignalWord (devFrom X d) (rsCrd X).sem 1#32
  semWaitWord (rsCrd X).sem 1#32
  sendC (chunk2 B (sl2 (h + 1))) (chunk2 B (sl2 h)) (devTo X d) (sem2 (rsSnd X) (sl2 (h + 1))) (sem2 (rsRcv X) (sl2 h))
    (wB _) (wB _)

/-- The last step of lane `X`'s reduce-scatter, from the arrival to the last departure's end. -/
def rsLast (xb : Memref sig .tc .vmem S4096x256 .bf16) (wk : Memref sig .tc .vmem S256x8192 .bf16) (d : Dev nD)
    (X : Fin 4) : P F (Vec F S1x256x2048 .f32 × Vec F S256x256 .bf16 × Vec F S256x2048 .bf16) := do
  Prog.lift (.waitDma2 (sem2 (rsRcv X) 1) (chunk2 (wf X) 0) (chunk2 (wf X) 1) (wf_words X _) (wf_words X _))
  let v ← ld2 (wf X) 1
  let a ← ldx xb (xoff X d 14) (xoff_inb X d 14)
  let b ← ldw wk X
  Prog.lift (.waitDma2 (sem2 (rsSnd X) 0) (chunk2 (wf X) 1) (chunk2 (wf X) 0) (wf_words X _) (wf_words X _))
  let _ ← ld2 (wf X) 0
  st2 (wf X) 0 (sumFF v a b) (wf_stores X 0)
  pure (v, a, b)

/-- The device's row of the maxima sent to the device `j + 1` places to the right. -/
def amSend (d : Dev nD) (j : Fin 15) : P F PUnit :=
  Prog.lift (.enqueueDma (amOwn d) (.remote (Dev.tc (devJ d j)) (amOwn d) (.dma (sem16 cc0_scratch45 j.succ)))
    (.dma (sem16 cc0_scratch46 j.succ)) (View.wordExact_bits rfl) (View.wordExact_bits rfl) ⟨⟨rfl, Or.inl rfl⟩, trivial⟩)
/-- The row of the device `j + 1` places to the left, waited for. -/
def amRecv (d : Dev nD) (j : Fin 15) : P F PUnit :=
  Prog.lift (.waitDma2 (sem16 cc0_scratch46 j.succ) (amFrom d j) (amFrom d j) (View.wordExact_bits rfl)
    (View.wordExact_bits rfl))
/-- A departure of the device's row, waited for. -/
def amSent (d : Dev nD) (j : Fin 15) : P F PUnit :=
  Prog.lift (.waitDma2 (sem16 cc0_scratch45 j.succ) (amOwn d) (amOwn d) (View.wordExact_bits rfl) (View.wordExact_bits rfl))

/-- Lane `X`'s chunk quantised, and its departure. -/
def agStart (i : F .f32) (d : Dev nD) (X : Fin 4) : P F PUnit := do
  let v ← ld2 (wf X) 0
  let _ ← ld3 (ag X) 0
  Prog.lift (.store (ag X) (slot3 0) (quant i v) Finset.univ (ag_stores X) (.inl rfl))
  sendC (chunk3 (ag X) 0) (chunk3 (ag X) 1) (devTo X d) (sem3 (agSnd X) 0) (sem3 (agRcv X) 1) (ag_words X 0) (ag_words X 1)

/-- Arrival `k` of lane `X`'s all-gather put back and stored into the result. -/
def stage (s : F .f32) (d : Dev nD) (X : Fin 4) (k : ℕ) (hk : k < 16) : P F PUnit := do
  let v ← ld3 (ag X) (sl3 k)
  let _ ← ld2 (st X) (sl2 k)
  st2 (st X) (sl2 k) (deq s v) (st_stores X _)
  Prog.lift (.enqueueDma (chunk2 (st X) (sl2 k)) (.here (outChunk X d k hk)) (.dma (sem2 (stSnd X) (sl2 k)))
    (st_words X _) (out_words X d k hk) ⟨Or.inl rfl, trivial⟩)

/-- The store of arrival `k`, waited for. -/
def stored (d : Dev nD) (X : Fin 4) (k : ℕ) (hk : k < 16) : P F PUnit :=
  Prog.lift (.waitDma2 (sem2 (stSnd X) (sl2 k)) (chunk2 (st X) (sl2 k)) (outChunk X d k hk) (st_words X _)
    (out_words X d k hk))

/-- Step `g` of lane `X`'s all-gather, its arrival. -/
def agTake (X : Fin 4) (g : ℕ) : P F PUnit :=
  Prog.lift (.waitDma2 (sem3 (agRcv X) (sl3 (g + 1))) (chunk3 (ag X) (sl3 g)) (chunk3 (ag X) (sl3 (g + 1)))
    (ag_words X _) (ag_words X _))

/-- Step `g`, the arrival passed on once the neighbour has room. -/
def agPass (d : Dev nD) (X : Fin 4) (g : ℕ) : P F PUnit := do
  semSignalWord (devFrom X d) (agCrd X).sem 1#32
  semWaitWord (agCrd X).sem 1#32
  sendC (chunk3 (ag X) (sl3 (g + 1))) (chunk3 (ag X) (sl3 (g + 2))) (devTo X d) (sem3 (agSnd X) (sl3 (g + 1)))
    (sem3 (agRcv X) (sl3 (g + 2))) (ag_words X _) (ag_words X _)

/-- Step `g`, the end of departure `g`. -/
def agSent (X : Fin 4) (g : ℕ) : P F PUnit :=
  Prog.lift (.waitDma2 (sem3 (agSnd X) (sl3 g)) (chunk3 (ag X) (sl3 (g + 1))) (chunk3 (ag X) (sl3 g))
    (ag_words X _) (ag_words X _))

/-- Step 0 of lane `X`'s all-gather. -/
def agFirst (s : F .f32) (d : Dev nD) (X : Fin 4) : P F PUnit := do
  agTake X 0
  agPass d X 0
  agSent X 0
  stage s d X 1 (by decide)
/-- Step `g`, `1 ≤ g ≤ 13`. -/
def agStep (s : F .f32) (d : Dev nD) (g : Fin 14) (X : Fin 4) : P F PUnit := do
  agTake X g
  agPass d X g
  agSent X g
  stored d X (g - 1) (by omega)
  stage s d X (g + 1) (by omega)
/-- Step 14. -/
def agLast (s : F .f32) (d : Dev nD) (X : Fin 4) : P F PUnit := do
  agTake X 14
  agSent X 14
  stored d X 13 (by decide)
  stage s d X 15 (by decide)

/-- The barrier. -/
def barrier (d : Dev nD) : P F PUnit := do
  semSignalWord (devL d) barS 1#32
  semSignalWord (devR d) barS 1#32
  semWaitWord barS 2#32

/-- The ring's first half. -/
def reduce (xb : Memref sig .tc .vmem S4096x256 .bf16) (wk : Memref sig .tc .vmem S256x8192 .bf16) (d : Dev nD) :
    P F PUnit := do
  forL lanes (seedStep xb wk d)
  forL [0, 1, 2, 3, 4, 5, 6, 7, 8, 9] fun h => forL lanes fun X =>
    rsStep xb wk d (wb X) (wb X) (wb_words X) (wb_words X) (wb_stores X) sumBB h X
  forL lanes fun X => rsStep xb wk d (wb X) (wf X) (wb_words X) (wf_words X) (wf_stores X) sumBF 10 X
  forL [11, 12, 13] fun h => forL lanes fun X =>
    rsStep xb wk d (wf X) (wf X) (wf_words X) (wf_words X) (wf_stores X) sumFF h X

/-- The last sums and the exchange of the maxima. -/
def maxima (xb : Memref sig .tc .vmem S4096x256 .bf16) (wk : Memref sig .tc .vmem S256x8192 .bf16) (d : Dev nD) :
    P F (Vec F S16x128 .f32) := do
  let (v0, a0, b0) ← rsLast xb wk d 0
  let (v2, a2, b2) ← rsLast xb wk d 2
  let (v1, a1, b1) ← rsLast xb wk d 1
  let (v3, a3, b3) ← rsLast xb wk d 3
  let _ ← Prog.lift (.load am (Rect.unit (s := S16x128) (k0_off4 d) S1x128.size (k0_off4_inb d)).toLoadRect
    (View.loadsAt_vmem h_S1x128))
  Prog.lift (.store am (Rect.unit (s := S16x128) (k0_off4 d) S1x128.size (k0_off4_inb d))
    (rowOf (maxOf v0 a0 b0) (maxOf v2 a2 b2) (maxOf v1 a1 b1) v3 a3 b3) Finset.univ
    (View.stores_vmem_bits_univ h_S1x128 rfl) (.inl rfl))
  forL [0, 1, 2, 3, 4, 5, 6, 7, 8, 9, 10, 11, 12, 13, 14] (amSend d)
  forL [0, 1, 2, 3, 4, 5, 6, 7, 8, 9, 10, 11, 12, 13, 14] (amRecv d)
  forL [0, 1, 2, 3, 4, 5, 6, 7, 8, 9, 10, 11, 12, 13, 14] (amSent d)
  Prog.lift (.load am (Rect.unit (s := S16x128) ![0, 0] S16x128.size inb_S16x128_S16x128_0_0).toLoadRect
    (View.loadsAt_vmem h_S16x128))

/-- The ring's second half. -/
def gather (v : Vec F S16x128 .f32) (d : Dev nD) : P F PUnit := do
  forL lanes (agStart (invOf v) d)
  forL lanes fun X => stage (scaleOf v) d X 0 (by decide)
  forL lanes (agFirst (scaleOf v) d)
  forL [1, 2, 3, 4, 5, 6, 7, 8, 9, 10, 11, 12, 13] fun g => forL lanes fun X => agStep (scaleOf v) d g X
  forL lanes (agLast (scaleOf v) d)
  forL lanes fun X => stored d X 14 (by decide) >>= fun _ => stored d X 15 (by decide)

/-- The body. -/
def body (xb : Memref sig .tc .vmem S4096x256 .bf16) (wk : Memref sig .tc .vmem S256x8192 .bf16) : P F PUnit := do
  let d ← Prog.lift .deviceId
  barrier d
  reduce xb wk d
  let v ← maxima xb wk d
  gather v d

end Cert.KernelIdeal.Ring

end
-- ==== Proof.Ring.Cells.lean ====
/- The ring's semaphores as one finite type of cells (`Cl`), the neighbours as permutations of the devices, and the
   payments a device makes to other devices' cells, in the order it makes them (`allPays`), with their levels. -/
module

public import proofs.«01_k».proof.Proof.Ring.Body

@[expose] public section

noncomputable section

namespace Cert.KernelIdeal.Ring

open Idealize.ShloMosaic Idealize.ShloMosaic.TcCoe Idealize.SL.Sem Cert.KernelIdeal.Gen

/-- A lane's cells: the credit of the reduce-scatter and of the all-gather, their arrivals and departures by slot, the
    stores of the result by slot. -/
inductive LC | rc | gc | ra (s : Fin 2) | rd (s : Fin 2) | ga (s : Fin 3) | gd (s : Fin 3) | so (s : Fin 2)
  deriving DecidableEq
/-- A device's cells: the barrier, the lanes' cells, the departures and the arrivals of the maxima. -/
inductive Cl | bar | ln (X : Fin 4) (k : LC) | ms (j : Fin 16) | mr (j : Fin 16)
  deriving DecidableEq

/-- A lane cell's semaphore. -/
def LC.sem (X : Fin 4) : LC → SemLoc sig
  | .rc => .reg (rsCrd X).sem
  | .gc => .reg (agCrd X).sem
  | .ra s => .dma (sem2 (rsRcv X) s)
  | .rd s => .dma (sem2 (rsSnd X) s)
  | .ga s => .dma (sem3 (agRcv X) s)
  | .gd s => .dma (sem3 (agSnd X) s)
  | .so s => .dma (sem2 (stSnd X) s)

/-- A cell's semaphore. -/
def Cl.sem : Cl → SemLoc sig
  | .bar => .reg barS
  | .ln X k => k.sem X
  | .ms j => .dma (sem16 cc0_scratch45 j)
  | .mr j => .dma (sem16 cc0_scratch46 j)

/-- A lane's cells, listed. -/
def LC.all : List LC := [.rc, .gc, .ra 0, .ra 1, .rd 0, .rd 1, .ga 0, .ga 1, .ga 2, .gd 0, .gd 1, .gd 2, .so 0, .so 1]
/-- The exchange's indices. -/
def j16 : List (Fin 16) := [0, 1, 2, 3, 4, 5, 6, 7, 8, 9, 10, 11, 12, 13, 14, 15]
/-- A device's cells but the barrier, listed. -/
def Cl.own : List Cl := (lanes.flatMap fun X => LC.all.map (Cl.ln X)) ++ (j16.map Cl.ms ++ j16.map Cl.mr)
/-- A device's cells, listed. -/
def Cl.all : List Cl := .bar :: Cl.own

theorem LC.mem_all : ∀ k : LC, k ∈ LC.all
  | .rc => by decide
  | .gc => by decide
  | .ra s => by revert s; decide
  | .rd s => by revert s; decide
  | .ga s => by revert s; decide
  | .gd s => by revert s; decide
  | .so s => by revert s; decide
theorem lanes_mem : ∀ X : Fin 4, X ∈ lanes := by decide
theorem j16_mem : ∀ j : Fin 16, j ∈ j16 := by decide
theorem Cl.mem_all : ∀ k : Cl, k ∈ Cl.all
  | .bar => List.mem_cons_self
  | .ln X k => List.mem_cons_of_mem _ (List.mem_append_left _
      (List.mem_flatMap.mpr ⟨X, lanes_mem X, List.mem_map.mpr ⟨k, LC.mem_all k, rfl⟩⟩))
  | .ms j => List.mem_cons_of_mem _ (List.mem_append_right _ (List.mem_append_left _ (List.mem_map.mpr ⟨j, j16_mem j, rfl⟩)))
  | .mr j => List.mem_cons_of_mem _ (List.mem_append_right _ (List.mem_append_right _ (List.mem_map.mpr ⟨j, j16_mem j, rfl⟩)))

theorem Cl.all_nodup : Cl.all.Nodup := by decide +kernel
theorem Cl.own_nodup : Cl.own.Nodup := (List.nodup_cons.mp Cl.all_nodup).2

instance : Fintype Cl := ⟨⟨Cl.all, Cl.all_nodup⟩, Cl.mem_all⟩

theorem Cl.sem_inj : Function.Injective Cl.sem := by
  have h : ∀ a b : Cl, a.sem = b.sem → a = b := by decide +kernel
  exact fun a b => h a b

/-! ## The neighbours -/

/-- The device `n` places to the right. -/
def sh (c : Dev nD) (n : ℕ) : Dev nD := ⟨(c.val + n) % 16, Nat.mod_lt _ (by decide)⟩

theorem devL_R (c : Dev nD) : devL (devR c) = c := by revert c; decide +kernel
theorem devR_L (c : Dev nD) : devR (devL c) = c := by revert c; decide +kernel
theorem devR_eq (c : Dev nD) : devR c = sh c 1 := by revert c; decide +kernel
theorem devL_eq (c : Dev nD) : devL c = sh c 15 := by revert c; decide +kernel
theorem devJ_eq (c : Dev nD) (j : Fin 15) : devJ c j = sh c (j.val + 1) := by revert c j; decide +kernel
theorem from_to : ∀ (X : Fin 4) (c : Dev nD), devFrom X (devTo X c) = c
  | 0, c => devL_R c
  | 1, c => devL_R c
  | 2, c => devR_L c
  | 3, c => devR_L c
theorem to_from : ∀ (X : Fin 4) (c : Dev nD), devTo X (devFrom X c) = c
  | 0, c => devR_L c
  | 1, c => devR_L c
  | 2, c => devL_R c
  | 3, c => devL_R c

/-- Where lane `X` sends, as a permutation. -/
def toE (X : Fin 4) : Dev nD ≃ Dev nD := ⟨devTo X, devFrom X, from_to X, to_from X⟩
/-- Where lane `X` receives from. -/
def frE (X : Fin 4) : Dev nD ≃ Dev nD := (toE X).symm
/-- The right neighbour, as a permutation. -/
def rE : Dev nD ≃ Dev nD := ⟨devR, devL, devL_R, devR_L⟩

theorem sh_back (c : Dev nD) (j : Fin 15) : sh (devJ c j) (15 - j.val) = c := by revert c j; decide +kernel
theorem sh_forth (c : Dev nD) (j : Fin 15) : devJ (sh c (15 - j.val)) j = c := by revert c j; decide +kernel
/-- `j + 1` places to the right, as a permutation. -/
def jE (j : Fin 15) : Dev nD ≃ Dev nD :=
  ⟨fun c => devJ c j, fun c => sh c (15 - j.val), fun c => sh_back c j, fun c => sh_forth c j⟩

/-! ## The amounts -/

/-- What a narrow chunk's copy pays. -/
def NB : ℕ := (chunk2 (wb 0) 0).view.dmaCredit
/-- What a wide chunk's copy pays. -/
def NF : ℕ := (chunk2 (wf 0) 0).view.dmaCredit
/-- What a quantised chunk's copy pays. -/
def NQ : ℕ := (chunk3 (ag 0) 0).view.dmaCredit
/-- What a store into the result pays. -/
def NO : ℕ := (outChunk 0 0 0 (by decide)).view.dmaCredit
/-- What a row of the maxima pays. -/
def NM : ℕ := (amOwn 0).view.dmaCredit

theorem credit_wb (X : Fin 4) (s : Fin 2) : (chunk2 (wb X) s).view.dmaCredit = NB := by
  revert X s; intro X; fin_cases X <;> intro s <;> rfl
theorem credit_wf (X : Fin 4) (s : Fin 2) : (chunk2 (wf X) s).view.dmaCredit = NF := by
  revert X s; intro X; fin_cases X <;> intro s <;> rfl
theorem credit_ag (X : Fin 4) (s : Fin 3) : (chunk3 (ag X) s).view.dmaCredit = NQ := by
  revert X s; intro X; fin_cases X <;> intro s <;> rfl
theorem credit_out (X : Fin 4) (d : Dev nD) (k : ℕ) (hk : k < 16) : (outChunk X d k hk).view.dmaCredit = NO := rfl
theorem credit_amOwn (d : Dev nD) : (amOwn d).view.dmaCredit = NM := rfl
theorem credit_amFrom (d : Dev nD) (j : Fin 15) : (amFrom d j).view.dmaCredit = NM := rfl
theorem NB_pos : 0 < NB := by decide
theorem NF_pos : 0 < NF := by decide
theorem NQ_pos : 0 < NQ := by decide
theorem NO_pos : 0 < NO := by decide
theorem NM_pos : 0 < NM := by decide

/-- What round `r` of a cell waits for. -/
def amt : Cl → ℕ → ℕ
  | .bar, _ => 1
  | .ln _ .rc, _ => 1
  | .ln _ .gc, _ => 1
  | .ln _ (.ra s), r => if 2 * r + (1 - s.val) < 11 then NB else NF
  | .ln _ (.rd s), r => if 2 * r + s.val < 11 then NB else NF
  | .ln _ (.ga _), _ => NQ
  | .ln _ (.gd _), _ => NQ
  | .ln _ (.so _), _ => NO
  | .ms _, _ => NM
  | .mr _, _ => NM

theorem amt_pos (k : Cl) (r : ℕ) : 0 < amt k r := by
  unfold amt
  split <;> first | exact Nat.one_pos | exact NQ_pos | exact NO_pos | exact NM_pos | (split; exact NB_pos; exact NF_pos)

/-- How many rounds a cell has. -/
def rounds : Cl → ℕ
  | .bar => 1
  | .ln _ .rc => 14
  | .ln _ .gc => 14
  | .ln _ (.ra s) => 7 + s.val
  | .ln _ (.rd s) => 8 - s.val
  | .ln _ (.ga _) => 5
  | .ln _ (.gd _) => 5
  | .ln _ (.so _) => 8
  | .ms j => if j = 0 then 0 else 1
  | .mr j => if j = 0 then 0 else 1

/-- A cell's duties in a round. -/
def duties (k : Cl) (r : ℕ) : Finset Bool := if r < rounds k then (if k = .bar then Finset.univ else {false}) else ∅

/-! ## The payments -/

/-- A payment: the cell it goes to and on which device, the round and the duty, and its level. -/
structure Pay where
  /-- The device it goes to. -/
  dst : Dev nD ≃ Dev nD
  /-- The cell. -/
  k : Cl
  /-- The round. -/
  r : ℕ
  /-- The duty. -/
  d : Bool
  /-- The level. -/
  lvl : ℕ

/-- A lane's place in the kernel's order. -/
def pos : Fin 4 → ℕ := ![0, 2, 1, 3]

/-- Lane `X`'s credit of step `h` of the reduce-scatter. -/
def crdP (X : Fin 4) (h : ℕ) : Pay := ⟨frE X, .ln X .rc, h, false, 8 * h + 2 * pos X + 10⟩
/-- Lane `X`'s arrival `n` of the reduce-scatter. -/
def arrP (X : Fin 4) (n : ℕ) : Pay := ⟨toE X, .ln X (.ra (sl2 (n + 1))), n / 2, false, 8 * n + 2 * pos X + 3⟩
/-- The row of the maxima, `j + 1` places to the right. -/
def rowP (j : Fin 15) : Pay := ⟨jE j, .mr j.succ, 0, false, 130 + j.val⟩
/-- Lane `X`'s credit of step `g` of the all-gather. -/
def gcrP (X : Fin 4) (g : ℕ) : Pay := ⟨frE X, .ln X .gc, g, false, 8 * g + 2 * pos X + 158⟩
/-- Lane `X`'s arrival `m` of the all-gather. -/
def garP (X : Fin 4) (m : ℕ) : Pay := ⟨toE X, .ln X (.ga (sl3 (m + 1))), m / 3, false, 8 * m + 2 * pos X + 151⟩

/-- Step `h`'s payments of lane `X`. -/
def rsPays (h : ℕ) (X : Fin 4) : List Pay := [crdP X h, arrP X (h + 1)]
/-- Step `g`'s payments of lane `X`. -/
def agPays (g : ℕ) (X : Fin 4) : List Pay := [gcrP X g, garP X (g + 1)]
/-- The fifteen offsets. -/
def j15 : List (Fin 15) := [0, 1, 2, 3, 4, 5, 6, 7, 8, 9, 10, 11, 12, 13, 14]

/-- The payments from step `g` of the all-gather on. -/
def agTail (g : ℕ) : List Pay := (List.range' g (14 - g)).flatMap fun g => lanes.flatMap (agPays g)
/-- The payments of the all-gather. -/
def agAll : List Pay := (lanes.flatMap fun X => [garP X 0]) ++ agTail 0
/-- The payments from the exchange of the maxima on. -/
def mxAll : List Pay := (j15.flatMap fun j => [rowP j]) ++ agAll
/-- The payments from step `h` of the reduce-scatter on. -/
def rsTail (h : ℕ) : List Pay := ((List.range' h (14 - h)).flatMap fun h => lanes.flatMap (rsPays h)) ++ mxAll
/-- The payments after the barrier. -/
def rsAll : List Pay := (lanes.flatMap fun X => [arrP X 0]) ++ rsTail 0
/-- The barrier's payments: to the left, whose right neighbour this is; to the right. -/
def barL : Pay := ⟨rE.symm, .bar, 0, false, 1⟩
def barR : Pay := ⟨rE, .bar, 0, true, 1⟩
/-- All payments to other devices. -/
def allPays : List Pay := barL :: barR :: rsAll

/-- What a device owes of a list of payments. -/
def owed (c : Dev nD) : List Pay → CellTallies nD τ sig ℕ
  | [] => 0
  | p :: l => owed c l + tallyAt ((p.dst c : Thread nD τ), p.k.sem) p.lvl (amt p.k p.r)

/-- Every payment of the list is above a level. -/
def Above (n : ℕ) (l : List Pay) : Prop := ∀ p ∈ l, n < p.lvl ∧ p.lvl < 300

end Cert.KernelIdeal.Ring

end
-- ==== Proof.Ring.Sched.lean ====
/- What the ring computes on the way (`pB`, `pF`, `maxs`, `qv`, `OUT`), and the schedule of its semaphores: what each
   round of each cell hands over, with the contents. -/
module

public import proofs.«01_k».proof.Proof.Ring.Cells
public import proofs.«01_k».proof.Proof.Gen.KernelIdeal.Launch

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

/-! ## What is computed -/

/-- The staged rows of `x` and of `w`. -/
abbrev xM : Memref sig .tc .vmem S4096x256 .bf16 := Memref.whole cc0_stg0_0
abbrev wM : Memref sig .tc .vmem S256x8192 .bf16 := Memref.whole cc0_stg1_0

section Values

variable (xs : Dev nD → Vec F S4096x256 .bf16) (ws : Dev nD → Vec F S256x8192 .bf16)

/-- The rows of `x` of the device's own number. -/
def x0 (c : Dev nD) : Vec F S256x256 .bf16 :=
  (xM.access (Rect.unit (s := S4096x256) (k0_off1 c) S256x256.size (k0_off1_inb c))).read (Elt F) (xs c)
/-- The rows of `x` lane `X` multiplies at step `h`. -/
def xAt (X : Fin 4) (h : Fin 15) (c : Dev nD) : Vec F S256x256 .bf16 :=
  (xM.access (Rect.unit (s := S4096x256) (xoff X c h) S256x256.size (xoff_inb X c h))).read (Elt F) (xs c)
/-- Lane `X`'s columns of `w`. -/
def wAt (X : Fin 4) (c : Dev nD) : Vec F S256x2048 .bf16 :=
  (wM.access (Rect.unit (s := S256x8192) ![0, 2048 * X.val] S256x2048.size (wcol_inb X))).read (Elt F) (ws c)

/-- A step's number. -/
def stp (n : ℕ) : Fin 15 := ⟨n % 15, Nat.mod_lt _ (by decide)⟩

/-- The running sum lane `X` of device `c` sends as number `n`, while narrow. -/
def pB (X : Fin 4) : ℕ → Dev nD → Vec F S1x256x2048 .bf16
  | 0, c => seedOf (x0 xs c) (wAt ws X c)
  | n + 1, c => sumBB (pB X n (devFrom X c)) (xAt xs X (stp n) c) (wAt ws X c)
/-- The running sum lane `X` of device `c` sends as number `11 + k`, wide; at `k = 4` the whole sum. -/
def pF (X : Fin 4) : ℕ → Dev nD → Vec F S1x256x2048 .f32
  | 0, c => sumBF (pB xs ws X 10 (devFrom X c)) (xAt xs X 10 c) (wAt ws X c)
  | k + 1, c => sumFF (pF X k (devFrom X c)) (xAt xs X (stp (11 + k)) c) (wAt ws X c)

/-- Lane `X`'s greatest magnitude on device `c`. -/
def mxOf (X : Fin 4) (c : Dev nD) : F .f32 := maxOf (pF xs ws X 3 (devFrom X c)) (xAt xs X 14 c) (wAt ws X c)
/-- Device `c`'s row of the maxima. -/
def mrow (c : Dev nD) : Vec F S1x128 .f32 :=
  rowOf (mxOf xs ws 0 c) (mxOf xs ws 2 c) (mxOf xs ws 1 c) (pF xs ws 3 3 (devFrom 3 c)) (xAt xs 3 14 c) (wAt ws 3 c)
/-- The maxima, all devices'. -/
def maxs : Vec F S16x128 .f32 := fun i => mrow xs ws ⟨(i 0).val, (i 0).isLt⟩ fun | 0 => ⟨0, by decide⟩ | 1 => i 1
/-- The chunk lane `X` of device `c` sends as number `m` of the all-gather. -/
def qv (X : Fin 4) : ℕ → Dev nD → Vec F S1x256x2048 .fp8e4m3
  | 0, c => quant (invOf (maxs xs ws)) (pF xs ws X 4 c)
  | m + 1, c => qv X m (devFrom X c)

/-- The device that sums block `b` of lane `X`. -/
def owner (X : Fin 4) (b : Fin 16) : Dev nD := if X.val < 2 then sh b 15 else sh b 1
/-- The result. -/
def OUT : Vec F S4096x8192 .bf16 := fun i =>
  deq (scaleOf (maxs xs ws))
    (qv xs ws ⟨(i 1).val / 2048, Nat.div_lt_of_lt_mul (i 1).isLt⟩ 0
      (owner ⟨(i 1).val / 2048, Nat.div_lt_of_lt_mul (i 1).isLt⟩ ⟨(i 0).val / 256, Nat.div_lt_of_lt_mul (i 0).isLt⟩))
    fun
      | 0 => ⟨0, by decide⟩
      | 1 => ⟨(i 0).val % 256, Nat.mod_lt _ (by decide)⟩
      | 2 => ⟨(i 1).val % 2048, Nat.mod_lt _ (by decide)⟩

end Values

/-! ## The algebra -/

abbrev UB : Type := URounds (GSem nD τ sig) Bool
abbrev UU : Type := UR sig nD τ × UB
local notation "𝕄" => MT nD τ sig ℕ (Elt F) ℕ UU ℕ
abbrev EP : Emb (UR sig nD τ) (MT nD τ sig ℕ (Elt F) ℕ UU ℕ) := embL
abbrev ER : Emb UB (MT nD τ sig ℕ (Elt F) ℕ UU ℕ) := embR

/-- A device's cell. -/
abbrev cell (ck : Dev nD × Cl) : GSem nD τ sig := ((ck.1 : Thread nD τ), ck.2.sem)

theorem cell_inj : Function.Injective cell := by
  rintro ⟨c, k⟩ ⟨c', k'⟩ h
  have h1 : (c : Thread nD τ) = (c' : Thread nD τ) := congrArg Prod.fst h
  have h2 : k.sem = k'.sem := congrArg Prod.snd h
  rw [Cl.sem_inj h2, (Prod.mk.inj h1).1]

/-! ## The pieces handed over -/

/-- A rectangle of a buffer at some contents read as `v`. -/
def holds {s : Shape} {e : EltTy} (m : Memref sig .tc .vmem s e) (r : Rect s) (c : Dev nD) (q : PosShare TreeShare)
    (v : r.shape.Idx → Elt F e) : sProp 𝕄 :=
  iprop(∃ f, ⌜(m.access r).read (Elt F) f = v⌝ ∗ ((m.access r).loc (c : Thread nD τ) ↦[(m.access r).set]{q} f))
/-- A rectangle of a buffer at any contents. -/
def any {s : Shape} {e : EltTy} (m : Memref sig .tc .vmem s e) (r : Rect s) (c : Dev nD) (q : PosShare TreeShare) : sProp 𝕄 :=
  iprop(∃ f, ((m.access r).loc (c : Thread nD τ) ↦[(m.access r).set]{q} f))

omit [FloatOps F] in
instance holds_storable {s : Shape} {e : EltTy} (m : Memref sig .tc .vmem s e) (r : Rect s) (c : Dev nD) (q : PosShare TreeShare)
    (v : r.shape.Idx → Elt F e) : BI.Storable (upEmb : UEmb _ 𝕄) (holds m r c q v) := by unfold holds; infer_instance
omit [FloatOps F] in
instance any_storable {s : Shape} {e : EltTy} (m : Memref sig .tc .vmem s e) (r : Rect s) (c : Dev nD) (q : PosShare TreeShare) :
    BI.Storable (upEmb : UEmb _ 𝕄) (any (F := F) m r c q) := by unfold any; infer_instance

omit [FloatOps F] in
theorem holds_any {s : Shape} {e : EltTy} (m : Memref sig .tc .vmem s e) (r : Rect s) (c : Dev nD) (q : PosShare TreeShare)
    (v : r.shape.Idx → Elt F e) : holds m r c q v ⊢ any m r c q := by
  unfold holds any
  iintro ⟨%f, -, H⟩
  iexists f
  iexact H

section Payloads

variable (xs : Dev nD → Vec F S4096x256 .bf16) (ws : Dev nD → Vec F S256x8192 .bf16)

/-- Slot `s` of lane `X`'s sums on `c`, of the kind sum `n` has, at any contents. -/
def slotAny (X : Fin 4) (n : ℕ) (s : Fin 2) (c : Dev nD) : sProp 𝕄 :=
  if n < 11 then any (wb X) (slot2 s) c fullShare else any (wf X) (slot2 s) c fullShare
/-- The same at sum `n` of device `d`. -/
def slotN (X : Fin 4) (n : ℕ) (s : Fin 2) (c d : Dev nD) : sProp 𝕄 :=
  if n < 11 then holds (wb X) (slot2 s) c fullShare (pB xs ws X n d)
  else holds (wf X) (slot2 s) c fullShare (pF xs ws X (n - 11) d)

/-- Some rows of the maxima. -/
def rowsOf (R : Finset (Fin 16)) : Finset S16x128.Idx :=
  Finset.univ.filter fun i => (⟨(i 0).val, (i 0).isLt⟩ : Fin 16) ∈ R
/-- Some rows of device `c`'s buffer of the maxima, at any contents. -/
def amAny (c : Dev nD) (R : Finset (Fin 16)) : sProp 𝕄 :=
  iprop(∃ f, (am.view.loc (c : Thread nD τ) ↦[rowsOf R]{fullShare} f))
/-- The same at the maxima. -/
def amRow (c : Dev nD) (R : Finset (Fin 16)) (q : PosShare TreeShare) : sProp 𝕄 :=
  (am.view.loc (c : Thread nD τ) ↦[rowsOf R]{q} maxs xs ws)
/-- The rows of the buffer `h + 1` places to the right that come to `c` with credit `h - 1`. -/
def poolRows (c : Dev nD) (h : ℕ) : Finset (Fin 16) :=
  Finset.univ.filter fun r => (c.val + 16 - r.val) % 16 < 15 - h
def pool (c : Dev nD) (h : ℕ) : sProp 𝕄 := amAny (F := F) (sh c (h + 1)) (poolRows c h)

/-- What is left of a share after `n` pieces. -/
def rest : ℕ → PosShare TreeShare
  | 0 => fullShare
  | n + 1 => (rest n).right
/-- Piece `n`. -/
def piece (n : ℕ) : PosShare TreeShare := (rest n).left

/-- Chunk `k` of lane `X` of device `c`'s result, done. -/
def outDone (X : Fin 4) (c : Dev nD) (k : ℕ) : sProp 𝕄 :=
  if hk : k < 16 then ((outChunk X c k hk).view.loc (c : Thread nD τ) ↦[(outChunk X c k hk).view.set]{fullShare} OUT xs ws) else iprop(emp)
/-- The same, before. -/
def outAny (X : Fin 4) (c : Dev nD) (k : ℕ) : sProp 𝕄 :=
  if hk : k < 16 then iprop(∃ f, ((outChunk X c k hk).view.loc (c : Thread nD τ) ↦[(outChunk X c k hk).view.set]{fullShare} f)) else iprop(emp)

/-- Lane `X`'s first landing slots on `c`. -/
def laneOpen (X : Fin 4) (c : Dev nD) : sProp 𝕄 :=
  iprop(any (F := F) (wb X) (slot2 1) c fullShare ∗ any (F := F) (ag X) (slot3 1) c fullShare)

/-- What duty `d` of round `r` of a lane's cell on `c` hands over. -/
def lpay (c : Dev nD) (X : Fin 4) : LC → ℕ → sProp 𝕄
  | .rc, h => iprop(slotAny X (h + 1) (sl2 h) (devTo X c) ∗ reached ER (cell (devTo X c, .ln X (.ra (sl2 h)))) ((h + 1) / 2)
      ∗ (if X = 0 then pool c (h + 1) else iprop(emp)))
  | .gc, g => iprop(any (ag X) (slot3 (sl3 (g + 2))) (devTo X c) fullShare
      ∗ reached ER (cell (devTo X c, .ln X (.ga (sl3 (g + 2))))) ((g + 1) / 3))
  | .ra s, r => iprop(slotN xs ws X (2 * r + (1 - s.val)) s c (devFrom X c)
      ∗ reached ER (cell (devFrom X c, .ln X .rc)) (2 * r + (1 - s.val)))
  | .rd s, r => slotAny X (2 * r + s.val) s c
  | .ga s, r => iprop(holds (ag X) (slot3 s) c fullShare (qv xs ws X (3 * r + (s.val + 2) % 3) (devFrom X c))
      ∗ reached ER (cell (devFrom X c, .ln X .gc)) (3 * r + (s.val + 2) % 3))
  | .gd s, _ => any (ag X) (slot3 s) c fullShare.left
  | .so s, r => iprop(any (st X) (slot2 s) c fullShare ∗ outDone xs ws X c (2 * r + s.val))

/-- What duty `d` of round `r` of a cell on `c` hands over. -/
def pay (c : Dev nD) : Cl → ℕ → Bool → sProp 𝕄
  | .bar, _, false => iprop(laneOpen 0 (devR c) ∗ laneOpen 1 (devR c) ∗ pool c 0)
  | .bar, _, true => iprop(laneOpen 2 (devL c) ∗ laneOpen 3 (devL c))
  | .ln X k, r, _ => lpay xs ws c X k r
  | .ms j, _, _ => amRow xs ws c {c} (piece (j.val - 1))
  | .mr j, _, _ => amRow xs ws c {sh c (16 - j.val)} fullShare

omit [FloatOps F] in
instance slotAny_storable (X : Fin 4) (n : ℕ) (s : Fin 2) (c : Dev nD) :
    BI.Storable (upEmb : UEmb _ 𝕄) (slotAny (F := F) X n s c) := by unfold slotAny; split <;> infer_instance
instance slotN_storable (X : Fin 4) (n : ℕ) (s : Fin 2) (c d : Dev nD) :
    BI.Storable (upEmb : UEmb _ 𝕄) (slotN xs ws X n s c d) := by unfold slotN; split <;> infer_instance
omit [FloatOps F] in
instance pool_storable (c : Dev nD) (h : ℕ) :
    BI.Storable (upEmb : UEmb _ 𝕄) (pool (F := F) c h) := by unfold pool amAny; infer_instance
omit [FloatOps F] in
instance laneOpen_storable (X : Fin 4) (c : Dev nD) :
    BI.Storable (upEmb : UEmb _ 𝕄) (laneOpen (F := F) X c) := by unfold laneOpen; infer_instance
instance outDone_storable (X : Fin 4) (c : Dev nD) (k : ℕ) :
    BI.Storable (upEmb : UEmb _ 𝕄) (outDone xs ws X c k) := by unfold outDone; split <;> infer_instance
instance amRow_storable (c : Dev nD) (R : Finset (Fin 16)) (q : PosShare TreeShare) :
    BI.Storable (upEmb : UEmb _ 𝕄) (amRow xs ws c R q) := by unfold amRow; infer_instance

instance lpay_storable (c : Dev nD) (X : Fin 4) (k : LC) (r : ℕ) :
    BI.Storable (upEmb : UEmb _ 𝕄) (lpay xs ws c X k r) := by
  unfold lpay
  split
  · haveI : BI.Storable (upEmb : UEmb _ 𝕄) (if X = 0 then pool (F := F) c (r + 1) else iprop(emp)) := by
      split <;> infer_instance
    infer_instance
  all_goals infer_instance
instance pay_storable (c : Dev nD) (k : Cl) (r : ℕ) (d : Bool) :
    BI.Storable (upEmb : UEmb _ 𝕄) (pay xs ws c k r d) := by
  unfold pay
  split <;> infer_instance

/-- The schedule. -/
def Rd : Rounds.Schedule (GSem nD τ sig) Bool 𝕄 where
  duties g r := Function.extend cell (fun ck => duties ck.2 r) (fun _ => ∅) g
  unitless _ := False
  amount g r _ := Function.extend cell (fun ck => amt ck.2 r) (fun _ => 1) g
  payload g r d := Function.extend cell (fun ck => pay xs ws ck.1 ck.2 r d) (fun _ => iprop(emp)) g
  amount_pos g r _ _ := by
    by_cases h : ∃ ck, cell ck = g
    · obtain ⟨ck, rfl⟩ := h
      rw [cell_inj.extend_apply]
      exact amt_pos _ _
    · rw [Function.extend_apply' _ _ _ h]
      exact Nat.one_pos

instance Rd_payload_storable (g : GSem nD τ sig) (r : ℕ) (d : Bool) :
    BI.Storable (upEmb : UEmb _ 𝕄) ((Rd xs ws).payload g r d) := by
  show BI.Storable upEmb (Function.extend cell (fun ck => pay xs ws ck.1 ck.2 r d) (fun _ => iprop(emp)) g)
  by_cases h : ∃ ck, cell ck = g
  · obtain ⟨ck, rfl⟩ := h
    rw [cell_inj.extend_apply]
    infer_instance
  · rw [Function.extend_apply' _ _ _ h]
    infer_instance

theorem Rd_duties (c : Dev nD) (k : Cl) (r : ℕ) : (Rd xs ws).duties (cell (c, k)) r = duties k r :=
  cell_inj.extend_apply (fun ck : Dev nD × Cl => duties ck.2 r) (fun _ => ∅) (c, k)
theorem Rd_amount (c : Dev nD) (k : Cl) (r : ℕ) (d : Bool) : (Rd xs ws).amount (cell (c, k)) r d = amt k r :=
  cell_inj.extend_apply (fun ck : Dev nD × Cl => amt ck.2 r) (fun _ => 1) (c, k)
theorem Rd_payload (c : Dev nD) (k : Cl) (r : ℕ) (d : Bool) : (Rd xs ws).payload (cell (c, k)) r d = pay xs ws c k r d :=
  cell_inj.extend_apply (fun ck : Dev nD × Cl => pay xs ws ck.1 ck.2 r d) (fun _ => iprop(emp)) (c, k)

theorem duties_one {k : Cl} {r : ℕ} (hk : k ≠ .bar) (hr : r < rounds k) : duties k r = {false} := by
  unfold duties; rw [if_pos hr, if_neg hk]
theorem duties_none {k : Cl} {r : ℕ} (hr : rounds k ≤ r) : duties k r = ∅ := if_neg (by omega)

theorem Rd_expect_one (c : Dev nD) {k : Cl} {r : ℕ} (hk : k ≠ .bar) (hr : r < rounds k) :
    (Rd xs ws).expect (cell (c, k)) r = amt k r := by
  unfold Schedule.expect Schedule.amountOf
  rw [Rd_duties, duties_one hk hr, Finset.sum_singleton]
  exact Rd_amount xs ws c k r false
theorem Rd_expect_bar (c : Dev nD) : (Rd xs ws).expect (cell (c, .bar)) 0 = 2 := by
  unfold Schedule.expect Schedule.amountOf
  rw [Rd_duties]
  exact (Finset.sum_congr rfl fun d _ => Rd_amount xs ws c .bar 0 d).trans rfl

end Payloads

end Cert.KernelIdeal.Ring

end
-- ==== Proof.Ring.Rules.lean ====
/- The rules of the run in the ring's own terms: what a device still owes is a list of payments (`T`), its place in a
   cell is `pos`, and a wait, a signal and a transfer each take the next payment off the list. -/
module

public import proofs.«01_k».proof.Proof.Ring.Sched

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

abbrev 𝒱₀ : Variants := Variants.none

/-- A program of device `c` run to a postcondition. -/
abbrev WP {α : Type} (c : Dev nD) (p : P F α) (Q : α → sProp 𝕄) : sProp 𝕄 :=
  wp frame (wpE (defs₀ (F := F)) 𝒱₀ (c : Thread nD τ) none) Set.univ p Q

/-! ## Levels -/

/-- The stamps of the devices' cores. -/
def Lv (g : GSem nD τ sig) : Finset ℕ := if g.1.2 = .tc then Finset.range 300 else ∅
/-- A stamp's level is itself. -/
def lv (_ : GSem nD τ sig) (n : ℕ) : ℕ := n

theorem owed_pos {c : Dev nD} {l : List Pay} {g : GSem nD τ sig} {n : ℕ} (h : 0 < owed c l g n) :
    ∃ p ∈ l, g = ((p.dst c : Thread nD τ), p.k.sem) ∧ n = p.lvl := by
  induction l with
  | nil => exact absurd h (Nat.lt_irrefl 0)
  | cons p l ih =>
    rw [owed, Pi.add_apply, Finsupp.add_apply, tallyAt_apply] at h
    by_cases hp : g = ((p.dst c : Thread nD τ), p.k.sem) ∧ n = p.lvl
    · exact ⟨p, List.mem_cons_self, hp⟩
    · rw [if_neg hp, Nat.add_zero] at h
      obtain ⟨p', hp', h'⟩ := ih h
      exact ⟨p', List.mem_cons_of_mem _ hp', h'⟩

omit [FloatOps F] in
theorem mayWait (c : Dev nD) (s : SemLoc sig) {n : ℕ} (hn : n < 300) {l : List Pay} (hl : Above n l) :
    (levAts Lv lv : sProp 𝕄) ⊢ MayWait (c : Thread nD τ) s n (owed c l) := by
  refine Pipeline.mayWait_of_levAts ?_ ?_
  · unfold Lv; rw [if_pos rfl]; exact Finset.mem_range.mpr hn
  · intro g i hg
    obtain ⟨p, hp, rfl, rfl⟩ := owed_pos hg
    refine ⟨?_, (hl p hp).1⟩
    unfold Lv; rw [if_pos rfl]; exact Finset.mem_range.mpr (hl p hp).2

section Rules

variable (xs : Dev nD → Vec F S4096x256 .bf16) (ws : Dev nD → Vec F S256x8192 .bf16)
variable (K : Dev nD × Cl → ℕ)

/-- What every device has at hand throughout: the cells' invariants, that every cell's first round is open, the levels. -/
def ctx : sProp 𝕄 :=
  iprop((bigSep Finset.univ fun ck : Dev nD × Cl => cellInv ER (Rd xs ws) (K ck) (cell ck))
    ∗ (bigSep Finset.univ fun ck : Dev nD × Cl => reached ER (cell ck) 0) ∗ levAts Lv lv)

instance ctx_persistent : BI.Persistent (ctx xs ws K) := by unfold ctx; infer_instance

theorem inv_at (ck : Dev nD × Cl) :
    (bigSep Finset.univ fun ck : Dev nD × Cl => (cellInv ER (Rd xs ws) (K ck) (cell ck) : sProp 𝕄)) ⊢ cellInv ER (Rd xs ws) (K ck) (cell ck) :=
  bigSep_elim (Finset.mem_univ ck)
omit [FloatOps F] in
theorem reached_at (ck : Dev nD × Cl) :
    (bigSep Finset.univ fun ck : Dev nD × Cl => (reached ER (cell ck) 0 : sProp 𝕄)) ⊢ reached ER (cell ck) 0 :=
  bigSep_elim (Finset.mem_univ ck)

theorem ctx_inv (ck : Dev nD × Cl) : ctx xs ws K ⊢ cellInv ER (Rd xs ws) (K ck) (cell ck) := by
  unfold ctx
  iintro ⟨H, -⟩
  iapply (inv_at xs ws K ck) $$ H
theorem ctx_reached (ck : Dev nD × Cl) : ctx xs ws K ⊢ reached ER (cell ck) 0 := by
  unfold ctx
  iintro ⟨-, H, -⟩
  iapply (reached_at ck) $$ H
theorem ctx_lev : ctx xs ws K ⊢ levAts Lv lv := by
  unfold ctx
  iintro ⟨-, -, H⟩
  iexact H

/-- What device `c` still owes. -/
def T (c : Dev nD) (l : List Pay) : sProp 𝕄 := iprop(∃ W, owes (c : Thread nD τ) (owed c l) W)
/-- A device's place in one of its cells, which has come to round `r`. -/
def posA (ck : Dev nD × Cl) (r : ℕ) : sProp 𝕄 := iprop(atPos ER (cell ck) r ∅ 0 ∗ reached ER (cell ck) r)
/-- The credit of a payment received: on the payee's side. -/
abbrev got (c : Dev nD) (p : Pay) : sProp 𝕄 := cred (tallyAt (cell (c, p.k)) p.lvl (amt p.k p.r))
/-- The right to make a payment. -/
def tok (c : Dev nD) (p : Pay) : sProp 𝕄 := dutyTok ER (cell (p.dst c, p.k)) p.r p.d
/-- The credit of one of the device's own cells. -/
abbrev ocr (c : Dev nD) (k : Cl) (r : ℕ) : sProp 𝕄 := cred (tallyAt (cell (c, k)) 0 (amt k r))
/-- The right to pay one of the device's own cells. -/
def otok (c : Dev nD) (k : Cl) (r : ℕ) : sProp 𝕄 := dutyTok ER (cell (c, k)) r false

variable {xs ws K}

theorem rest_one (c : Dev nD) {k : Cl} {r : ℕ} (hk : k ≠ .bar) (hr : r < rounds k) :
    bigSep ((Rd xs ws).duties (cell (c, k)) r \ ∅) (fun d => (Rd xs ws).payload (cell (c, k)) r d) = pay xs ws c k r false := by
  rw [Finset.sdiff_empty, Rd_duties, duties_one hk hr, bigSep_singleton, Rd_payload]

/-- A wait on one of the device's cells, whatever the wait's operation. -/
theorem wait_any {c : Dev nD} {k : Cl} {r n : ℕ} {l : List Pay} (hk : k ≠ .bar) (hr : r < rounds k) (hl : Above n l) (hn : n < 300)
    {w : TpuEff nD τ sig (Elt F) Λ₀ .tc PUnit} {sm : SemLoc sig} {v : ℕ}
    (hw : ∀ Q : PUnit → sProp 𝕄, wpE (defs₀ (F := F)) 𝒱₀ (c : Thread nD τ) none Set.univ w Q
      = waitSpec (c : Thread nD τ) Set.univ sm v Q)
    (hs : k.sem = sm) (hv : v = amt k r) {α : Type} {k' : PUnit → P F α} {Q : α → sProp 𝕄} :
    iprop(ctx xs ws K ∗ T c l ∗ cred (tallyAt (cell (c, k)) n (amt k r)) ∗ posA (c, k) r)
      ⊢ iprop(((T c l ∗ posA (c, k) (r + 1) ∗ pay xs ws c k r false) -∗ WP c (k' ⟨⟩) Q) -∗ WP c (.op w k') Q) := by
  subst hs hv
  have hm : ctx xs ws K ⊢ MayWait (c : Thread nD τ) k.sem n (owed c l) := by
    have h0 := mayWait (F := F) c k.sem hn hl
    unfold ctx
    iintro ⟨-, -, H⟩
    iapply h0 $$ H
  unfold T posA
  iintro ⟨#Hc, ⟨%W, HO⟩, Hcr, Hat, -⟩ Hk
  iapply (Rounds.wp_wait_rest_token 𝒱₀ ER (Rd xs ws) (c : Thread nD τ) none (κ := K (c, k)) (k' := amt k r) (sm := k.sem) hw (Set.mem_univ _) n
    (O := owed c l) (W := W) (R := r) (m := 0) (T := ∅) (by rw [Nat.zero_add]; exact (Rd_expect_one xs ws c hk hr).symm)) $$ [HO Hcr Hat]
  · isplitr; · iapply (ctx_inv xs ws K (c, k)); iexact Hc
    isplitl [Hcr]; · iexact Hcr
    isplitl [HO]; · iexact HO
    isplitr; · iapply hm; iexact Hc
    iexact Hat
  iintro ⟨HO, Hat, Hr, Hpay⟩
  ihave Hpay := (Entails.of_eq (rest_one c hk hr)) $$ Hpay
  iapply Hk
  isplitl [HO]; · iexists _; iexact HO
  isplitl [Hat Hr]
  · isplitl [Hat] <;> iassumption
  iexact Hpay

/-- A wait for a transfer. -/
theorem wait_dma {c : Dev nD} (k : Cl) (r n : ℕ) {l : List Pay} (hk : k ≠ .bar) (hr : r < rounds k) (hl : Above n l) (hn : n < 300)
    {q : DmaSem sig} (hq : k.sem = .dma q) {sp sp' : Space} {s s' : Shape} {e e' : EltTy} {src : Memref sig .tc sp s e}
    {dst : Memref sig .tc sp' s' e'} {h1 : src.view.WordExact} {h2 : dst.view.WordExact} (hv : dst.view.dmaCredit = amt k r)
    {α : Type} {k' : PUnit → P F α} {Q : α → sProp 𝕄} :
    iprop(ctx xs ws K ∗ T c l ∗ cred (tallyAt (cell (c, k)) n (amt k r)) ∗ posA (c, k) r)
      ⊢ iprop(((T c l ∗ posA (c, k) (r + 1) ∗ pay xs ws c k r false) -∗ WP c (k' ⟨⟩) Q)
        -∗ WP c (.op (.waitDma2 q src dst h1 h2) k') Q) :=
  wait_any hk hr hl hn (wpE_waitDma2_eq 𝒱₀ (c : Thread nD τ) none Set.univ) hq hv

/-- A wait for a credit. -/
theorem wait_reg {c : Dev nD} (k : Cl) (r n : ℕ) {l : List Pay} (hk : k ≠ .bar) (hr : r < rounds k) (hl : Above n l) (hn : n < 300)
    {q : Sem sig} (hq : k.sem = .reg q) {v : ℕ} (hv : v = amt k r)
    {α : Type} {k' : PUnit → P F α} {Q : α → sProp 𝕄} :
    iprop(ctx xs ws K ∗ T c l ∗ cred (tallyAt (cell (c, k)) n (amt k r)) ∗ posA (c, k) r)
      ⊢ iprop(((T c l ∗ posA (c, k) (r + 1) ∗ pay xs ws c k r false) -∗ WP c (k' ⟨⟩) Q)
        -∗ WP c (.op (.semWait q v) k') Q) :=
  wait_any hk hr hl hn (wpE_semWait_eq 𝒱₀ (c : Thread nD τ) none Set.univ) hq hv

/-- A signal: the next payment. -/
theorem signal {c : Dev nD} (p : Pay) {l : List Pay} (hd : p.d ∈ duties p.k p.r) {q : Sem sig} (hq : p.k.sem = .reg q)
    {t : Dev nD} (ht : t = p.dst c) {v : ℕ} (hv : v = amt p.k p.r) {α : Type} {k' : PUnit → P F α} {Q : α → sProp 𝕄} :
    iprop(ctx xs ws K ∗ T c (p :: l) ∗ tok c p ∗ pay xs ws (p.dst c) p.k p.r p.d ∗ reached ER (cell (p.dst c, p.k)) p.r)
      ⊢ iprop((T c l -∗ WP c (k' ⟨⟩) Q) -∗ WP c (.op (.semSignal (t : Thread nD τ) q v) k') Q) := by
  subst ht hv
  have hc : cell (p.dst c, p.k) = (((p.dst c : Dev nD) : Thread nD τ), .reg q) := by show (_, p.k.sem) = _; rw [hq]
  have h1 := Rd_duties xs ws (p.dst c) p.k p.r
  have h2 := Rd_amount xs ws (p.dst c) p.k p.r p.d
  have h3 := Rd_payload xs ws (p.dst c) p.k p.r p.d
  have h4 := ctx_inv xs ws K (p.dst c, p.k)
  unfold T tok
  rw [owed, hq]
  rw [hc] at h1 h2 h3 h4
  rw [hc]
  iintro ⟨#Hc, ⟨%W, HO⟩, Ht, Hp, Hr⟩ Hk
  iapply (Rounds.wp_signal 𝒱₀ ER (Rd xs ws) (c : Thread nD τ) none (dst := ((p.dst c : Dev nD) : Thread nD τ)) (κ := K (p.dst c, p.k))
      (r := p.r) (d := p.d) (by rw [h1]; exact hd) h2 p.lvl (owed c l) rfl) $$ [HO Ht Hp Hr]
  · isplitr; · iapply h4; iexact Hc
    isplitl [HO]; · iexact HO
    isplitl [Ht]; · iexact Ht
    isplitl [Hp]; · rw [h3]; iexact Hp
    iexact Hr
  iintro HO
  iapply Hk
  iexists W; iexact HO

/-- A transfer to another device: the next payment, and one to the device's own departures. -/
theorem send {c : Dev nD} {sp : Space} {s : Shape} {e : EltTy} {src dst : Memref sig .tc sp s e} (p : Pay) {l : List Pay} (k₀ : Cl) (r₀ : ℕ)
    {qs qr : DmaSem sig} (hqs : k₀.sem = .dma qs) (hqr : p.k.sem = .dma qr) {t : Dev nD} (ht : t = p.dst c)
    (hd₀ : false ∈ duties k₀ r₀) (hd : p.d ∈ duties p.k p.r)
    (hv : dst.view.dmaCredit = amt p.k p.r) (hv₀ : amt k₀ r₀ = amt p.k p.r)
    {h1 : src.view.WordExact} {h2 : dst.view.WordExact}
    {hsc : (dst : Memref sig (Dev.tc t : Thread nD τ).2.kind sp s e).view.ref.isScScratch = false}
    {h3 : DmaTarget.Typed sp (.dma qr) (.remote (Dev.tc t : Thread nD τ) dst (.dma qs) hsc)}
    {sh : PosShare TreeShare} {fs : Buf (Elt F) (src.view.loc (c : Thread nD τ))} {fd : Buf (Elt F) (dst.view.loc ((p.dst c : Dev nD) : Thread nD τ))}
    {R : sProp 𝕄} (hp₀ : (src.view.loc (c : Thread nD τ) ↦[src.view.set]{sh} fs) ⊢ pay xs ws c k₀ r₀ false)
    (hp : iprop((dst.view.loc ((p.dst c : Dev nD) : Thread nD τ) ↦[dst.view.set]{fullShare} (dst.view.write (Elt F) fd (src.view.read (Elt F) fs) Finset.univ)) ∗ R)
      ⊢ pay xs ws (p.dst c) p.k p.r p.d)
    {α : Type} {k' : PUnit → P F α} {Q : α → sProp 𝕄} :
    iprop(ctx xs ws K ∗ (src.view.loc (c : Thread nD τ) ↦[src.view.set]{sh} fs)
        ∗ ((dst.view.loc ((p.dst c : Dev nD) : Thread nD τ) ↦[dst.view.set]{fullShare} fd) ∗ R)
        ∗ T c (p :: l) ∗ otok c k₀ r₀ ∗ reached ER (cell (c, k₀)) r₀ ∗ tok c p ∗ reached ER (cell (p.dst c, p.k)) p.r)
      ⊢ iprop(((ocr c k₀ r₀ ∗ T c l) -∗ WP c (k' ⟨⟩) Q)
        -∗ WP c (.op (.enqueueDma src (.remote (Dev.tc t : Thread nD τ) dst (.dma qs) hsc) (.dma qr) h1 h2 h3) k') Q) := by
  subst ht
  have hc : cell (p.dst c, p.k) = (((p.dst c : Dev nD) : Thread nD τ), .dma qr) := by show (_, p.k.sem) = _; rw [hqr]
  have hc₀ : cell (c, k₀) = ((c : Thread nD τ), .dma qs) := by show (_, k₀.sem) = _; rw [hqs]
  have a1 := Rd_duties xs ws (p.dst c) p.k p.r
  have a2 := Rd_amount xs ws (p.dst c) p.k p.r p.d
  have a3 := Rd_payload xs ws (p.dst c) p.k p.r p.d
  have a4 := ctx_inv xs ws K (p.dst c, p.k)
  have b1 := Rd_duties xs ws c k₀ r₀
  have b2 := Rd_amount xs ws c k₀ r₀ false
  have b3 := Rd_payload xs ws c k₀ r₀ false
  have b4 := ctx_inv xs ws K (c, k₀)
  unfold T tok otok ocr
  rw [owed, hqr]
  rw [hc] at a1 a2 a3 a4
  rw [hc₀] at b1 b2 b3 b4
  rw [hc, hc₀]
  iintro ⟨#Hc, Hs, Hd, ⟨%W, HO⟩, Ht₀, Hr₀, Ht, Hr⟩ Hk
  iapply (Rounds.wp_send_pointsTo_with 𝒱₀ ER (Rd xs ws) (c : Thread nD τ) none (c' := ((p.dst c : Dev nD) : Thread nD τ)) (src := src) (dst := dst)
      (κ₁ := K (c, k₀)) (κ₂ := K (p.dst c, p.k)) (r₁ := r₀) (r₂ := p.r) (d₁ := false) (d₂ := p.d) (F := R) (fd := fd)
      (by rw [b1]; exact hd₀) (by rw [a1]; exact hd) (sem := .dma qr) p.lvl 0 (amt p.k p.r) hv (b2.trans hv₀) a2 (owed c l) rfl
      (by rw [b3]; exact hp₀) (by rw [a3]; exact hp)) $$ [Hs Hd HO Ht₀ Hr₀ Ht Hr]
  · isplitr; · iapply b4; iexact Hc
    isplitr; · iapply a4; iexact Hc
    isplitl [Hs]; · iexact Hs
    isplitl [Hd]; · iexact Hd
    isplitl [HO]; · iexact HO
    isplitl [Ht₀]; · iexact Ht₀
    isplitl [Hr₀]; · iexact Hr₀
    isplitl [Ht]; · iexact Ht
    iexact Hr
  rw [hv₀]
  iintro ⟨Hcr, HO⟩
  iapply Hk
  isplitl [Hcr]; · iexact Hcr
  iexists W; iexact HO

/-- A copy on the device. -/
theorem copy {c : Dev nD} {sp sp' : Space} {s : Shape} {e : EltTy} {src : Memref sig .tc sp s e} {dst : Memref sig .tc sp' s e} (k₀ : Cl) (r₀ : ℕ)
    {q : DmaSem sig} (hq : k₀.sem = .dma q) (hd₀ : false ∈ duties k₀ r₀) (hv : dst.view.dmaCredit = amt k₀ r₀)
    {h1 : src.view.WordExact} {h2 : dst.view.WordExact} {h3 : DmaTarget.Typed (nD := nD) sp (.dma q) (DmaTarget.here (p := (c : Thread nD τ).2) dst)}
    {sh : PosShare TreeShare} {fs : Buf (Elt F) (src.view.loc (c : Thread nD τ))} {fd : Buf (Elt F) (dst.view.loc (c : Thread nD τ))}
    (hp : iprop((dst.view.loc (c : Thread nD τ) ↦[dst.view.set]{fullShare} (dst.view.write (Elt F) fd (src.view.read (Elt F) fs) Finset.univ))
      ∗ (src.view.loc (c : Thread nD τ) ↦[src.view.set]{sh} fs)) ⊢ pay xs ws c k₀ r₀ false)
    {α : Type} {k' : PUnit → P F α} {Q : α → sProp 𝕄} :
    iprop(ctx xs ws K ∗ (src.view.loc (c : Thread nD τ) ↦[src.view.set]{sh} fs) ∗ (dst.view.loc (c : Thread nD τ) ↦[dst.view.set]{fullShare} fd)
        ∗ otok c k₀ r₀ ∗ reached ER (cell (c, k₀)) r₀)
      ⊢ iprop((ocr c k₀ r₀ -∗ WP c (k' ⟨⟩) Q)
        -∗ WP c (.op (.enqueueDma src (.here dst) (.dma q) h1 h2 h3) k') Q) := by
  have hc₀ : cell (c, k₀) = ((c : Thread nD τ), .dma q) := by show (_, k₀.sem) = _; rw [hq]
  have b1 := Rd_duties xs ws c k₀ r₀
  have b2 := Rd_amount xs ws c k₀ r₀ false
  have b3 := Rd_payload xs ws c k₀ r₀ false
  have b4 := ctx_inv xs ws K (c, k₀)
  unfold otok ocr
  rw [hc₀] at b1 b2 b3 b4
  rw [hc₀]
  iintro ⟨#Hc, Hs, Hd, Ht₀, Hr₀⟩ Hk
  iapply (Rounds.wp_copy_pointsTo 𝒱₀ ER (Rd xs ws) (c : Thread nD τ) none (src := src) (dst := dst)
      (κ := K (c, k₀)) (r := r₀) (d := false) (fd := fd)
      (sem := .dma q) (by rw [b1]; exact hd₀) 0 (amt k₀ r₀) hv b2 (by rw [b3]; exact hp)) $$ [Hs Hd Ht₀ Hr₀]
  · isplitr; · iapply b4; iexact Hc
    isplitl [Hs]; · iexact Hs
    isplitl [Hd]; · iexact Hd
    isplitl [Ht₀]; · iexact Ht₀
    iexact Hr₀
  iexact Hk

end Rules

end Cert.KernelIdeal.Ring

end
-- ==== Proof.Ring.Slots.lean ====
/- The rules for a slot: load it, store it, send it; and the numbers of the slots and the rounds. -/
module

public import proofs.«01_k».proof.Proof.Ring.Rules
public import Idealize.ShloMosaic.Lib.Writes

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## Numbers -/

theorem sl2_two (n : ℕ) : sl2 (n + 2) = sl2 n := Fin.ext (Nat.add_mod_right n 2)
theorem sl3_three (n : ℕ) : sl3 (n + 3) = sl3 n := Fin.ext (Nat.add_mod_right n 3)
theorem sl2_ne (n : ℕ) : sl2 (n + 1) ≠ sl2 n := fun h => by have := congrArg Fin.val h; simp only [sl2] at this; omega
theorem ra_idx (n : ℕ) : 2 * (n / 2) + (1 - (sl2 (n + 1)).val) = n := by simp only [sl2]; omega
theorem rd_idx (n : ℕ) : 2 * (n / 2) + (sl2 n).val = n := by simp only [sl2]; omega
theorem ga_idx (n : ℕ) : 3 * (n / 3) + ((sl3 (n + 1)).val + 2) % 3 = n := by simp only [sl3]; omega

theorem ln_ne (X : Fin 4) (k : LC) : Cl.ln X k ≠ .bar := fun h => by cases h
theorem ra_lt (X : Fin 4) {n : ℕ} (h : n < 15) : n / 2 < rounds (.ln X (.ra (sl2 (n + 1)))) := by simp only [rounds, sl2]; omega
theorem rd_lt (X : Fin 4) {n : ℕ} (h : n < 15) : n / 2 < rounds (.ln X (.rd (sl2 n))) := by simp only [rounds, sl2]; omega
theorem ga_lt (X : Fin 4) {n : ℕ} (h : n < 15) : n / 3 < rounds (.ln X (.ga (sl3 (n + 1)))) := by simp only [rounds]; omega
theorem gd_lt (X : Fin 4) {n : ℕ} (h : n < 15) : n / 3 < rounds (.ln X (.gd (sl3 n))) := by simp only [rounds]; omega
theorem so_lt (X : Fin 4) {n : ℕ} (h : n < 16) : n / 2 < rounds (.ln X (.so (sl2 n))) := by simp only [rounds]; omega
theorem one_mem {k : Cl} {r : ℕ} (hk : k ≠ .bar) (hr : r < rounds k) : false ∈ duties k r := by
  rw [duties_one hk hr]; exact Finset.mem_singleton_self _

/-- What the copy of sum `n` pays. -/
def amtN (n : ℕ) : ℕ := if n < 11 then NB else NF
theorem amt_ra (X : Fin 4) (n : ℕ) : amt (.ln X (.ra (sl2 (n + 1)))) (n / 2) = amtN n := by
  unfold amt amtN; dsimp only; rw [ra_idx]
theorem amt_rd (X : Fin 4) (n : ℕ) : amt (.ln X (.rd (sl2 n))) (n / 2) = amtN n := by
  unfold amt amtN; dsimp only; rw [rd_idx]

theorem above_cons {n : ℕ} {p : Pay} {l : List Pay} (h : n < p.lvl) (h' : p.lvl < 300) (hl : Above n l) : Above n (p :: l) := by
  intro q hq
  rcases List.mem_cons.mp hq with rfl | hq
  · exact ⟨h, h'⟩
  · exact hl q hq
theorem above_mono {n n' : ℕ} {l : List Pay} (h : n ≤ n') (hl : Above n' l) : Above n l :=
  fun p hp => ⟨lt_of_le_of_lt h (hl p hp).1, (hl p hp).2⟩
theorem above_append {n : ℕ} {l l' : List Pay} (h : Above n l) (h' : Above n l') : Above n (l ++ l') :=
  fun p hp => (List.mem_append.mp hp).elim (h p) (h' p)
theorem above_nil (n : ℕ) : Above n [] := fun _ h => absurd h List.not_mem_nil
theorem pos_le : ∀ X : Fin 4, pos X ≤ 3 := by decide

/-! ## What the payloads are at a number -/

section Payloads

variable (xs : Dev nD → Vec F S4096x256 .bf16) (ws : Dev nD → Vec F S256x8192 .bf16)

theorem pay_ra (c : Dev nD) (X : Fin 4) (n : ℕ) : pay xs ws c (.ln X (.ra (sl2 (n + 1)))) (n / 2) false
    = iprop(slotN xs ws X n (sl2 (n + 1)) c (devFrom X c) ∗ reached ER (cell (devFrom X c, .ln X .rc)) n) := by
  show lpay xs ws c X (.ra (sl2 (n + 1))) (n / 2) = _
  unfold lpay; dsimp only; rw [ra_idx]
theorem pay_rd (c : Dev nD) (X : Fin 4) (n : ℕ) : pay xs ws c (.ln X (.rd (sl2 n))) (n / 2) false = slotAny X n (sl2 n) c := by
  show lpay xs ws c X (.rd (sl2 n)) (n / 2) = _
  unfold lpay; dsimp only; rw [rd_idx]
theorem pay_ga (c : Dev nD) (X : Fin 4) (n : ℕ) : pay xs ws c (.ln X (.ga (sl3 (n + 1)))) (n / 3) false
    = iprop(holds (ag X) (slot3 (sl3 (n + 1))) c fullShare (qv xs ws X n (devFrom X c)) ∗ reached ER (cell (devFrom X c, .ln X .gc)) n) := by
  show lpay xs ws c X (.ga (sl3 (n + 1))) (n / 3) = _
  unfold lpay; dsimp only; rw [ga_idx]
theorem pay_so (c : Dev nD) (X : Fin 4) (n : ℕ) : pay xs ws c (.ln X (.so (sl2 n))) (n / 2) false
    = iprop(any (st X) (slot2 (sl2 n)) c fullShare ∗ outDone xs ws X c n) := by
  show lpay xs ws c X (.so (sl2 n)) (n / 2) = _
  unfold lpay; dsimp only; rw [rd_idx]

end Payloads

/-! ## A copy through reshaped views -/

omit [FloatOps F] in
theorem read_copied {κ κ' : Kind} {sp sp' : Space} {s s' : Shape} {e : EltTy} (v : View sig κ sp s e) (v' : View sig κ' sp' s e)
    (h h' : s'.numel = s.numel) (fs : v.ty.Contents (Elt F)) (fd : v'.ty.Contents (Elt F)) :
    v'.read (Elt F) ((v'.reshape s' h').write (Elt F) fd ((v.reshape s' h).read (Elt F) fs) Finset.univ) = v.read (Elt F) fs := by
  rw [View.write_reshape_univ, View.read_write_univ]
  funext x
  show v.read (Elt F) fs (Shape.reshapeEquiv h ((Shape.reshapeEquiv h').symm x)) = _
  rw [Equiv.apply_symm_apply]

/-! ## The rules -/

section Rules

variable {xs : Dev nD → Vec F S4096x256 .bf16} {ws : Dev nD → Vec F S256x8192 .bf16} {K : Dev nD × Cl → ℕ}

omit [FloatOps F] in
theorem chunk2_pts {e : EltTy} (m : Memref sig .tc .vmem S2x256x2048 e) (s : Fin 2) (c : Dev nD) (q : PosShare TreeShare)
    (f : Buf (Elt F) ((m.access (slot2 s)).loc (c : Thread nD τ))) :
    ((chunk2 m s).view.loc (c : Thread nD τ) ↦[(chunk2 m s).view.set]{q} f : sProp 𝕄)
      = ((m.access (slot2 s)).loc (c : Thread nD τ) ↦[(m.access (slot2 s)).set]{q} f) :=
  congrArg (fun S => (((m.access (slot2 s)).loc (c : Thread nD τ) ↦[S]{q} f : sProp 𝕄))) (View.set_reshape (m.access (slot2 s)) _)
omit [FloatOps F] in
theorem chunk3_pts {e : EltTy} (m : Memref sig .tc .vmem S3x256x2048 e) (s : Fin 3) (c : Dev nD) (q : PosShare TreeShare)
    (f : Buf (Elt F) ((m.access (slot3 s)).loc (c : Thread nD τ))) :
    ((chunk3 m s).view.loc (c : Thread nD τ) ↦[(chunk3 m s).view.set]{q} f : sProp 𝕄)
      = ((m.access (slot3 s)).loc (c : Thread nD τ) ↦[(m.access (slot3 s)).set]{q} f) :=
  congrArg (fun S => (((m.access (slot3 s)).loc (c : Thread nD τ) ↦[S]{q} f : sProp 𝕄))) (View.set_reshape (m.access (slot3 s)) _)

/-- Load a slot. -/
theorem ld {c : Dev nD} {s : Shape} {e : EltTy} {m : Memref sig .tc .vmem s e} {r : Rect s} {q : PosShare TreeShare}
    {v : r.shape.Idx → Elt F e} {hl : m.view.LoadsAt r.toLoadRect} {α : Type} {k' : (r.shape.Idx → Elt F e) → P F α} {Q : α → sProp 𝕄} :
    holds m r c q v ⊢ iprop((holds m r c q v -∗ WP c (k' v) Q) -∗ WP c (.op (.load m r.toLoadRect hl) k') Q) := by
  unfold holds
  iintro ⟨%f, %hf, H⟩ Hk
  subst hf
  iapply (wp_load_rect 𝒱₀ (c : Thread nD τ) none Set.univ (m := m) (r := r) Finset.Subset.rfl) $$ H
  iintro H
  iapply Hk
  iexists f
  isplitr; · ipureintro; rfl
  iexact H
/-- Load a slot, whatever is in it, and drop it. -/
theorem ld_any {c : Dev nD} {s : Shape} {e : EltTy} {m : Memref sig .tc .vmem s e} {r : Rect s} {q : PosShare TreeShare}
    {hl : m.view.LoadsAt r.toLoadRect} {α : Type} {p : P F α} {Q : α → sProp 𝕄} :
    any m r c q ⊢ iprop((any m r c q -∗ WP c p Q) -∗ WP c (.op (.load m r.toLoadRect hl) fun _ => p) Q) := by
  unfold any
  iintro ⟨%f, H⟩ Hk
  iapply (wp_load_rect 𝒱₀ (c : Thread nD τ) none Set.univ (m := m) (r := r) Finset.Subset.rfl) $$ H
  iintro H
  iapply Hk
  iexists f
  iexact H
/-- Store a slot. -/
theorem sto {c : Dev nD} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {α : Type} {k' : PUnit → P F α} {Q : α → sProp 𝕄} :
    any m r c fullShare ⊢ iprop((holds m r c fullShare w -∗ WP c (k' ⟨⟩) Q) -∗ WP c (.op (.store m r w Finset.univ hx hm) k') Q) := by
  unfold any holds
  iintro ⟨%f, H⟩ Hk
  iapply (wp_store 𝒱₀ (c : Thread nD τ) none Set.univ (m := m) (r := r) (Mk := Finset.univ) (S := (m.access r).set)
    (by rw [View.setOn_univ])) $$ H
  iintro H
  iapply Hk
  iexists ((m.access r).write (Elt F) f w Finset.univ)
  isplitr; · ipureintro; exact View.read_write_univ _ _
  iexact H

/-- The staged blocks. -/
def xw (xs : Dev nD → Vec F S4096x256 .bf16) (ws : Dev nD → Vec F S256x8192 .bf16) (c : Dev nD) : sProp 𝕄 :=
  iprop((((c : Thread nD τ).loc cc0_stg0_0) ↦{fullShare} xs c) ∗ (((c : Thread nD τ).loc cc0_stg1_0) ↦{fullShare} ws c))

/-- Load rows of `x`. -/
theorem ld_x {c : Dev nD} {r : Rect S4096x256} {hl : xM.view.LoadsAt r.toLoadRect} {α : Type}
    {k' : (r.shape.Idx → Elt F .bf16) → P F α} {Q : α → sProp 𝕄} :
    xw xs ws c ⊢ iprop((xw xs ws c -∗ WP c (k' ((xM.access r).read (Elt F) (xs c))) Q) -∗ WP c (.op (.load xM r.toLoadRect hl) k') Q) := by
  unfold xw
  iintro ⟨H, H'⟩ Hk
  iapply (wp_load_rect 𝒱₀ (c : Thread nD τ) none Set.univ (m := xM) (r := r) (S := Finset.univ) (Finset.subset_univ _)) $$ H
  iintro H
  iapply Hk
  isplitl [H] <;> iassumption
/-- Load columns of `w`. -/
theorem ld_w {c : Dev nD} {r : Rect S256x8192} {hl : wM.view.LoadsAt r.toLoadRect} {α : Type}
    {k' : (r.shape.Idx → Elt F .bf16) → P F α} {Q : α → sProp 𝕄} :
    xw xs ws c ⊢ iprop((xw xs ws c -∗ WP c (k' ((wM.access r).read (Elt F) (ws c))) Q) -∗ WP c (.op (.load wM r.toLoadRect hl) k') Q) := by
  unfold xw
  iintro ⟨H', H⟩ Hk
  iapply (wp_load_rect 𝒱₀ (c : Thread nD τ) none Set.univ (m := wM) (r := r) (S := Finset.univ) (Finset.subset_univ _)) $$ H
  iintro H
  iapply Hk
  isplitl [H'] <;> iassumption

/-- Send a slot of two. -/
theorem send2 {c : Dev nD} {e : EltTy} {B : Memref sig .tc .vmem S2x256x2048 e} {s s' : Fin 2} (p : Pay) {l : List Pay} (k₀ : Cl) (r₀ : ℕ)
    {qs qr : DmaSem sig} (hqs : k₀.sem = .dma qs) (hqr : p.k.sem = .dma qr) {t : Dev nD} (ht : t = p.dst c)
    (hd₀ : false ∈ duties k₀ r₀) (hd : p.d ∈ duties p.k p.r)
    (hv : (chunk2 B s').view.dmaCredit = amt p.k p.r) (hv₀ : amt k₀ r₀ = amt p.k p.r)
    {h1 : (chunk2 B s).view.WordExact} {h2 : (chunk2 B s').view.WordExact}
    {hsc : (chunk2 B s' : Memref sig (Dev.tc t : Thread nD τ).2.kind .vmem S256x2048 e).view.ref.isScScratch = false}
    {h3 : DmaTarget.Typed .vmem (.dma qr) (.remote (Dev.tc t : Thread nD τ) (chunk2 B s') (.dma qs) hsc)}
    {q : PosShare TreeShare} {v : Vec F S1x256x2048 e} {R : sProp 𝕄}
    (hp₀ : any B (slot2 s) c q ⊢ pay xs ws c k₀ r₀ false)
    (hp : iprop(holds B (slot2 s') (p.dst c) fullShare v ∗ R) ⊢ pay xs ws (p.dst c) p.k p.r p.d)
    {α : Type} {k' : PUnit → P F α} {Q : α → sProp 𝕄} :
    iprop(ctx xs ws K ∗ holds B (slot2 s) c q v ∗ (any B (slot2 s') (p.dst c) fullShare ∗ R)
        ∗ T c (p :: l) ∗ otok c k₀ r₀ ∗ reached ER (cell (c, k₀)) r₀ ∗ tok c p ∗ reached ER (cell (p.dst c, p.k)) p.r)
      ⊢ iprop(((ocr c k₀ r₀ ∗ T c l) -∗ WP c (k' ⟨⟩) Q)
        -∗ WP c (.op (.enqueueDma (chunk2 B s) (.remote (Dev.tc t : Thread nD τ) (chunk2 B s') (.dma qs) hsc) (.dma qr) h1 h2 h3) k') Q) := by
  unfold any at hp₀
  unfold holds at hp
  unfold holds any
  iintro ⟨#Hc, ⟨%fs, %hs, Hs⟩, ⟨⟨%fd, Hd⟩, HR⟩, HT, Ht₀, Hr₀, Ht, Hr⟩ Hk
  iapply (send (xs := xs) (ws := ws) (K := K) (src := chunk2 B s) (dst := chunk2 B s') (fs := fs) (fd := fd) (sh := q) (R := R) p k₀ r₀ hqs hqr ht hd₀ hd hv hv₀
    (by rw [chunk2_pts]; iintro H; iapply hp₀; iexists fs; iexact H)
    (by
      rw [chunk2_pts]; iintro ⟨H, HR⟩; iapply hp
      isplitl [H]
      · iexists ((chunk2 B s').view.write (Elt F) fd ((chunk2 B s).view.read (Elt F) fs) Finset.univ)
        isplitr
        · ipureintro; exact (read_copied (B.access (slot2 s)) (B.access (slot2 s')) _ _ fs fd).trans hs
        · iexact H
      · iexact HR)) $$ [Hs Hd HR HT Ht₀ Hr₀ Ht Hr]
  · isplitr; · iexact Hc
    isplitl [Hs]; · rw [chunk2_pts]; iexact Hs
    isplitl [Hd HR]
    · isplitl [Hd]; · rw [chunk2_pts]; iexact Hd
      iexact HR
    isplitl [HT]; · iexact HT
    isplitl [Ht₀]; · iexact Ht₀
    isplitl [Hr₀]; · iexact Hr₀
    isplitl [Ht]; · iexact Ht
    iexact Hr
  iexact Hk

/-- Send a slot of three. -/
theorem send3 {c : Dev nD} {e : EltTy} {B : Memref sig .tc .vmem S3x256x2048 e} {s s' : Fin 3} (p : Pay) {l : List Pay} (k₀ : Cl) (r₀ : ℕ)
    {qs qr : DmaSem sig} (hqs : k₀.sem = .dma qs) (hqr : p.k.sem = .dma qr) {t : Dev nD} (ht : t = p.dst c)
    (hd₀ : false ∈ duties k₀ r₀) (hd : p.d ∈ duties p.k p.r)
    (hv : (chunk3 B s').view.dmaCredit = amt p.k p.r) (hv₀ : amt k₀ r₀ = amt p.k p.r)
    {h1 : (chunk3 B s).view.WordExact} {h2 : (chunk3 B s').view.WordExact}
    {hsc : (chunk3 B s' : Memref sig (Dev.tc t : Thread nD τ).2.kind .vmem S256x2048 e).view.ref.isScScratch = false}
    {h3 : DmaTarget.Typed .vmem (.dma qr) (.remote (Dev.tc t : Thread nD τ) (chunk3 B s') (.dma qs) hsc)}
    {q : PosShare TreeShare} {v : Vec F S1x256x2048 e} {R : sProp 𝕄}
    (hp₀ : any B (slot3 s) c q ⊢ pay xs ws c k₀ r₀ false)
    (hp : iprop(holds B (slot3 s') (p.dst c) fullShare v ∗ R) ⊢ pay xs ws (p.dst c) p.k p.r p.d)
    {α : Type} {k' : PUnit → P F α} {Q : α → sProp 𝕄} :
    iprop(ctx xs ws K ∗ holds B (slot3 s) c q v ∗ (any B (slot3 s') (p.dst c) fullShare ∗ R)
        ∗ T c (p :: l) ∗ otok c k₀ r₀ ∗ reached ER (cell (c, k₀)) r₀ ∗ tok c p ∗ reached ER (cell (p.dst c, p.k)) p.r)
      ⊢ iprop(((ocr c k₀ r₀ ∗ T c l) -∗ WP c (k' ⟨⟩) Q)
        -∗ WP c (.op (.enqueueDma (chunk3 B s) (.remote (Dev.tc t : Thread nD τ) (chunk3 B s') (.dma qs) hsc) (.dma qr) h1 h2 h3) k') Q) := by
  unfold any at hp₀
  unfold holds at hp
  unfold holds any
  iintro ⟨#Hc, ⟨%fs, %hs, Hs⟩, ⟨⟨%fd, Hd⟩, HR⟩, HT, Ht₀, Hr₀, Ht, Hr⟩ Hk
  iapply (send (xs := xs) (ws := ws) (K := K) (src := chunk3 B s) (dst := chunk3 B s') (fs := fs) (fd := fd) (sh := q) (R := R) p k₀ r₀ hqs hqr ht hd₀ hd hv hv₀
    (by rw [chunk3_pts]; iintro H; iapply hp₀; iexists fs; iexact H)
    (by
      rw [chunk3_pts]; iintro ⟨H, HR⟩; iapply hp
      isplitl [H]
      · iexists ((chunk3 B s').view.write (Elt F) fd ((chunk3 B s).view.read (Elt F) fs) Finset.univ)
        isplitr
        · ipureintro; exact (read_copied (B.access (slot3 s)) (B.access (slot3 s')) _ _ fs fd).trans hs
        · iexact H
      · iexact HR)) $$ [Hs Hd HR HT Ht₀ Hr₀ Ht Hr]
  · isplitr; · iexact Hc
    isplitl [Hs]; · rw [chunk3_pts]; iexact Hs
    isplitl [Hd HR]
    · isplitl [Hd]; · rw [chunk3_pts]; iexact Hd
      iexact HR
    isplitl [HT]; · iexact HT
    isplitl [Ht₀]; · iexact Ht₀
    isplitl [Hr₀]; · iexact Hr₀
    isplitl [Ht]; · iexact Ht
    iexact Hr
  iexact Hk

end Rules

end Cert.KernelIdeal.Ring

end
-- ==== Proof.Ring.Scatter.lean ====
/- The ring's first half: the barrier, the first partial products, the steps of the reduce-scatter, the last step. -/
module

public import proofs.«01_k».proof.Proof.Ring.Slots

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## Lists of assertions -/

/-- An assertion of each of a list. -/
def sepL {α : Type} (l : List α) (Φ : α → sProp 𝕄) : sProp 𝕄 :=
  match l with
  | [] => iprop(emp)
  | a :: l => iprop(Φ a ∗ sepL l Φ)

omit [FloatOps F] in
theorem sepL_append {α : Type} (l l' : List α) (Φ : α → sProp 𝕄) : sepL (l ++ l') Φ ⊣⊢ iprop(sepL l Φ ∗ sepL l' Φ) := by
  induction l with
  | nil => exact ⟨by iintro H; isplitr; (· unfold sepL; iempintro); iexact H, by iintro ⟨-, H⟩; iexact H⟩
  | cons a l ih =>
    refine ⟨?_, ?_⟩
    · show iprop(Φ a ∗ sepL (l ++ l') Φ) ⊢ iprop((Φ a ∗ sepL l Φ) ∗ sepL l' Φ)
      iintro ⟨Ha, H⟩
      ihave H := ih.1 $$ H
      icases H with ⟨H, H'⟩
      isplitl [Ha H]; · (isplitl [Ha] <;> iassumption)
      iexact H'
    · show iprop((Φ a ∗ sepL l Φ) ∗ sepL l' Φ) ⊢ iprop(Φ a ∗ sepL (l ++ l') Φ)
      iintro ⟨⟨Ha, H⟩, H'⟩
      isplitl [Ha]; · iexact Ha
      iapply ih.2
      isplitl [H] <;> iassumption

omit [FloatOps F] in
theorem sepL_mono {α : Type} (l : List α) {Φ Ψ : α → sProp 𝕄} (h : ∀ a, Φ a ⊢ Ψ a) : sepL l Φ ⊢ sepL l Ψ := by
  induction l with
  | nil => exact BI.Entails.refl _
  | cons a l ih =>
    show iprop(Φ a ∗ sepL l Φ) ⊢ iprop(Ψ a ∗ sepL l Ψ)
    iintro ⟨Ha, H⟩
    isplitl [Ha]; · iapply (h a); iexact Ha
    iapply ih; iexact H

omit [FloatOps F] in
theorem sepL_sep {α : Type} (l : List α) (Φ Ψ : α → sProp 𝕄) :
    sepL l (fun a => iprop(Φ a ∗ Ψ a)) ⊣⊢ iprop(sepL l Φ ∗ sepL l Ψ) := by
  induction l with
  | nil => exact ⟨by iintro H; isplitr; (· unfold sepL; iempintro); iexact H, by iintro ⟨-, H⟩; iexact H⟩
  | cons a l ih =>
    refine ⟨?_, ?_⟩
    · show iprop((Φ a ∗ Ψ a) ∗ sepL l (fun a => iprop(Φ a ∗ Ψ a))) ⊢ iprop((Φ a ∗ sepL l Φ) ∗ (Ψ a ∗ sepL l Ψ))
      iintro ⟨⟨Ha, Hb⟩, H⟩
      ihave H := ih.1 $$ H
      icases H with ⟨H, H'⟩
      isplitl [Ha H]; · (isplitl [Ha] <;> iassumption)
      isplitl [Hb] <;> iassumption
    · show iprop((Φ a ∗ sepL l Φ) ∗ (Ψ a ∗ sepL l Ψ)) ⊢ iprop((Φ a ∗ Ψ a) ∗ sepL l (fun a => iprop(Φ a ∗ Ψ a)))
      iintro ⟨⟨Ha, H⟩, ⟨Hb, H'⟩⟩
      isplitl [Ha Hb]; · (isplitl [Ha] <;> iassumption)
      iapply ih.2
      isplitl [H] <;> iassumption

/-! ## Loops -/

/-- Two programs in a row. -/
theorem seq {α β : Type} (c : Dev nD) {p : P F α} {k : α → P F β} {A : sProp 𝕄} {Q : β → sProp 𝕄} (B : α → sProp 𝕄)
    (h : A ⊢ WP c p B) (h' : ∀ a, B a ⊢ WP c (k a) Q) : A ⊢ WP c (p >>= k) Q := by
  unfold WP at *
  rw [wp_bind]
  have h2 := wp_mono frame (wpE (defs₀ (F := F)) 𝒱₀ (c : Thread nD τ) none) Set.univ (p := p) h'
  iintro H
  iapply h2
  iapply h
  iexact H

theorem done {α : Type} (c : Dev nD) (a : α) (Q : α → sProp 𝕄) : Q a ⊢ WP c (.ret a : P F α) Q := by
  unfold WP
  rw [wp_ret]
  iintro H
  imodintro
  iexact H

/-- A loop whose state is by the step's number. -/
theorem forL_index {α : Type} (c : Dev nD) (l : List α) (f : α → P F PUnit) (I : ℕ → sProp 𝕄) (n : ℕ) (hn : l.length = n)
    (h : ∀ (i : ℕ) (hi : i < l.length), I i ⊢ WP c (f l[i]) (fun _ => I (i + 1))) : I 0 ⊢ WP c (forL l f) (fun _ => I n) := by
  subst hn
  induction l generalizing I with
  | nil => exact done (F := F) c PUnit.unit (fun _ => I 0)
  | cons a l ih =>
    refine seq c (fun _ => I 1) (h 0 (Nat.zero_lt_succ _)) fun _ => ?_
    exact ih (fun i => I (i + 1)) fun i hi => h (i + 1) (Nat.succ_lt_succ hi)

/-- A loop that uses up a list of payments and turns each element's assertion into another. -/
theorem forL_map {α : Type} (c : Dev nD) (r : α → α → Prop) (O : List α → sProp 𝕄) (Φ Ψ : α → sProp 𝕄) (f : α → P F PUnit)
    (h : ∀ a l, (∀ b ∈ l, r a b) → iprop(O (a :: l) ∗ Φ a) ⊢ WP c (f a) (fun _ => iprop(O l ∗ Ψ a)))
    (l : List α) (hl : l.Pairwise r) : iprop(O l ∗ sepL l Φ) ⊢ WP c (forL l f) (fun _ => iprop(O [] ∗ sepL l Ψ)) := by
  induction l with
  | nil => exact done (F := F) c PUnit.unit (fun _ => iprop(O [] ∗ sepL [] Ψ))
  | cons a l ih =>
    obtain ⟨h1, h2⟩ := List.pairwise_cons.mp hl
    show iprop(O (a :: l) ∗ (Φ a ∗ sepL l Φ)) ⊢ WP c (f a >>= fun _ => forL l f) (fun _ => iprop(O [] ∗ (Ψ a ∗ sepL l Ψ)))
    refine seq c (fun _ => iprop((O l ∗ Ψ a) ∗ sepL l Φ)) ?_ fun _ => ?_
    · have e := h a l h1
      unfold WP at *
      iintro ⟨HO, Ha, H⟩
      iapply (wp_frame_r frame (wpE (defs₀ (F := F)) 𝒱₀ (c : Thread nD τ) none) Set.univ)
      isplitr [H]
      · iapply e; isplitl [HO] <;> iassumption
      · iexact H
    · have e := ih h2
      unfold WP at *
      iintro ⟨⟨HO, Ha⟩, H⟩
      iapply (wp_mono frame (wpE (defs₀ (F := F)) 𝒱₀ (c : Thread nD τ) none) Set.univ (Q := fun _ => iprop(Ψ a ∗ (O [] ∗ sepL l Ψ))) ?_)
      · intro _; iintro ⟨Ha, HO, H⟩; isplitl [HO]; · iexact HO
        isplitl [Ha] <;> iassumption
      iapply (wp_frame_l frame (wpE (defs₀ (F := F)) 𝒱₀ (c : Thread nD τ) none) Set.univ)
      isplitl [Ha]; · iexact Ha
      iapply e
      isplitl [HO] <;> iassumption

end Cert.KernelIdeal.Ring

end
-- ==== Proof.Ring.Step.lean ====
/- One step of the reduce-scatter. -/
module

public import proofs.«01_k».proof.Proof.Ring.Scatter

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## The rows of the maxima on their way -/

/-- The rows numbered `c` of the `h` nearest devices to the right, at any contents. -/
def kept (c : Dev nD) (h : ℕ) : sProp 𝕄 := sepL (List.range h) fun i => amAny (F := F) (sh c (i + 1)) {c}

theorem poolRows_step (c : Dev nD) (h : Fin 15) :
    poolRows c h.val = {c} ∪ poolRows (devL c) (h.val + 1) ∧ Disjoint ({c} : Finset (Fin 16)) (poolRows (devL c) (h.val + 1)) := by
  revert c h; decide +kernel
theorem sh_devL (c : Dev nD) (h : Fin 15) : sh (devL c) (h.val + 1 + 1) = sh c (h.val + 1) := by revert c h; decide +kernel

theorem rowsOf_union (R R' : Finset (Fin 16)) : rowsOf (R ∪ R') = rowsOf R ∪ rowsOf R' := by
  ext i; simp only [rowsOf, Finset.mem_filter, Finset.mem_univ, true_and, Finset.mem_union]
theorem rowsOf_disjoint {R R' : Finset (Fin 16)} (h : Disjoint R R') : Disjoint (rowsOf R) (rowsOf R') := by
  rw [Finset.disjoint_left] at h ⊢
  intro i hi hi'
  exact h (Finset.mem_filter.mp hi).2 (Finset.mem_filter.mp hi').2

omit [FloatOps F] in
theorem amAny_union (c : Dev nD) {R R' : Finset (Fin 16)} (h : Disjoint R R') :
    amAny (F := F) c (R ∪ R') ⊢ iprop(amAny c R ∗ amAny c R') := by
  unfold amAny
  rw [rowsOf_union]
  iintro ⟨%f, H⟩
  ihave H := (pointsTo_union (rowsOf_disjoint h)).1 $$ H
  icases H with ⟨H, H'⟩
  isplitl [H] <;> (iexists f; iassumption)

omit [FloatOps F] in
theorem pool_step (c : Dev nD) (h : Fin 15) :
    pool (F := F) c h.val ⊢ iprop(amAny (sh c (h.val + 1)) {c} ∗ pool (devL c) (h.val + 1)) := by
  unfold pool
  rw [(poolRows_step c h).1, sh_devL c h]
  exact amAny_union _ (poolRows_step c h).2

/-- What lane `0` also carries: the pool, and what has been kept of it. -/
def pl (X : Fin 4) (c : Dev nD) (h : ℕ) : sProp 𝕄 := if X = 0 then iprop(pool (F := F) c h ∗ kept c h) else iprop(emp)
/-- What goes with a credit, and what comes. -/
def plOut (X : Fin 4) (c : Dev nD) (h : ℕ) : sProp 𝕄 := if X = 0 then pool (F := F) c h else iprop(emp)
/-- What is kept when the pool has gone. -/
def plKept (X : Fin 4) (c : Dev nD) (h : ℕ) : sProp 𝕄 := if X = 0 then kept (F := F) c h else iprop(emp)

omit [FloatOps F] in
theorem pl_split (X : Fin 4) (c : Dev nD) (h : Fin 15) :
    pl (F := F) X c h.val ⊢ iprop(plOut X (devFrom X c) (h.val + 1) ∗ plKept X c (h.val + 1)) := by
  unfold pl plOut plKept
  by_cases hX : X = 0
  · subst hX
    rw [if_pos rfl, if_pos rfl, if_pos rfl]
    have e := pool_step (F := F) c h
    unfold kept
    rw [List.range_succ]
    iintro ⟨H, H'⟩
    ihave H := e $$ H
    icases H with ⟨H, Hp⟩
    isplitl [Hp]; · iexact Hp
    iapply (sepL_append _ _ _).2
    isplitl [H']; · iexact H'
    simp only [sepL]
    isplitl; · iexact H
    iempintro
  · rw [if_neg hX, if_neg hX, if_neg hX]
    iintro H
    isplitr; · iempintro
    iexact H
omit [FloatOps F] in
theorem pl_join (X : Fin 4) (c : Dev nD) (h : ℕ) : iprop(plOut (F := F) X c h ∗ plKept X c h) ⊢ pl X c h := by
  unfold pl plOut plKept
  by_cases hX : X = 0
  · rw [if_pos hX, if_pos hX, if_pos hX]
  · rw [if_neg hX, if_neg hX, if_neg hX]
    iintro ⟨-, H⟩; iexact H

/-! ## The state of a lane -/

/-- The two slots a lane does not use at step `h`. -/
def spare (X : Fin 4) (c : Dev nD) (h : ℕ) : sProp 𝕄 :=
  if h < 11 then iprop(any (F := F) (wf X) (slot2 (sl2 (h + 1))) c fullShare ∗ any (F := F) (wf X) (slot2 (sl2 h)) c fullShare)
  else iprop(any (F := F) (wb X) (slot2 (sl2 (h + 1))) c fullShare ∗ any (F := F) (wb X) (slot2 (sl2 h)) c fullShare)

/-- Lane `X`'s places in its cells before step `h`, and what it awaits. -/
def rsPos (X : Fin 4) (c : Dev nD) (h : ℕ) : sProp 𝕄 :=
  iprop(posA (F := F) (c, .ln X (.ra (sl2 (h + 1)))) (h / 2) ∗ posA (F := F) (c, .ln X (.ra (sl2 h))) ((h + 1) / 2)
    ∗ posA (F := F) (c, .ln X (.rd (sl2 h))) (h / 2) ∗ posA (F := F) (c, .ln X (.rd (sl2 (h + 1)))) ((h + 1) / 2)
    ∗ posA (F := F) (c, .ln X .rc) h)

/-- Lane `X` before step `h` of the reduce-scatter. -/
def rsSt (X : Fin 4) (c : Dev nD) (h : ℕ) : sProp 𝕄 :=
  iprop(rsPos (F := F) X c h ∗ got (F := F) c (arrP X h) ∗ ocr (F := F) c (.ln X (.rd (sl2 h))) (h / 2) ∗ spare (F := F) X c h ∗ pl (F := F) X c h)

/-- What step `h` of lane `X` uses. -/
def rsNeed (X : Fin 4) (c : Dev nD) (h : ℕ) : sProp 𝕄 :=
  iprop(got (F := F) c (crdP X h) ∗ got (F := F) c (arrP X (h + 1)) ∗ tok (F := F) c (crdP X h) ∗ tok (F := F) c (arrP X (h + 1))
    ∗ otok (F := F) c (.ln X (.rd (sl2 (h + 1)))) ((h + 1) / 2))

section Step

variable {xs : Dev nD → Vec F S4096x256 .bf16} {ws : Dev nD → Vec F S256x8192 .bf16} {K : Dev nD × Cl → ℕ}

theorem pay_crd (c : Dev nD) (X : Fin 4) (h : ℕ) :
    pay xs ws c (.ln X .rc) h false = iprop(slotAny X (h + 1) (sl2 h) (devTo X c)
      ∗ reached ER (cell (devTo X c, .ln X (.ra (sl2 h)))) ((h + 1) / 2) ∗ plOut X c (h + 1)) := rfl

theorem pay_arr (c : Dev nD) (X : Fin 4) (h : ℕ) :
    pay xs ws (devTo X c) (.ln X (.ra (sl2 h))) ((h + 1) / 2) false
      = iprop(slotN xs ws X (h + 1) (sl2 h) (devTo X c) c ∗ reached ER (cell (c, .ln X .rc)) (h + 1)) := by
  have e := pay_ra xs ws (devTo X c) X (h + 1)
  rw [sl2_two, from_to] at e
  exact e

theorem pos_split (ck : Dev nD × Cl) (r : ℕ) : posA (F := F) ck r ⊢ iprop(reached ER (cell ck) r ∗ posA ck r) := by
  unfold posA
  iintro ⟨H, #H'⟩
  isplitr; · iexact H'
  isplitl; · iexact H
  iexact H'

/-- The step, whatever the two kinds of buffer. -/
theorem rs_gen {c : Dev nD} {e e' : EltTy} {A : Memref sig .tc .vmem S2x256x2048 e} {B : Memref sig .tc .vmem S2x256x2048 e'}
    {wA : ∀ r, (chunk2 A r).view.WordExact} {wB : ∀ r, (chunk2 B r).view.WordExact}
    {sB : ∀ r, (B.access (slot2 r)).Stores Finset.univ}
    {pay' : Vec F S1x256x2048 e → Vec F S256x256 .bf16 → Vec F S256x2048 .bf16 → Vec F S1x256x2048 e'}
    (h : Fin 15) (X : Fin 4) {l : List Pay} (h14 : h.val < 14) (hl : Above (8 * h.val + 2 * pos X + 10) l)
    (vA : Dev nD → Vec F S1x256x2048 e)
    (hA1 : slotN xs ws X h.val (sl2 (h.val + 1)) c (devFrom X c) = holds A (slot2 (sl2 (h.val + 1))) c fullShare (vA (devFrom X c)))
    (hA2 : slotAny (F := F) X h.val (sl2 h.val) c = any A (slot2 (sl2 h.val)) c fullShare)
    (hB1 : slotN xs ws X (h.val + 1) (sl2 h.val) (devTo X c) c
      = holds B (slot2 (sl2 h.val)) (devTo X c) fullShare (pay' (vA (devFrom X c)) (xAt xs X h c) (wAt ws X c)))
    (hB2 : ∀ s d, slotAny (F := F) X (h.val + 1) s d = any B (slot2 s) d fullShare)
    (hcA : ∀ s, (chunk2 A s).view.dmaCredit = amtN h.val) (hcB : ∀ s, (chunk2 B s).view.dmaCredit = amtN (h.val + 1))
    (Z : sProp 𝕄) (hZ1 : iprop(any A (slot2 (sl2 (h.val + 1))) c fullShare ∗ spare (F := F) X c h.val) ⊢ iprop(any B (slot2 (sl2 (h.val + 1))) c fullShare ∗ Z))
    (hZ2 : iprop(any A (slot2 (sl2 h.val)) c fullShare ∗ Z) ⊢ iprop(any B (slot2 (sl2 h.val)) c fullShare ∗ spare (F := F) X c (h.val + 1))) :
    iprop(ctx xs ws K ∗ (T c (rsPays h.val X ++ l) ∗ xw xs ws c) ∗ rsSt X c h.val ∗ rsNeed X c h.val)
      ⊢ WP c (rsStep xM wM c A B wA wB sB pay' h X) (fun _ => iprop((T c l ∗ xw xs ws c) ∗ rsSt X c (h.val + 1))) := by
  have hp := pos_le X
  unfold rsSt rsPos rsNeed
  simp only [rsStep, semSignalWord, semWaitWord, Prog.lift, Prog.bind_op, Prog.bind_ret, Prog.pure_eq_ret, Prog.bind_assoc]
  iintro ⟨#Hc, ⟨HT, Hx⟩, ⟨⟨Hra, Hra', Hrd, Hrd', Hrc⟩, Ga, Ho, Hs, Hpl⟩, Gc, Ga', Tc, Ta, Ot⟩
  iapply (wait_dma (xs := xs) (ws := ws) (K := K) (.ln X (.ra (sl2 (h.val + 1)))) (h.val / 2) (arrP X h.val).lvl (ln_ne _ _) (ra_lt X (by omega))
    (l := rsPays h.val X ++ l)
    (above_cons (show 8 * h.val + 2 * pos X + 3 < 8 * h.val + 2 * pos X + 10 by omega) (show 8 * h.val + 2 * pos X + 10 < 300 by omega)
      (above_cons (show 8 * h.val + 2 * pos X + 3 < 8 * (h.val + 1) + 2 * pos X + 3 by omega) (show 8 * (h.val + 1) + 2 * pos X + 3 < 300 by omega)
        (above_mono (show 8 * h.val + 2 * pos X + 3 ≤ _ by omega) hl))) (show 8 * h.val + 2 * pos X + 3 < 300 by omega) rfl
    ((hcA _).trans (amt_ra X h.val).symm)) $$ [HT Ga Hra]
  · isplitr; · iexact Hc
    isplitl [HT]; · iexact HT
    isplitl [Ga]; · iexact Ga
    iexact Hra
  rw [pay_ra, hA1]
  iintro ⟨HT, Hra, HA, Hcr⟩
  iapply ld $$ HA
  iintro HA
  iapply ld_x $$ Hx
  iintro Hx
  iapply ld_w $$ Hx
  iintro Hx
  ihave HA := (holds_any _ _ _ _ _) $$ HA
  ihave HB := hZ1 $$ [HA Hs]
  · isplitl [HA] <;> iassumption
  icases HB with ⟨HB, HZ⟩
  iapply ld_any $$ HB
  iintro HB
  iapply sto $$ HB
  iintro HB
  iapply (wait_dma (xs := xs) (ws := ws) (K := K) (.ln X (.rd (sl2 h.val))) (h.val / 2) 0 (ln_ne _ _) (rd_lt X (by omega))
    (l := rsPays h.val X ++ l)
    (above_cons (show 0 < 8 * h.val + 2 * pos X + 10 by omega) (show 8 * h.val + 2 * pos X + 10 < 300 by omega)
      (above_cons (show 0 < 8 * (h.val + 1) + 2 * pos X + 3 by omega) (show 8 * (h.val + 1) + 2 * pos X + 3 < 300 by omega)
        (above_mono (Nat.zero_le _) hl))) (by decide) rfl
    ((hcA _).trans (amt_rd X h.val).symm)) $$ [HT Ho Hrd]
  · isplitr; · iexact Hc
    isplitl [HT]; · iexact HT
    isplitl [Ho]; · iexact Ho
    iexact Hrd
  rw [pay_rd, hA2]
  iintro ⟨HT, Hrd, HA⟩
  ihave HB' := hZ2 $$ [HA HZ]
  · isplitl [HA] <;> iassumption
  icases HB' with ⟨HB', Hs⟩
  ihave Hpl := (pl_split X c h) $$ Hpl
  icases Hpl with ⟨Hpo, Hpk⟩
  ihave Hra' := (pos_split _ _) $$ Hra'
  icases Hra' with ⟨Hrr, Hra'⟩
  iapply (signal (xs := xs) (ws := ws) (K := K) (crdP X h.val) (l := arrP X (h.val + 1) :: l) (q := (rsCrd X).sem)
    (one_mem (ln_ne _ _) (show h.val < 14 from h14)) rfl rfl rfl) $$ [HT Tc HB' Hpo Hrr Hcr]
  · isplitr; · iexact Hc
    isplitl [HT]; · iexact HT
    isplitl [Tc]; · iexact Tc
    isplitr [Hcr]
    · iapply (Entails.of_eq (pay_crd (xs := xs) (ws := ws) (devFrom X c) X h.val).symm)
      rw [to_from, hB2]
      isplitl [HB']; · iexact HB'
      isplitl [Hrr]; · iexact Hrr
      iexact Hpo
    iexact Hcr
  iintro HT
  iapply (wait_reg (xs := xs) (ws := ws) (K := K) (.ln X .rc) h.val (crdP X h.val).lvl (ln_ne _ _) (show h.val < 14 from h14)
    (l := arrP X (h.val + 1) :: l)
    (above_cons (show 8 * h.val + 2 * pos X + 10 < 8 * (h.val + 1) + 2 * pos X + 3 by omega) (show 8 * (h.val + 1) + 2 * pos X + 3 < 300 by omega)
        hl) (show 8 * h.val + 2 * pos X + 10 < 300 by omega) rfl rfl) $$ [HT Gc Hrc]
  · isplitr; · iexact Hc
    isplitl [HT]; · iexact HT
    isplitl [Gc]; · iexact Gc
    iexact Hrc
  rw [pay_crd, hB2]
  iintro ⟨HT, Hrc, Hd, Hrr, Hpo⟩
  ihave Hrc := (pos_split _ _) $$ Hrc
  icases Hrc with ⟨Hcr, Hrc⟩
  ihave Hrd' := (pos_split _ _) $$ Hrd'
  icases Hrd' with ⟨Hdr, Hrd'⟩
  iapply (send2 (xs := xs) (ws := ws) (K := K) (arrP X (h.val + 1)) (l := l) (.ln X (.rd (sl2 (h.val + 1)))) ((h.val + 1) / 2)
    (v := pay' (vA (devFrom X c)) (xAt xs X h c) (wAt ws X c)) (q := fullShare)
    (R := reached ER (cell (c, .ln X .rc)) (h.val + 1)) rfl (by show Cl.sem (.ln X (.ra (sl2 (h.val + 2)))) = _; rw [sl2_two]; rfl) rfl
    (one_mem (ln_ne _ _) (rd_lt X (by omega))) (one_mem (ln_ne _ _) (ra_lt X (by omega)))
    ((hcB _).trans (amt_ra X (h.val + 1)).symm) ((amt_rd X (h.val + 1)).trans (amt_ra X (h.val + 1)).symm)
    (by rw [pay_rd, hB2])
    (by
      show _ ⊢ pay xs ws (devTo X c) (.ln X (.ra (sl2 (h.val + 2)))) ((h.val + 1) / 2) false
      rw [sl2_two, pay_arr, hB1]
      exact BI.Entails.refl _)) $$ [HB Hd Hcr HT Ot Hdr Ta Hrr]
  · isplitr; · iexact Hc
    isplitl [HB]; · iexact HB
    isplitl [Hd Hcr]
    · isplitl [Hd]; · iexact Hd
      iexact Hcr
    isplitl [HT]; · iexact HT
    isplitl [Ot]; · iexact Ot
    isplitl [Hdr]; · iexact Hdr
    isplitl [Ta]; · iexact Ta
    iapply (Entails.of_eq (congrArg (fun s => (reached ER (cell (devTo X c, .ln X (.ra s))) ((h.val + 1) / 2) : sProp 𝕄)) (sl2_two h.val).symm))
    iexact Hrr
  iintro ⟨Ho, HT⟩
  iapply (done (F := F) c PUnit.unit _)
  isplitl [HT Hx]
  · isplitl [HT] <;> iassumption
  rw [sl2_two, show (h.val + 1 + 1) / 2 = h.val / 2 + 1 by omega]
  isplitl [Hra Hra' Hrd Hrd' Hrc]
  · isplitl [Hra']; · iexact Hra'
    isplitl [Hra]; · iexact Hra
    isplitl [Hrd']; · iexact Hrd'
    isplitl [Hrd]; · iexact Hrd
    iexact Hrc
  isplitl [Ga']; · iexact Ga'
  isplitl [Ho]; · iexact Ho
  isplitl [Hs]; · iexact Hs
  iapply (pl_join X c (h.val + 1))
  isplitl [Hpo] <;> iassumption

end Step

end Cert.KernelIdeal.Ring

end
-- ==== Proof.Ring.Reduce.lean ====
/- The barrier and the reduce-scatter: the first partial products, then every step of every lane. -/
module

public import proofs.«01_k».proof.Proof.Ring.Step

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## The payments' levels -/

theorem above_rsTail : ∀ h : Fin 15, Above (8 * h.val + 9) (rsTail h.val) := by unfold Above; decide +kernel
theorem above_rsAll : Above 1 rsAll := by unfold Above; decide +kernel

theorem range'_succ {n m : ℕ} (h : n < m) : List.range' n (m - n) = n :: List.range' (n + 1) (m - (n + 1)) := by
  obtain ⟨k, rfl⟩ : ∃ k, m = n + k + 1 := ⟨m - n - 1, by omega⟩
  rw [show n + k + 1 - n = k + 1 by omega, show n + k + 1 - (n + 1) = k by omega]
  rfl

theorem rsTail_succ {h : ℕ} (hh : h < 14) : rsTail h = lanes.flatMap (rsPays h) ++ rsTail (h + 1) := by
  unfold rsTail
  rw [range'_succ hh, List.flatMap_cons, List.append_assoc]

theorem above_row (h : Fin 15) (h14 : h.val < 14) (X : Fin 4) (l : List (Fin 4)) (hl : ∀ b ∈ l, pos X < pos b) :
    Above (8 * h.val + 2 * pos X + 10) (l.flatMap (rsPays h.val) ++ rsTail (h.val + 1)) := by
  refine above_append ?_ (above_mono (show _ ≤ 8 * (h.val + 1) + 9 by have := pos_le X; omega) (above_rsTail ⟨h.val + 1, by omega⟩))
  intro p hp
  obtain ⟨Y, hY, hp⟩ := List.mem_flatMap.mp hp
  have h1 := hl Y hY
  have h2 := pos_le Y
  rcases List.mem_cons.mp hp with rfl | hp
  · show 8 * h.val + 2 * pos X + 10 < 8 * h.val + 2 * pos Y + 10 ∧ 8 * h.val + 2 * pos Y + 10 < 300
    omega
  · rw [List.mem_singleton] at hp
    subst hp
    show 8 * h.val + 2 * pos X + 10 < 8 * (h.val + 1) + 2 * pos Y + 3 ∧ 8 * (h.val + 1) + 2 * pos Y + 3 < 300
    omega

theorem lanes_sorted : lanes.Pairwise fun X Y => pos X < pos Y := by decide

attribute [local irreducible] rsTail mxAll rsAll

section Reduce

variable {xs : Dev nD → Vec F S4096x256 .bf16} {ws : Dev nD → Vec F S256x8192 .bf16} {K : Dev nD × Cl → ℕ}

/-- What is at hand throughout stays. -/
theorem keep {α : Type} (c : Dev nD) {p : P F α} {A : sProp 𝕄} {Q : α → sProp 𝕄} (h : iprop(ctx xs ws K ∗ A) ⊢ WP c p Q) :
    iprop(ctx xs ws K ∗ A) ⊢ WP c p (fun a => iprop(ctx xs ws K ∗ Q a)) := by
  unfold WP at *
  iintro ⟨#Hc, H⟩
  iapply (wp_frame_l frame (wpE (defs₀ (F := F)) 𝒱₀ (c : Thread nD τ) none) Set.univ)
  isplitr; · iexact Hc
  iapply h
  isplitr; · iexact Hc
  iexact H

/-- What the steps from `h` on use. -/
def rsNeeds (c : Dev nD) (h : ℕ) : sProp 𝕄 := sepL (List.range' h (14 - h)) fun h => sepL lanes fun X => rsNeed (F := F) X c h

/-- A device before step `h` of the reduce-scatter. -/
def RS (xs : Dev nD → Vec F S4096x256 .bf16) (ws : Dev nD → Vec F S256x8192 .bf16) (K : Dev nD × Cl → ℕ) (c : Dev nD) (h : ℕ) : sProp 𝕄 :=
  iprop(ctx xs ws K ∗ (T c (rsTail h) ∗ xw xs ws c) ∗ (sepL lanes fun X => rsSt (F := F) X c h) ∗ rsNeeds (F := F) c h)

/-- One step, all lanes. -/
theorem rs_row {c : Dev nD} (h : Fin 15) (h14 : h.val < 14) (f : Fin 4 → P F PUnit)
    (hf : ∀ X l, Above (8 * h.val + 2 * pos X + 10) l →
      iprop(ctx xs ws K ∗ (T c (rsPays h.val X ++ l) ∗ xw xs ws c) ∗ rsSt X c h.val ∗ rsNeed X c h.val)
        ⊢ WP c (f X) (fun _ => iprop((T c l ∗ xw xs ws c) ∗ rsSt X c (h.val + 1)))) :
    RS xs ws K c h.val ⊢ WP c (forL lanes f) (fun _ => RS xs ws K c (h.val + 1)) := by
  have e := forL_map c (fun X Y => pos X < pos Y)
    (fun l => iprop(ctx xs ws K ∗ (T c (l.flatMap (rsPays h.val) ++ rsTail (h.val + 1)) ∗ xw xs ws c)))
    (fun X => iprop(rsSt (F := F) X c h.val ∗ rsNeed (F := F) X c h.val)) (fun X => rsSt (F := F) X c (h.val + 1)) f
    (by
      intro X l hl
      have e := keep c (hf X _ (above_row h h14 X l hl))
      unfold WP at *
      iintro ⟨⟨#Hc, HT, Hx⟩, Hs, Hn⟩
      iapply (wp_mono frame (wpE (defs₀ (F := F)) 𝒱₀ (c : Thread nD τ) none) Set.univ
        (Q := fun _ => iprop(ctx xs ws K ∗ (T c (l.flatMap (rsPays h.val) ++ rsTail (h.val + 1)) ∗ xw xs ws c) ∗ rsSt X c (h.val + 1))) ?_)
      · intro _
        iintro ⟨Hc, H, Hs⟩
        isplitl [Hc H]
        · isplitl [Hc] <;> iassumption
        iexact Hs
      iapply e
      isplitr; · iexact Hc
      isplitl [HT Hx]
      · isplitl [HT]
        · rw [List.flatMap_cons, List.append_assoc]; iexact HT
        iexact Hx
      isplitl [Hs] <;> iassumption)
    lanes lanes_sorted
  rw [List.flatMap_nil, List.nil_append] at e
  unfold RS rsNeeds
  rw [rsTail_succ h14, range'_succ h14]
  unfold WP at *
  iintro ⟨#Hc, HTx, Hs, Hn⟩
  simp only [sepL]
  icases Hn with ⟨Hn, Hr⟩
  iapply (wp_mono frame (wpE (defs₀ (F := F)) 𝒱₀ (c : Thread nD τ) none) Set.univ
    (Q := fun _ => iprop((sepL (List.range' (h.val + 1) (14 - (h.val + 1))) fun h => sepL lanes fun X => rsNeed (F := F) X c h)
      ∗ (ctx xs ws K ∗ (T c (rsTail (h.val + 1)) ∗ xw xs ws c)) ∗ sepL lanes fun X => rsSt (F := F) X c (h.val + 1))) ?_)
  · intro _
    iintro ⟨Hr, ⟨Hc, H⟩, Hs⟩
    isplitl [Hc]; · iexact Hc
    isplitl [H]; · iexact H
    isplitl [Hs]; · iexact Hs
    iexact Hr
  iapply (wp_frame_l frame (wpE (defs₀ (F := F)) 𝒱₀ (c : Thread nD τ) none) Set.univ)
  isplitl [Hr]; · iexact Hr
  iapply e
  isplitl [HTx]
  · isplitr; · iexact Hc
    iexact HTx
  iapply (sepL_sep lanes _ _).2
  isplitl [Hs] <;> iassumption

/-! ## The three kinds of step -/

omit [FloatOps F] in
theorem spare_swap (X : Fin 4) (c : Dev nD) {h : ℕ} (hh : h ≠ 10) : spare (F := F) X c h ⊢ spare X c (h + 1) := by
  unfold spare
  rw [sl2_two]
  by_cases h1 : h < 11
  · rw [if_pos h1, if_pos (by omega)]
    iintro ⟨H, H'⟩
    isplitl [H'] <;> iassumption
  · rw [if_neg h1, if_neg (by omega)]
    iintro ⟨H, H'⟩
    isplitl [H'] <;> iassumption

theorem stp_val (h : Fin 15) : stp h.val = h := Fin.ext (Nat.mod_eq_of_lt h.isLt)

theorem rs_narrow {c : Dev nD} (h : Fin 15) (hh : h.val < 10) (X : Fin 4) (l : List Pay) (hl : Above (8 * h.val + 2 * pos X + 10) l) :
    iprop(ctx xs ws K ∗ (T c (rsPays h.val X ++ l) ∗ xw xs ws c) ∗ rsSt X c h.val ∗ rsNeed X c h.val)
      ⊢ WP c (rsStep xM wM c (wb X) (wb X) (wb_words X) (wb_words X) (wb_stores X) sumBB h X)
        (fun _ => iprop((T c l ∗ xw xs ws c) ∗ rsSt X c (h.val + 1))) := by
  have e1 : h.val < 11 := by omega
  have e2 : h.val + 1 < 11 := by omega
  refine rs_gen h X (by omega) hl (pB xs ws X h.val) (by unfold slotN; rw [if_pos e1]) (by unfold slotAny; rw [if_pos e1])
    (by unfold slotN; rw [if_pos e2, pB, stp_val]) (fun s d => by unfold slotAny; rw [if_pos e2])
    (fun s => by unfold amtN; rw [if_pos e1]; exact credit_wb X s) (fun s => by unfold amtN; rw [if_pos e2]; exact credit_wb X s)
    (spare X c h.val) (BI.Entails.refl _) ?_
  have e := spare_swap (F := F) X c (h := h.val) (by omega)
  iintro ⟨H, H'⟩
  isplitl [H]; · iexact H
  iapply e; iexact H'

theorem rs_widen {c : Dev nD} (X : Fin 4) (l : List Pay) (hl : Above (8 * (10 : Fin 15).val + 2 * pos X + 10) l) :
    iprop(ctx xs ws K ∗ (T c (rsPays (10 : Fin 15).val X ++ l) ∗ xw xs ws c) ∗ rsSt X c (10 : Fin 15).val ∗ rsNeed X c (10 : Fin 15).val)
      ⊢ WP c (rsStep xM wM c (wb X) (wf X) (wb_words X) (wf_words X) (wf_stores X) sumBF 10 X)
        (fun _ => iprop((T c l ∗ xw xs ws c) ∗ rsSt X c ((10 : Fin 15).val + 1))) := by
  refine rs_gen 10 X (by decide) hl (pB xs ws X 10) rfl rfl rfl (fun s d => rfl)
    (fun s => credit_wb X s) (fun s => credit_wf X s)
    iprop(any (wb X) (slot2 (sl2 11)) c fullShare ∗ any (wf X) (slot2 (sl2 10)) c fullShare) ?_ ?_
  · show iprop(any (wb X) (slot2 (sl2 11)) c fullShare ∗ (any (wf X) (slot2 (sl2 11)) c fullShare ∗ any (wf X) (slot2 (sl2 10)) c fullShare)) ⊢ iprop(any (wf X) (slot2 (sl2 11)) c fullShare ∗ _)
    iintro ⟨H, H1, H2⟩
    isplitl [H1]; · iexact H1
    isplitl [H] <;> iassumption
  · show iprop(any (wb X) (slot2 (sl2 10)) c fullShare ∗ (any (wb X) (slot2 (sl2 11)) c fullShare ∗ any (wf X) (slot2 (sl2 10)) c fullShare))
      ⊢ iprop(any (wf X) (slot2 (sl2 10)) c fullShare ∗ (any (wb X) (slot2 (sl2 10)) c fullShare ∗ any (wb X) (slot2 (sl2 11)) c fullShare))
    iintro ⟨H, H1, H2⟩
    isplitl [H2]; · iexact H2
    isplitl [H] <;> iassumption

theorem rs_wide {c : Dev nD} (h : Fin 15) (h11 : 11 ≤ h.val) (h14 : h.val < 14) (X : Fin 4) (l : List Pay) (hl : Above (8 * h.val + 2 * pos X + 10) l) :
    iprop(ctx xs ws K ∗ (T c (rsPays h.val X ++ l) ∗ xw xs ws c) ∗ rsSt X c h.val ∗ rsNeed X c h.val)
      ⊢ WP c (rsStep xM wM c (wf X) (wf X) (wf_words X) (wf_words X) (wf_stores X) sumFF h X)
        (fun _ => iprop((T c l ∗ xw xs ws c) ∗ rsSt X c (h.val + 1))) := by
  have e1 : ¬ h.val < 11 := by omega
  have e2 : ¬ h.val + 1 < 11 := by omega
  have e3 : h.val + 1 - 11 = (h.val - 11) + 1 := by omega
  have e4 : stp (11 + (h.val - 11)) = h := by rw [show 11 + (h.val - 11) = h.val by omega]; exact stp_val h
  refine rs_gen h X (by omega) hl (pF xs ws X (h.val - 11)) (by unfold slotN; rw [if_neg e1]) (by unfold slotAny; rw [if_neg e1])
    (by unfold slotN; rw [if_neg e2, e3, pF, e4]) (fun s d => by unfold slotAny; rw [if_neg e2])
    (fun s => by unfold amtN; rw [if_neg e1]; exact credit_wf X s) (fun s => by unfold amtN; rw [if_neg e2]; exact credit_wf X s)
    (spare X c h.val) (BI.Entails.refl _) ?_
  have e := spare_swap (F := F) X c (h := h.val) (by omega)
  iintro ⟨H, H'⟩
  isplitl [H]; · iexact H
  iapply e; iexact H'

/-! ## The first partial products -/

/-- Lane `X` before its first partial product. -/
def rsIn (X : Fin 4) (c : Dev nD) : sProp 𝕄 :=
  iprop(rsPos (F := F) X c 0 ∗ got (F := F) c (arrP X 0) ∗ otok (F := F) c (.ln X (.rd (sl2 0))) (0 / 2) ∗ tok (F := F) c (arrP X 0)
    ∗ any (F := F) (wb X) (slot2 0) c fullShare ∗ spare (F := F) X c 0 ∗ any (F := F) (wb X) (slot2 1) (devTo X c) fullShare ∗ pl (F := F) X c 0)

theorem rs_seed {c : Dev nD} (X : Fin 4) (l : List Pay) :
    iprop(ctx xs ws K ∗ (T c (arrP X 0 :: l) ∗ xw xs ws c) ∗ rsIn X c)
      ⊢ WP c (seedStep xM wM c X) (fun _ => iprop((T c l ∗ xw xs ws c) ∗ rsSt X c 0)) := by
  unfold rsIn rsSt rsPos
  simp only [seedStep, Prog.lift, Prog.bind_op, Prog.bind_ret, Prog.pure_eq_ret, Prog.bind_assoc]
  iintro ⟨#Hc, ⟨HT, Hx⟩, ⟨Hra, Hra', Hrd, Hrd', Hrc⟩, Ga, Ot, Ta, HB, Hs, Hd, Hpl⟩
  iapply ld_x $$ Hx
  iintro Hx
  iapply ld_w $$ Hx
  iintro Hx
  iapply ld_any $$ HB
  iintro HB
  iapply sto $$ HB
  iintro HB
  iapply (send2 (xs := xs) (ws := ws) (K := K) (arrP X 0) (l := l) (.ln X (.rd (sl2 0))) (0 / 2)
    (v := pB xs ws X 0 c) (q := fullShare)
    (R := reached ER (cell (c, .ln X .rc)) 0) rfl rfl rfl
    (one_mem (ln_ne _ _) (rd_lt X (by decide))) (one_mem (ln_ne _ _) (ra_lt X (by decide)))
    ((credit_wb X _).trans (amt_ra X 0).symm) ((amt_rd X 0).trans (amt_ra X 0).symm)
    (by rw [pay_rd]; exact BI.Entails.refl _)
    (by
      have e := pay_ra xs ws (devTo X c) X 0
      rw [from_to] at e
      exact Entails.of_eq e.symm)) $$ [HB Hd HT Ot Ta]
  · isplitr; · iexact Hc
    isplitl [HB]; · iexact HB
    isplitl [Hd]
    · isplitl [Hd]; · iexact Hd
      iapply (ctx_reached xs ws K _); iexact Hc
    isplitl [HT]; · iexact HT
    isplitl [Ot]; · iexact Ot
    isplitr; · iapply (ctx_reached xs ws K _); iexact Hc
    isplitl [Ta]; · iexact Ta
    iapply (ctx_reached xs ws K _); iexact Hc
  iintro ⟨Ho, HT⟩
  iapply (done (F := F) c PUnit.unit _)
  isplitl [HT Hx]
  · isplitl [HT] <;> iassumption
  isplitl [Hra Hra' Hrd Hrd' Hrc]
  · isplitl [Hra]; · iexact Hra
    isplitl [Hra']; · iexact Hra'
    isplitl [Hrd]; · iexact Hrd
    isplitl [Hrd']; · iexact Hrd'
    iexact Hrc
  isplitl [Ga]; · iexact Ga
  isplitl [Ho]; · iexact Ho
  isplitl [Hs]; · iexact Hs
  iexact Hpl

/-! ## The whole -/

theorem h10_val : ∀ i : Fin 10, ([0, 1, 2, 3, 4, 5, 6, 7, 8, 9] : List (Fin 15))[i].val = i.val := by decide
theorem h13_val : ∀ i : Fin 3, ([11, 12, 13] : List (Fin 15))[i].val = 11 + i.val := by decide

theorem rs_row_at {c : Dev nD} (h : Fin 15) {n n' : ℕ} (hn : h.val = n) (hn' : n + 1 = n') (h14 : n < 14) (f : Fin 4 → P F PUnit)
    (hf : ∀ X l, Above (8 * h.val + 2 * pos X + 10) l →
      iprop(ctx xs ws K ∗ (T c (rsPays h.val X ++ l) ∗ xw xs ws c) ∗ rsSt X c h.val ∗ rsNeed X c h.val)
        ⊢ WP c (f X) (fun _ => iprop((T c l ∗ xw xs ws c) ∗ rsSt X c (h.val + 1)))) :
    RS xs ws K c n ⊢ WP c (forL lanes f) (fun _ => RS xs ws K c n') := by
  subst hn'
  subst hn
  exact rs_row h h14 f hf

theorem narrow_loop (c : Dev nD) : RS xs ws K c 0 ⊢ WP c (forL [0, 1, 2, 3, 4, 5, 6, 7, 8, 9] fun h => forL lanes fun X =>
    rsStep xM wM c (wb X) (wb X) (wb_words X) (wb_words X) (wb_stores X) sumBB h X) (fun _ => RS xs ws K c 10) :=
  forL_index c [0, 1, 2, 3, 4, 5, 6, 7, 8, 9] _ (fun i => RS xs ws K c i) 10 rfl fun i hi => by
    have hi' : i < 10 := hi
    have e : (([0, 1, 2, 3, 4, 5, 6, 7, 8, 9] : List (Fin 15))[i]).val = i := h10_val ⟨i, hi⟩
    exact rs_row_at _ e rfl (by omega) _ fun X l hl => rs_narrow _ (by rw [e]; exact hi') X l hl

theorem widen_row (c : Dev nD) : RS xs ws K c 10 ⊢ WP c (forL lanes fun X =>
    rsStep xM wM c (wb X) (wf X) (wb_words X) (wf_words X) (wf_stores X) sumBF 10 X) (fun _ => RS xs ws K c 11) :=
  rs_row_at 10 rfl rfl (by decide) _ fun X l hl => rs_widen X l hl

theorem wide_row (c : Dev nD) (h : Fin 15) {n n' : ℕ} (hn : h.val = n) (hn' : n + 1 = n') (h11 : 11 ≤ n) (h14 : n < 14) :
    RS xs ws K c n ⊢ WP c (forL lanes fun X =>
      rsStep xM wM c (wf X) (wf X) (wf_words X) (wf_words X) (wf_stores X) sumFF h X) (fun _ => RS xs ws K c n') :=
  rs_row_at h hn hn' h14 _ fun X l hl => rs_wide _ (by omega) (by omega) X l hl

theorem wide_loop (c : Dev nD) : RS xs ws K c 11 ⊢ WP c (forL [11, 12, 13] fun h => forL lanes fun X =>
    rsStep xM wM c (wf X) (wf X) (wf_words X) (wf_words X) (wf_stores X) sumFF h X) (fun _ => RS xs ws K c 14) := by
  simp only [forL]
  refine seq c (fun _ => RS xs ws K c 12) (wide_row c 11 rfl rfl (by decide) (by decide)) fun _ => ?_
  refine seq c (fun _ => RS xs ws K c 13) (wide_row c 12 rfl rfl (by decide) (by decide)) fun _ => ?_
  refine seq c (fun _ => RS xs ws K c 14) (wide_row c 13 rfl rfl (by decide) (by decide)) fun _ => ?_
  exact done (F := F) c PUnit.unit (fun _ => RS xs ws K c 14)

/-- The reduce-scatter but its last step. -/
theorem reduce_wp (c : Dev nD) :
    iprop(ctx xs ws K ∗ (T c rsAll ∗ xw xs ws c) ∗ (sepL lanes fun X => rsIn (F := F) X c) ∗ rsNeeds (F := F) c 0)
      ⊢ WP c (reduce xM wM c) (fun _ => RS xs ws K c 14) := by
  unfold reduce
  refine seq c (fun _ => RS xs ws K c 0) ?_ fun _ => seq c (fun _ => RS xs ws K c 10) ?_ fun _ => seq c (fun _ => RS xs ws K c 11) ?_ fun _ => ?_
  · have e := forL_map c (fun X Y => pos X < pos Y)
      (fun l => iprop(ctx xs ws K ∗ (T c ((l.flatMap fun X => [arrP X 0]) ++ rsTail 0) ∗ xw xs ws c)))
      (fun X => rsIn (F := F) X c) (fun X => rsSt (F := F) X c 0) (seedStep xM wM c)
      (by
        intro X l _
        have e := keep c (rs_seed (xs := xs) (ws := ws) (K := K) (c := c) X ((l.flatMap fun X => [arrP X 0]) ++ rsTail 0))
        unfold WP at *
        iintro ⟨⟨#Hc, HT, Hx⟩, Hs⟩
        iapply (wp_mono frame (wpE (defs₀ (F := F)) 𝒱₀ (c : Thread nD τ) none) Set.univ
          (Q := fun _ => iprop(ctx xs ws K ∗ (T c ((l.flatMap fun X => [arrP X 0]) ++ rsTail 0) ∗ xw xs ws c) ∗ rsSt X c 0)) ?_)
        · intro _
          iintro ⟨Hc, H, Hs⟩
          isplitl [Hc H]
          · isplitl [Hc] <;> iassumption
          iexact Hs
        iapply e
        isplitr; · iexact Hc
        isplitl [HT Hx]
        · isplitl [HT]; · iexact HT
          iexact Hx
        iexact Hs)
      lanes lanes_sorted
    rw [List.flatMap_nil, List.nil_append] at e
    unfold RS rsAll
    unfold WP at *
    iintro ⟨#Hc, HTx, Hs, Hr⟩
    iapply (wp_mono frame (wpE (defs₀ (F := F)) 𝒱₀ (c : Thread nD τ) none) Set.univ
      (Q := fun _ => iprop(rsNeeds (F := F) c 0
        ∗ (ctx xs ws K ∗ (T c (rsTail 0) ∗ xw xs ws c)) ∗ sepL lanes fun X => rsSt (F := F) X c 0)) ?_)
    · intro _
      iintro ⟨Hr, ⟨Hc, H⟩, Hs⟩
      isplitl [Hc]; · iexact Hc
      isplitl [H]; · iexact H
      isplitl [Hs]; · iexact Hs
      iexact Hr
    iapply (wp_frame_l frame (wpE (defs₀ (F := F)) 𝒱₀ (c : Thread nD τ) none) Set.univ)
    isplitl [Hr]; · iexact Hr
    iapply e
    isplitl [HTx]
    · isplitr; · iexact Hc
      iexact HTx
    iexact Hs
  · have e := narrow_loop (xs := xs) (ws := ws) (K := K) c
    refine Eq.mp ?_ e
    congr 1
  · exact widen_row (xs := xs) (ws := ws) (K := K) c
  · have e := wide_loop (xs := xs) (ws := ws) (K := K) c
    refine Eq.mp ?_ e
    congr 1

/-! ## The barrier -/

/-- The lanes' landing slots. -/
def opens (c : Dev nD) : sProp 𝕄 := iprop(laneOpen (F := F) 0 c ∗ laneOpen (F := F) 1 c ∗ laneOpen (F := F) 2 c ∗ laneOpen (F := F) 3 c)

theorem bar_wp (c : Dev nD) :
    iprop(ctx xs ws K ∗ T c allPays ∗ tok c barL ∗ tok c barR ∗ cred (tallyAt (cell (c, .bar)) 1 2) ∗ atPos ER (cell (c, .bar)) 0 ∅ 0
        ∗ opens c ∗ pool (devL c) 0)
      ⊢ WP c (barrier c) (fun _ => iprop(T c rsAll ∗ atPos ER (cell (c, .bar)) 1 ∅ 0
        ∗ (laneOpen 0 (devR c) ∗ laneOpen 1 (devR c) ∗ pool c 0) ∗ (laneOpen 2 (devL c) ∗ laneOpen 3 (devL c)))) := by
  unfold opens
  simp only [barrier, semSignalWord, semWaitWord, Prog.lift, Prog.bind_op, Prog.bind_ret, Prog.pure_eq_ret, Prog.bind_assoc]
  iintro ⟨#Hc, HT, Tl, Tr, Hcr, Hat, ⟨H0, H1, H2, H3⟩, Hp⟩
  iapply (signal (xs := xs) (ws := ws) (K := K) barL (l := barR :: rsAll) (q := barS) (by decide) rfl rfl rfl) $$ [HT Tl H0 H1 Hp]
  · isplitr; · iexact Hc
    isplitl [HT]; · iexact HT
    isplitl [Tl]; · iexact Tl
    isplitl [H0 H1 Hp]
    · iapply (Entails.of_eq (show iprop(laneOpen 0 (devR (devL c)) ∗ laneOpen 1 (devR (devL c)) ∗ pool (devL c) 0) = pay xs ws (devL c) .bar 0 false from rfl))
      rw [devR_L]
      isplitl [H0]; · iexact H0
      isplitl [H1] <;> iassumption
    iapply (ctx_reached xs ws K _); iexact Hc
  iintro HT
  iapply (signal (xs := xs) (ws := ws) (K := K) barR (l := rsAll) (q := barS) (by decide) rfl rfl rfl) $$ [HT Tr H2 H3]
  · isplitr; · iexact Hc
    isplitl [HT]; · iexact HT
    isplitl [Tr]; · iexact Tr
    isplitl [H2 H3]
    · iapply (Entails.of_eq (show iprop(laneOpen 2 (devL (devR c)) ∗ laneOpen 3 (devL (devR c))) = pay xs ws (devR c) .bar 0 true from rfl))
      rw [devL_R]
      isplitl [H2] <;> iassumption
    iapply (ctx_reached xs ws K _); iexact Hc
  iintro HT
  have hm : ctx xs ws K ⊢ MayWait (c : Thread nD τ) (.reg barS) 1 (owed c rsAll) := by
    have h0 := mayWait (F := F) c (.reg barS) (show 1 < 300 by decide) above_rsAll
    unfold ctx
    iintro ⟨-, -, H⟩
    iapply h0 $$ H
  have hr' : bigSep ((Rd xs ws).duties (cell (c, .bar)) 0 \ ∅) (fun d => (Rd xs ws).payload (cell (c, .bar)) 0 d)
      = iprop(pay xs ws c .bar 0 false ∗ pay xs ws c .bar 0 true) := by
    rw [Finset.sdiff_empty, Rd_duties, show duties .bar 0 = Finset.univ from rfl,
      bigSep_univ_eq_bigSepL [false, true] (by decide) (by decide), bigSepL_cons_cons, bigSepL_singleton, Rd_payload, Rd_payload]
    rfl
  have hr : bigSep ((Rd xs ws).duties ((c : Thread nD τ), SemLoc.reg barS) 0 \ ∅) (fun d => (Rd xs ws).payload ((c : Thread nD τ), SemLoc.reg barS) 0 d)
      = iprop(pay xs ws c .bar 0 false ∗ pay xs ws c .bar 0 true) := hr'
  unfold T
  icases HT with ⟨%W, HO⟩
  iapply (Rounds.wp_wait_rest_token 𝒱₀ ER (Rd xs ws) (c : Thread nD τ) none (κ := K (c, .bar)) (k' := 2) (sm := .reg barS)
    (wpE_semWait_eq 𝒱₀ (c : Thread nD τ) none Set.univ) (Set.mem_univ _) 1
    (O := owed c rsAll) (W := W) (R := 0) (m := 0) (T := ∅) (by rw [Nat.zero_add]; exact (Rd_expect_bar xs ws c).symm)) $$ [HO Hcr Hat]
  · isplitr; · iapply (ctx_inv xs ws K (c, .bar)); iexact Hc
    isplitl [Hcr]; · iexact Hcr
    isplitl [HO]; · iexact HO
    isplitr; · iapply hm; iexact Hc
    iexact Hat
  iintro ⟨HO, Hat, -, Hpay⟩
  ihave Hpay := (Entails.of_eq hr) $$ Hpay
  icases Hpay with ⟨Hl, Hr⟩
  ihave Hl := (Entails.of_eq (show pay xs ws c .bar 0 false = iprop(laneOpen 0 (devR c) ∗ laneOpen 1 (devR c) ∗ pool c 0) from rfl)) $$ Hl
  ihave Hr := (Entails.of_eq (show pay xs ws c .bar 0 true = iprop(laneOpen 2 (devL c) ∗ laneOpen 3 (devL c)) from rfl)) $$ Hr
  iapply (done (F := F) c PUnit.unit _)
  isplitl [HO]; · iexists _; iexact HO
  isplitl [Hat]; · iexact Hat
  isplitl [Hl]; · iexact Hl
  iexact Hr

end Reduce

end Cert.KernelIdeal.Ring

end
-- ==== Proof.Ring.Maxima.lean ====
/- The last step of the reduce-scatter and the exchange of the maxima. -/
module

public import proofs.«01_k».proof.Proof.Ring.Reduce
public import Idealize.ShloMosaic.Lib.ViewIndex

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

section Maxima

variable {xs : Dev nD → Vec F S4096x256 .bf16} {ws : Dev nD → Vec F S256x8192 .bf16} {K : Dev nD × Cl → ℕ}

/-- A program at the head of another. -/
theorem step {α β : Type} {c : Dev nD} {p : P F α} {A : sProp 𝕄} {B : α → sProp 𝕄}
    (h : iprop(ctx xs ws K ∗ A) ⊢ WP c p B) {k : α → P F β} {Q : β → sProp 𝕄} :
    iprop(ctx xs ws K ∗ A) ⊢ iprop((∀ a, B a -∗ WP c (k a) Q) -∗ WP c (p >>= k) Q) := by
  unfold WP at *
  rw [wp_bind]
  iintro H Hk
  iapply (wp_wand_r frame (wpE (defs₀ (F := F)) 𝒱₀ (c : Thread nD τ) none) Set.univ)
  isplitl [H]
  · iapply h; iexact H
  iexact Hk

/-! ## The last step -/

/-- Lane `X` after the reduce-scatter. -/
def rsEnd (xs : Dev nD → Vec F S4096x256 .bf16) (ws : Dev nD → Vec F S256x8192 .bf16) (X : Fin 4) (c : Dev nD) : sProp 𝕄 :=
  iprop((posA (F := F) (c, .ln X (.ra (sl2 15))) 8 ∗ posA (F := F) (c, .ln X (.ra (sl2 14))) 7
    ∗ posA (F := F) (c, .ln X (.rd (sl2 14))) 8 ∗ posA (F := F) (c, .ln X (.rd (sl2 15))) 7 ∗ posA (F := F) (c, .ln X .rc) 14)
    ∗ any (F := F) (wf X) (slot2 1) c fullShare ∗ spare (F := F) X c 14 ∗ holds (wf X) (slot2 0) c fullShare (pF xs ws X 4 c))

theorem rs_last {c : Dev nD} (X : Fin 4) {l : List Pay} (hl : Above 129 l) :
    iprop(ctx xs ws K ∗ (T c l ∗ xw xs ws c) ∗ rsSt X c 14)
      ⊢ WP c (rsLast xM wM c X) (fun r => iprop(⌜r = (pF xs ws X 3 (devFrom X c), xAt xs X 14 c, wAt ws X c)⌝
        ∗ ((T c l ∗ xw xs ws c) ∗ rsEnd xs ws X c) ∗ pl X c 14)) := by
  have hp := pos_le X
  unfold rsSt rsPos rsEnd
  simp only [rsLast, Prog.lift, Prog.bind_op, Prog.bind_ret, Prog.pure_eq_ret, Prog.bind_assoc]
  iintro ⟨#Hc, ⟨HT, Hx⟩, ⟨Hra, Hra', Hrd, Hrd', Hrc⟩, Ga, Ho, Hs, Hpl⟩
  iapply (wait_dma (xs := xs) (ws := ws) (K := K) (.ln X (.ra (sl2 15))) 7 (arrP X 14).lvl (ln_ne _ _) (ra_lt X (n := 14) (by decide))
    (l := l) (above_mono (show 8 * 14 + 2 * pos X + 3 ≤ 129 by omega) hl) (show 8 * 14 + 2 * pos X + 3 < 300 by omega) rfl
    ((credit_wf X 1).trans (amt_ra X 14).symm)) $$ [HT Ga Hra]
  · isplitr; · iexact Hc
    isplitl [HT]; · iexact HT
    isplitl [Ga]; · iexact Ga
    iexact Hra
  rw [show pay xs ws c (.ln X (.ra (sl2 15))) 7 false = iprop(holds (wf X) (slot2 1) c fullShare (pF xs ws X 3 (devFrom X c))
    ∗ reached ER (cell (devFrom X c, .ln X .rc)) 14) from pay_ra xs ws c X 14]
  iintro ⟨HT, Hra, HA, -⟩
  iapply ld $$ HA
  iintro HA
  iapply ld_x $$ Hx
  iintro Hx
  iapply ld_w $$ Hx
  iintro Hx
  ihave HA := (holds_any _ _ _ _ _) $$ HA
  iapply (wait_dma (xs := xs) (ws := ws) (K := K) (.ln X (.rd (sl2 14))) 7 0 (ln_ne _ _) (rd_lt X (n := 14) (by decide))
    (l := l) (above_mono (Nat.zero_le _) hl) (by decide) rfl
    ((credit_wf X 0).trans (amt_rd X 14).symm)) $$ [HT Ho Hrd]
  · isplitr; · iexact Hc
    isplitl [HT]; · iexact HT
    isplitl [Ho]; · iexact Ho
    iexact Hrd
  rw [show pay xs ws c (.ln X (.rd (sl2 14))) 7 false = any (wf X) (slot2 0) c fullShare from pay_rd xs ws c X 14]
  iintro ⟨HT, Hrd, HB⟩
  iapply ld_any $$ HB
  iintro HB
  iapply sto $$ HB
  iintro HB
  iapply (done (F := F) c _ _)
  isplitr; · ipureintro; rfl
  isplitr [Hpl]
  · isplitl [HT Hx]
    · isplitl [HT] <;> iassumption
    isplitl [Hra Hra' Hrd Hrd' Hrc]
    · isplitl [Hra]; · iexact Hra
      isplitl [Hra']; · iexact Hra'
      isplitl [Hrd]; · iexact Hrd
      isplitl [Hrd']; · iexact Hrd'
      iexact Hrc
    isplitl [HA]; · iexact HA
    isplitl [Hs]; · iexact Hs
    iexact HB
  iexact Hpl

/-! ## A device's row -/

omit [FloatOps F] in
theorem row_set (d : Dev nD) {off : Fin 2 → ℕ} (h : off = ![d.val, 0]) (hb : ∀ a, off a + S1x128.size a ≤ S16x128.size a) :
    ((View.whole cc0_scratch44).slice (Rect.unit (s := S16x128) off S1x128.size hb)).set = rowsOf {d} := by
  subst h
  rw [View.set_slice_whole]
  ext i
  rw [Rect.mem_set_unit]
  simp only [rowsOf, Finset.mem_filter, Finset.mem_univ, true_and, Finset.mem_singleton]
  constructor
  · intro h
    have h0 := h 0
    refine Fin.ext ?_
    have h1 : d.val ≤ (i 0).val := h0.1
    have h2 : (i 0).val < d.val + 1 := h0.2
    show (i 0).val = d.val
    omega
  · intro h
    have h0 : (i 0).val = d.val := congrArg Fin.val h
    intro a
    match a with
    | 0 => exact ⟨show d.val ≤ (i 0).val by omega, show (i 0).val < d.val + 1 by omega⟩
    | 1 => exact ⟨Nat.zero_le _, (show (i 1).val < 0 + 128 from lt_of_lt_of_eq (i 1).isLt rfl)⟩

theorem row_read (d : Dev nD) {off : Fin 2 → ℕ} (h : off = ![d.val, 0]) (hb : ∀ a, off a + S1x128.size a ≤ S16x128.size a) :
    ((View.whole cc0_scratch44).slice (Rect.unit (s := S16x128) off S1x128.size hb)).read (Elt F) (maxs xs ws) = mrow xs ws d := by
  subst h
  funext y
  have e0 : (y 0).val = 0 := by have := (y 0).isLt; exact Nat.lt_one_iff.mp this
  rw [show ((View.whole cc0_scratch44).slice (Rect.unit (s := S16x128) ![d.val, 0] S1x128.size hb)).read (Elt F) (maxs xs ws) y
    = maxs xs ws ((Rect.unit (s := S16x128) ![d.val, 0] S1x128.size hb).emb y) from rfl]
  unfold maxs
  refine congr (congrArg (mrow xs ws) (Fin.ext (show d.val + 1 * (y 0).val = d.val by omega))) ?_
  funext a
  match a with
  | 0 => exact Fin.ext e0.symm
  | 1 => exact Fin.ext (by show 0 + 1 * (y 1).val = (y 1).val; omega)

omit [FloatOps F] in
theorem amOwn_pts (d c : Dev nD) (q : PosShare TreeShare) (f : Buf (Elt F) ((amOwn d).view.loc (c : Thread nD τ))) :
    ((amOwn d).view.loc (c : Thread nD τ) ↦[(amOwn d).view.set]{q} f : sProp 𝕄) = (am.view.loc (c : Thread nD τ) ↦[rowsOf {d}]{q} f) :=
  congrArg (fun S => ((am.view.loc (c : Thread nD τ) ↦[S]{q} f : sProp 𝕄))) (row_set d (k0_off5_eq d) _)

/-- What is read as the row is the maxima there. -/
theorem row_eq (d c : Dev nD) {off : Fin 2 → ℕ} (h : off = ![d.val, 0]) (hb : ∀ a, off a + S1x128.size a ≤ S16x128.size a)
    {f : Buf (Elt F) (am.view.loc (c : Thread nD τ))}
    (hf : ((View.whole cc0_scratch44).slice (Rect.unit (s := S16x128) off S1x128.size hb)).read (Elt F) f = mrow xs ws d) :
    ∀ i ∈ rowsOf {d}, f i = maxs xs ws i := by
  intro i hi
  rw [← row_set d h hb] at hi
  obtain ⟨y, hy⟩ := View.exists_of_mem_set_slice hi
  have e := View.eq_of_read_eq (v := (View.whole cc0_scratch44).slice (Rect.unit (s := S16x128) off S1x128.size hb))
    (congrFun (hf.trans (row_read (xs := xs) (ws := ws) d h hb).symm) y)
  rw [← hy]
  exact e

/-- The device's row stored. -/
theorem am_store {c : Dev nD} {α : Type} {p : P F α} {Q : α → sProp 𝕄}
    {hl : am.view.LoadsAt (Rect.unit (s := S16x128) (k0_off4 c) S1x128.size (k0_off4_inb c)).toLoadRect}
    {hx : (am.access (Rect.unit (s := S16x128) (k0_off4 c) S1x128.size (k0_off4_inb c))).Stores Finset.univ} {hm} :
    amAny c {c} ⊢ iprop((amRow xs ws c {c} fullShare -∗ WP c p Q)
      -∗ WP c (.op (.load am (Rect.unit (s := S16x128) (k0_off4 c) S1x128.size (k0_off4_inb c)).toLoadRect hl) fun _ =>
        .op (.store am (Rect.unit (s := S16x128) (k0_off4 c) S1x128.size (k0_off4_inb c)) (mrow xs ws c) Finset.univ hx hm) fun _ => p) Q) := by
  have hs := row_set c (k0_off4_eq c) (k0_off4_inb c)
  unfold amAny amRow
  iintro ⟨%f, H⟩ Hk
  iapply (wp_load_rect 𝒱₀ (c : Thread nD τ) none Set.univ (m := am) (r := Rect.unit (s := S16x128) (k0_off4 c) S1x128.size (k0_off4_inb c))
    (S := rowsOf {c}) (subset_of_eq hs)) $$ H
  iintro H
  iapply (wp_store 𝒱₀ (c : Thread nD τ) none Set.univ (m := am) (r := Rect.unit (s := S16x128) (k0_off4 c) S1x128.size (k0_off4_inb c))
    (Mk := Finset.univ) (S := rowsOf {c}) (by rw [View.setOn_univ]; exact subset_of_eq hs)) $$ H
  iintro H
  iapply Hk
  iapply (Entails.of_eq (pointsTo_congr (row_eq c c (k0_off4_eq c) (k0_off4_inb c) (View.read_write_univ _ _)))) $$ H

/-! ## Shares -/

theorem piece_split (c : Dev nD) (n : ℕ) : amRow xs ws c {c} (rest n) ⊢ iprop(amRow xs ws c {c} (piece n) ∗ amRow xs ws c {c} (rest (n + 1))) := by
  unfold amRow piece
  exact (pointsTo_share (PosShare.mem_left_op_right (rest n))).1
theorem piece_join (c : Dev nD) (n : ℕ) : iprop(amRow xs ws c {c} (piece n) ∗ amRow xs ws c {c} (rest (n + 1))) ⊢ amRow xs ws c {c} (rest n) := by
  unfold amRow piece
  exact (pointsTo_share (PosShare.mem_left_op_right (rest n))).2

theorem pieces (c : Dev nD) (n : ℕ) : amRow xs ws c {c} fullShare
    ⊣⊢ iprop((sepL (List.range n) fun i => amRow xs ws c {c} (piece i)) ∗ amRow xs ws c {c} (rest n)) := by
  induction n with
  | zero =>
    refine ⟨?_, ?_⟩
    · iintro H
      isplitr; · simp only [List.range_zero, sepL]; iempintro
      iexact H
    · iintro ⟨-, H⟩; iexact H
  | succ n ih =>
    have h1 := piece_split (xs := xs) (ws := ws) c n
    have h2 := piece_join (xs := xs) (ws := ws) c n
    rw [List.range_succ]
    refine ⟨?_, ?_⟩
    · iintro H
      ihave H := ih.1 $$ H
      icases H with ⟨Hp, H⟩
      ihave H := h1 $$ H
      icases H with ⟨H1, H2⟩
      isplitl [Hp H1]
      · iapply (sepL_append _ _ _).2
        isplitl [Hp]; · iexact Hp
        simp only [sepL]
        isplitl; · iexact H1
        iempintro
      iexact H2
    · iintro ⟨H, Hr⟩
      ihave H := (sepL_append _ _ _).1 $$ H
      simp only [sepL]
      icases H with ⟨Hp, H1, -⟩
      iapply ih.2
      isplitl [Hp]; · iexact Hp
      iapply h2
      isplitl [H1] <;> iassumption

/-- The rows of the `n` nearest devices to the left, and the device's own. -/
def rset (c : Dev nD) (n : ℕ) : Finset (Fin 16) := Finset.univ.filter fun r => (c.val + 16 - r.val) % 16 ≤ n
theorem rset_zero (c : Dev nD) : rset c 0 = {c} := by revert c; decide +kernel
theorem rset_succ (c : Dev nD) (n : Fin 15) : rset c (n.val + 1) = rset c n.val ∪ {sh c (15 - n.val)} ∧ Disjoint (rset c n.val) {sh c (15 - n.val)} := by
  revert c n; decide +kernel
theorem rset_all (c : Dev nD) : rset c 15 = Finset.univ := by revert c; decide +kernel

theorem rows_join (c : Dev nD) (n : ℕ) (hn : n ≤ 15) :
    iprop(amRow xs ws c {c} fullShare ∗ sepL (List.range n) fun i => amRow xs ws c {sh c (15 - i)} fullShare)
      ⊢ amRow xs ws c (rset c n) fullShare := by
  induction n with
  | zero =>
    rw [rset_zero]
    iintro ⟨H, -⟩; iexact H
  | succ n ih =>
    have e := rset_succ c ⟨n, hn⟩
    have ih := ih (by omega)
    rw [List.range_succ, e.1]
    iintro ⟨H, Hs⟩
    ihave Hs := (sepL_append _ _ _).1 $$ Hs
    simp only [sepL]
    icases Hs with ⟨Hs, H1, -⟩
    ihave H := ih $$ [H Hs]
    · isplitl [H] <;> iassumption
    unfold amRow
    rw [rowsOf_union]
    iapply (pointsTo_union (rowsOf_disjoint e.2)).2
    isplitl [H] <;> iassumption

/-! ## The exchange -/

theorem above_agAll : Above 149 agAll := by unfold Above; decide +kernel

theorem above_rows (j : Fin 15) (l : List (Fin 15)) (hl : ∀ b ∈ l, j < b) : Above (130 + j.val) ((l.flatMap fun j => [rowP j]) ++ agAll) := by
  refine above_append ?_ (above_mono (by omega) above_agAll)
  intro p hp
  obtain ⟨b, hb, hp⟩ := List.mem_flatMap.mp hp
  rw [List.mem_singleton] at hp
  subst hp
  have h1 : j.val < b.val := hl b hb
  show 130 + j.val < 130 + b.val ∧ 130 + b.val < 300
  omega

theorem ms_ne (j : Fin 15) : Cl.ms j.succ ≠ .bar := fun h => by cases h
theorem mr_ne (j : Fin 15) : Cl.mr j.succ ≠ .bar := fun h => by cases h
theorem ms_lt : ∀ j : Fin 15, 0 < rounds (.ms j.succ) := by decide
theorem mr_lt : ∀ j : Fin 15, 0 < rounds (.mr j.succ) := by decide

theorem pay_ms (c : Dev nD) (j : Fin 15) : pay xs ws c (.ms j.succ) 0 false = amRow xs ws c {c} (piece j.val) := rfl
theorem pay_mr (c : Dev nD) (j : Fin 15) : pay xs ws c (.mr j.succ) 0 false = amRow xs ws c {sh c (15 - j.val)} fullShare := by
  show amRow xs ws c {sh c (16 - (j.val + 1))} fullShare = _
  rw [show 16 - (j.val + 1) = 15 - j.val by omega]

theorem am_send {c : Dev nD} (j : Fin 15) (l : List Pay) :
    iprop(ctx xs ws K ∗ T c (rowP j :: l) ∗ amRow xs ws c {c} (piece j.val) ∗ amAny (sh c (j.val + 1)) {c} ∗ otok c (.ms j.succ) 0 ∗ tok c (rowP j))
      ⊢ WP c (amSend c j) (fun _ => iprop(T c l ∗ ocr c (.ms j.succ) 0)) := by
  unfold amAny
  rw [← devJ_eq]
  simp only [amSend, Prog.lift]
  iintro ⟨#Hc, HT, Hp, ⟨%f, Hd⟩, Ot, Tk⟩
  iapply (send (xs := xs) (ws := ws) (K := K) (src := amOwn c) (dst := amOwn c) (fs := maxs xs ws) (fd := f) (sh := piece j.val) (R := iprop(emp))
    (rowP j) (.ms j.succ) 0 rfl rfl rfl (one_mem (ms_ne j) (ms_lt j)) (one_mem (mr_ne j) (mr_lt j)) rfl rfl
    (by rw [amOwn_pts, pay_ms]; exact BI.Entails.refl _)
    (by
      rw [amOwn_pts]
      show _ ⊢ pay xs ws (devJ c j) (.mr j.succ) 0 false
      rw [pay_mr, sh_back]
      iintro ⟨H, -⟩
      unfold amRow
      iapply (Entails.of_eq (pointsTo_congr (row_eq c (devJ c j) (k0_off5_eq c) (k0_off5_inb c)
        ((View.read_write_univ _ _).trans (row_read c (k0_off5_eq c) (k0_off5_inb c)))))) $$ H)) $$ [HT Hp Hd Ot Tk]
  · isplitr; · iexact Hc
    isplitl [Hp]
    · rw [amOwn_pts]
      unfold amRow
      iexact Hp
    isplitl [Hd]
    · isplitl [Hd]
      · rw [amOwn_pts]; iexact Hd
      · iempintro
    isplitl [HT]; · iexact HT
    isplitl [Ot]; · iexact Ot
    isplitr; · iapply (ctx_reached xs ws K _); iexact Hc
    isplitl [Tk]; · iexact Tk
    iapply (ctx_reached xs ws K _); iexact Hc
  iintro ⟨Ho, HT⟩
  iapply (done (F := F) c PUnit.unit _)
  isplitl [HT] <;> iassumption

theorem am_recv {c : Dev nD} (j : Fin 15) :
    iprop(ctx xs ws K ∗ T c agAll ∗ got c (rowP j) ∗ posA (c, .mr j.succ) 0)
      ⊢ WP c (amRecv c j) (fun _ => iprop(T c agAll ∗ posA (c, .mr j.succ) 1 ∗ amRow xs ws c {sh c (15 - j.val)} fullShare)) := by
  simp only [amRecv, Prog.lift]
  iintro ⟨#Hc, HT, Hg, Hp⟩
  iapply (wait_dma (xs := xs) (ws := ws) (K := K) (.mr j.succ) 0 (rowP j).lvl (mr_ne j) (mr_lt j)
    (l := agAll) (above_mono (show 130 + j.val ≤ 149 by omega) above_agAll) (show 130 + j.val < 300 by omega) rfl (credit_amFrom c j)) $$ [HT Hg Hp]
  · isplitr; · iexact Hc
    isplitl [HT]; · iexact HT
    isplitl [Hg]; · iexact Hg
    iexact Hp
  rw [pay_mr]
  iintro ⟨HT, Hp, H⟩
  iapply (done (F := F) c PUnit.unit _)
  isplitl [HT]; · iexact HT
  isplitl [Hp] <;> iassumption

theorem am_sent {c : Dev nD} (j : Fin 15) :
    iprop(ctx xs ws K ∗ T c agAll ∗ ocr c (.ms j.succ) 0 ∗ posA (c, .ms j.succ) 0)
      ⊢ WP c (amSent c j) (fun _ => iprop(T c agAll ∗ posA (c, .ms j.succ) 1 ∗ amRow xs ws c {c} (piece j.val))) := by
  simp only [amSent, Prog.lift]
  iintro ⟨#Hc, HT, Hg, Hp⟩
  iapply (wait_dma (xs := xs) (ws := ws) (K := K) (.ms j.succ) 0 0 (ms_ne j) (ms_lt j)
    (l := agAll) (above_mono (Nat.zero_le _) above_agAll) (by decide) rfl (credit_amOwn c)) $$ [HT Hg Hp]
  · isplitr; · iexact Hc
    isplitl [HT]; · iexact HT
    isplitl [Hg]; · iexact Hg
    iexact Hp
  rw [pay_ms]
  iintro ⟨HT, Hp, H⟩
  iapply (done (F := F) c PUnit.unit _)
  isplitl [HT]; · iexact HT
  isplitl [Hp] <;> iassumption

/-- A loop over a list, a part of the state turned element by element. -/
theorem loop_map {α : Type} (c : Dev nD) (r : α → α → Prop) (O : List α → sProp 𝕄) (Φ Ψ : α → sProp 𝕄) (f : α → P F PUnit)
    (h : ∀ a l, (∀ b ∈ l, r a b) → iprop(ctx xs ws K ∗ O (a :: l) ∗ Φ a) ⊢ WP c (f a) (fun _ => iprop(O l ∗ Ψ a)))
    (l : List α) (hl : l.Pairwise r) :
    iprop(ctx xs ws K ∗ O l ∗ sepL l Φ) ⊢ WP c (forL l f) (fun _ => iprop(O [] ∗ sepL l Ψ)) := by
  have e := forL_map c r (fun l => iprop(ctx xs ws K ∗ O l)) Φ Ψ f (by
    intro a l hl
    have e := keep c (h a l hl)
    unfold WP at *
    iintro ⟨⟨#Hc, HO⟩, Ha⟩
    iapply (wp_mono frame (wpE (defs₀ (F := F)) 𝒱₀ (c : Thread nD τ) none) Set.univ (Q := fun _ => iprop(ctx xs ws K ∗ O l ∗ Ψ a)) ?_)
    · intro _
      iintro ⟨Hc, H, Hs⟩
      isplitl [Hc H]
      · isplitl [Hc] <;> iassumption
      iexact Hs
    iapply e
    isplitr; · iexact Hc
    isplitl [HO] <;> iassumption) l hl
  unfold WP at *
  iintro ⟨#Hc, HO, H⟩
  iapply (wp_mono frame (wpE (defs₀ (F := F)) 𝒱₀ (c : Thread nD τ) none) Set.univ (Q := fun _ => iprop((ctx xs ws K ∗ O []) ∗ sepL l Ψ)) ?_)
  · intro _
    iintro ⟨⟨-, HO⟩, H⟩
    isplitl [HO] <;> iassumption
  iapply e
  isplitl [HO]
  · isplitr; · iexact Hc
    iexact HO
  iexact H

theorem j15_sorted : j15.Pairwise fun a b => a < b := by decide

/-- What the exchange uses of offset `j`. -/
def amNeed (c : Dev nD) (j : Fin 15) : sProp 𝕄 :=
  iprop((otok (F := F) c (.ms j.succ) 0 ∗ tok (F := F) c (rowP j)) ∗ (got (F := F) c (rowP j) ∗ posA (F := F) (c, .mr j.succ) 0) ∗ posA (F := F) (c, .ms j.succ) 0)
/-- What it leaves. -/
def amLeft (c : Dev nD) (j : Fin 15) : sProp 𝕄 := iprop(posA (F := F) (c, .mr j.succ) 1 ∗ posA (F := F) (c, .ms j.succ) 1)

theorem sends (c : Dev nD) :
    iprop(ctx xs ws K ∗ T c mxAll ∗ sepL j15 fun j => iprop(amRow xs ws c {c} (piece j.val) ∗ amAny (F := F) (sh c (j.val + 1)) {c}
        ∗ otok (F := F) c (.ms j.succ) 0 ∗ tok (F := F) c (rowP j)))
      ⊢ WP c (forL [0, 1, 2, 3, 4, 5, 6, 7, 8, 9, 10, 11, 12, 13, 14] (amSend c)) (fun _ => iprop(T c agAll ∗ sepL j15 fun j => ocr (F := F) c (.ms j.succ) 0)) := by
  have e := loop_map (xs := xs) (ws := ws) (K := K) c (fun a b : Fin 15 => a < b) (fun l => T c ((l.flatMap fun j => [rowP j]) ++ agAll))
    (fun j => iprop(amRow xs ws c {c} (piece j.val) ∗ amAny (F := F) (sh c (j.val + 1)) {c} ∗ otok (F := F) c (.ms j.succ) 0 ∗ tok (F := F) c (rowP j)))
    (fun j => ocr (F := F) c (.ms j.succ) 0) (amSend c)
    (fun j l _ => am_send (xs := xs) (ws := ws) (K := K) (c := c) j ((l.flatMap fun j => [rowP j]) ++ agAll)) j15 j15_sorted
  rw [List.flatMap_nil, List.nil_append] at e
  exact e

theorem recvs (c : Dev nD) :
    iprop(ctx xs ws K ∗ T c agAll ∗ sepL j15 fun j => iprop(got (F := F) c (rowP j) ∗ posA (F := F) (c, .mr j.succ) 0))
      ⊢ WP c (forL [0, 1, 2, 3, 4, 5, 6, 7, 8, 9, 10, 11, 12, 13, 14] (amRecv c))
        (fun _ => iprop(T c agAll ∗ sepL j15 fun j => iprop(posA (F := F) (c, .mr j.succ) 1 ∗ amRow xs ws c {sh c (15 - j.val)} fullShare))) :=
  loop_map (xs := xs) (ws := ws) (K := K) c (fun a b : Fin 15 => a < b) (fun _ => T c agAll) _ _ (amRecv c)
    (fun j _ _ => am_recv (xs := xs) (ws := ws) (K := K) (c := c) j) j15 j15_sorted

theorem sents (c : Dev nD) :
    iprop(ctx xs ws K ∗ T c agAll ∗ sepL j15 fun j => iprop(ocr (F := F) c (.ms j.succ) 0 ∗ posA (F := F) (c, .ms j.succ) 0))
      ⊢ WP c (forL [0, 1, 2, 3, 4, 5, 6, 7, 8, 9, 10, 11, 12, 13, 14] (amSent c))
        (fun _ => iprop(T c agAll ∗ sepL j15 fun j => iprop(posA (F := F) (c, .ms j.succ) 1 ∗ amRow xs ws c {c} (piece j.val)))) :=
  loop_map (xs := xs) (ws := ws) (K := K) c (fun a b : Fin 15 => a < b) (fun _ => T c agAll) _ _ (amSent c)
    (fun j _ _ => am_sent (xs := xs) (ws := ws) (K := K) (c := c) j) j15 j15_sorted

omit [FloatOps F] in
theorem sepL_j15 (Φ : ℕ → sProp 𝕄) : (sepL j15 fun j => Φ j.val) = sepL (List.range 15) Φ := rfl

/-- The load of all rows. -/
theorem ld_am {c : Dev nD} {hl} {α : Type} {k' : Vec F S16x128 .f32 → P F α} {Q : α → sProp 𝕄} :
    amRow xs ws c (rset c 15) fullShare ⊢ iprop((amRow xs ws c (rset c 15) fullShare -∗ WP c (k' (maxs xs ws)) Q)
      -∗ WP c (.op (.load am (Rect.unit (s := S16x128) ![0, 0] S16x128.size inb_S16x128_S16x128_0_0).toLoadRect hl) k') Q) := by
  have hv : (am.access (Rect.unit (s := S16x128) ![0, 0] S16x128.size inb_S16x128_S16x128_0_0)).read (Elt F) (maxs xs ws) = maxs xs ws := by
    funext y
    show maxs xs ws ((Rect.unit (s := S16x128) ![0, 0] S16x128.size inb_S16x128_S16x128_0_0).emb y) = _
    refine congrArg (maxs xs ws) ?_
    funext a
    match a with
    | 0 => exact Fin.ext (by show 0 + 1 * (y 0).val = (y 0).val; omega)
    | 1 => exact Fin.ext (by show 0 + 1 * (y 1).val = (y 1).val; omega)
  have hS : rowsOf (rset c 15) = Finset.univ := by
    rw [rset_all]
    exact Finset.filter_true_of_mem fun _ _ => Finset.mem_univ _
  unfold amRow
  rw [hS]
  iintro H Hk
  iapply (wp_load_rect 𝒱₀ (c : Thread nD τ) none Set.univ (m := am) (r := Rect.unit (s := S16x128) ![0, 0] S16x128.size inb_S16x128_S16x128_0_0)
    (S := Finset.univ) (Finset.subset_univ _)) $$ H
  rw [hv]
  iexact Hk

/-- The pool, spent. -/
theorem pool_end (c : Dev nD) : pl (F := F) 0 c 14 ⊢ sepL j15 fun j => amAny (F := F) (sh c (j.val + 1)) {c} := by
  rw [sepL_j15 fun i => amAny (F := F) (sh c (i + 1)) {c}]
  unfold pl kept pool
  rw [if_pos rfl, show poolRows c 14 = {c} from by revert c; decide +kernel, show List.range 15 = List.range 14 ++ [14] from List.range_succ]
  iintro ⟨H, H'⟩
  iapply (sepL_append _ _ _).2
  isplitl [H']; · iexact H'
  simp only [sepL]
  isplitl; · iexact H
  iempintro

theorem maxima_wp (c : Dev nD) :
    iprop(ctx xs ws K ∗ ((T c mxAll ∗ xw xs ws c) ∗ (sepL lanes fun X => rsSt (F := F) X c 14)) ∗ amAny (F := F) c {c} ∗ sepL j15 (amNeed (F := F) c))
      ⊢ WP c (maxima xM wM c) (fun v => iprop(⌜v = maxs xs ws⌝ ∗ (T c agAll ∗ xw xs ws c) ∗ (sepL lanes fun X => rsEnd xs ws X c)
        ∗ amRow xs ws c (rset c 15) fullShare ∗ sepL j15 (amLeft (F := F) c))) := by
  have hab : Above 129 mxAll := by unfold Above; decide +kernel
  have hrow : mrow xs ws c = rowOf (maxOf (pF xs ws 0 3 (devFrom 0 c)) (xAt xs 0 14 c) (wAt ws 0 c))
      (maxOf (pF xs ws 2 3 (devFrom 2 c)) (xAt xs 2 14 c) (wAt ws 2 c)) (maxOf (pF xs ws 1 3 (devFrom 1 c)) (xAt xs 1 14 c) (wAt ws 1 c))
      (pF xs ws 3 3 (devFrom 3 c)) (xAt xs 3 14 c) (wAt ws 3 c) := rfl
  unfold maxima
  simp only [sepL, lanes, amNeed]
  iintro ⟨#Hc, ⟨HT, L0, L2, L1, L3, -⟩, Ham, Hn⟩
  iapply (step (rs_last (xs := xs) (ws := ws) (K := K) (c := c) 0 hab)) $$ [HT L0]
  · isplitr; · iexact Hc
    isplitl [HT] <;> iassumption
  iintro %r ⟨%hr, ⟨HT, L0⟩, Hpool⟩
  subst hr
  iapply (step (rs_last (xs := xs) (ws := ws) (K := K) (c := c) 2 hab)) $$ [HT L2]
  · isplitr; · iexact Hc
    isplitl [HT] <;> iassumption
  iintro %r ⟨%hr, ⟨HT, L2⟩, -⟩
  subst hr
  iapply (step (rs_last (xs := xs) (ws := ws) (K := K) (c := c) 1 hab)) $$ [HT L1]
  · isplitr; · iexact Hc
    isplitl [HT] <;> iassumption
  iintro %r ⟨%hr, ⟨HT, L1⟩, -⟩
  subst hr
  iapply (step (rs_last (xs := xs) (ws := ws) (K := K) (c := c) 3 hab)) $$ [HT L3]
  · isplitr; · iexact Hc
    isplitl [HT] <;> iassumption
  iintro %r ⟨%hr, ⟨HT, L3⟩, -⟩
  subst hr
  ihave Hpool := (pool_end c) $$ Hpool
  simp only [← hrow]
  simp only [Prog.lift, Prog.bind_op, Prog.bind_ret, Prog.pure_eq_ret, Prog.bind_assoc]
  iapply am_store $$ Ham
  iintro Ham
  ihave Ham := (pieces c 15).1 $$ Ham
  icases Ham with ⟨Hp, Hrest⟩
  ihave Hn := (Entails.of_eq (show sepL j15 (amNeed (F := F) c) = sepL j15 fun j =>
    iprop((otok (F := F) c (.ms j.succ) 0 ∗ tok (F := F) c (rowP j)) ∗ (got (F := F) c (rowP j) ∗ posA (F := F) (c, .mr j.succ) 0) ∗ posA (F := F) (c, .ms j.succ) 0)
      from rfl)) $$ Hn
  ihave Hn := (sepL_sep j15 _ _).1 $$ Hn
  icases Hn with ⟨Hot, Hn⟩
  ihave Hn := (sepL_sep j15 _ _).1 $$ Hn
  icases Hn with ⟨Hgot, Hms⟩
  icases HT with ⟨HT, Hx⟩
  iapply (step (sends (xs := xs) (ws := ws) (K := K) c)) $$ [HT Hp Hpool Hot]
  · isplitr; · iexact Hc
    isplitl [HT]; · iexact HT
    iapply (sepL_sep j15 _ _).2
    isplitl [Hp]; · iapply (Entails.of_eq (sepL_j15 fun i => amRow xs ws c {c} (piece i)).symm); iexact Hp
    iapply (sepL_sep j15 _ _).2
    isplitl [Hpool] <;> iassumption
  iintro %u ⟨HT, Ho⟩
  iapply (step (recvs (xs := xs) (ws := ws) (K := K) c)) $$ [HT Hgot]
  · isplitr; · iexact Hc
    isplitl [HT] <;> iassumption
  iintro %u ⟨HT, Hr⟩
  iapply (step (sents (xs := xs) (ws := ws) (K := K) c)) $$ [HT Ho Hms]
  · isplitr; · iexact Hc
    isplitl [HT]; · iexact HT
    iapply (sepL_sep j15 _ _).2
    isplitl [Ho] <;> iassumption
  iintro %u ⟨HT, Hs⟩
  ihave Hr := (sepL_sep j15 _ _).1 $$ Hr
  icases Hr with ⟨Hmr, Hrows⟩
  ihave Hs := (sepL_sep j15 _ _).1 $$ Hs
  icases Hs with ⟨Hms, Hp⟩
  ihave Hown := (pieces c 15).2 $$ [Hp Hrest]
  · isplitl [Hp]; · iapply (Entails.of_eq (sepL_j15 fun i => amRow xs ws c {c} (piece i))); iexact Hp
    iexact Hrest
  ihave Hall := (rows_join c 15 (le_refl _)) $$ [Hown Hrows]
  · isplitl [Hown]; · iexact Hown
    iapply (Entails.of_eq (sepL_j15 fun i => amRow xs ws c {sh c (15 - i)} fullShare)); iexact Hrows
  iapply ld_am $$ Hall
  iintro Hall
  iapply (done (F := F) c _ _)
  isplitr; · ipureintro; rfl
  isplitl [HT Hx]
  · isplitl [HT] <;> iassumption
  isplitl [L0 L1 L2 L3]
  · isplitl [L0]; · iexact L0
    isplitl [L2]; · iexact L2
    isplitl [L1]; · iexact L1
    isplitl [L3]; · iexact L3
    iempintro
  isplitl [Hall]; · iexact Hall
  iapply (sepL_sep j15 (fun j => posA (F := F) (c, .mr j.succ) 1) (fun j => posA (F := F) (c, .ms j.succ) 1)).2
  isplitl [Hmr] <;> iassumption

end Maxima

end Cert.KernelIdeal.Ring

end
-- ==== Proof.Ring.Tile.lean ====
/- Where each lane's arrivals go in the result, and that a store there writes the result. -/
module

public import proofs.«01_k».proof.Proof.Ring.Maxima
public import Idealize.ShloMosaic.Lib.ValueLayout

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds Idealize.ShloMosaic.ValueIdx

variable {F : FTy → Type} [FloatOps F]

local notation "𝕄" => MT nD τ sig ℕ (Elt F) ℕ UU ℕ

/-- The block of rows lane `X` of device `d` stores at arrival `k`. -/
def blk (X : Fin 4) (d : Dev nD) (k : ℕ) : Fin 16 := if X.val < 2 then sh d (17 - k) else sh d (k + 15)

theorem ooff_eq (X : Fin 4) (d : Dev nD) (k : Fin 16) : ooff X d k = ![256 * (blk X d k).val, 2048 * X.val] := by
  revert X d k; decide +kernel
theorem from_iter (X : Fin 4) (d : Dev nD) (k : Fin 16) : (devFrom X)^[k.val] d = owner X (blk X d k) := by
  revert X d k; decide +kernel

section Tile

variable (xs : Dev nD → Vec F S4096x256 .bf16) (ws : Dev nD → Vec F S256x8192 .bf16)

theorem qv_iter (X : Fin 4) (k : ℕ) (d : Dev nD) : qv xs ws X k d = qv xs ws X 0 ((devFrom X)^[k] d) := by
  induction k generalizing d with
  | zero => rfl
  | succ k ih => rw [Function.iterate_succ_apply]; exact ih _

/-- The result at a row of a block and a column of a lane. -/
theorem OUT_at (X : Fin 4) (b : Fin 16) (x : Fin 256) (y : Fin 2048) {i : S4096x8192.Idx}
    (h0 : (i 0).val = 256 * b.val + x.val) (h1 : (i 1).val = 2048 * X.val + y.val) :
    OUT xs ws i = deq (scaleOf (maxs xs ws)) (qv xs ws X 0 (owner X b)) (ix3 (⟨0, Nat.one_pos⟩ : Fin 1) x y) := by
  have e1 : (⟨(i 1).val / 2048, Nat.div_lt_of_lt_mul (i 1).isLt⟩ : Fin 4) = X := Fin.ext (by show (i 1).val / 2048 = X.val; omega)
  have e0 : (⟨(i 0).val / 256, Nat.div_lt_of_lt_mul (i 0).isLt⟩ : Fin 16) = b := Fin.ext (by show (i 0).val / 256 = b.val; omega)
  unfold OUT
  rw [e1, e0]
  refine congrArg (deq (scaleOf (maxs xs ws)) (qv xs ws X 0 (owner X b))) ?_
  funext a
  match a with
  | 0 => rfl
  | 1 => exact Fin.ext (by show (i 0).val % 256 = x.val; omega)
  | 2 => exact Fin.ext (by show (i 1).val % 2048 = y.val; omega)

/-- A chunk of the result reads the arrival put back. -/
theorem out_read (X : Fin 4) (d : Dev nD) (k : ℕ) (hk : k < 16) (x : Fin 256) (y : Fin 2048) :
    (outChunk X d k hk).view.read (Elt F) (OUT xs ws) (ix2 x y)
      = deq (scaleOf (maxs xs ws)) (qv xs ws X k d) (ix3 (⟨0, Nat.one_pos⟩ : Fin 1) x y) := by
  rw [qv_iter, from_iter X d ⟨k, hk⟩]
  have e := ooff_eq X d ⟨k, hk⟩
  refine OUT_at xs ws X (blk X d k) x y
    (i := (Rect.unit (s := S4096x8192) (ooff X d k) S256x2048.size (ooff_inb X d k hk)).emb (ix2 x y)) ?_ ?_
  · show ooff X d k 0 + 1 * x.val = _
    rw [congrFun e 0]; show 256 * (blk X d k).val + 1 * x.val = _; omega
  · show ooff X d k 1 + 1 * y.val = _
    rw [congrFun e 1]; show 2048 * X.val + 1 * y.val = _; omega

omit [FloatOps F] in
/-- A slot read as a chunk. -/
theorem chunk_read {e : EltTy} (m : Memref sig .tc .vmem S2x256x2048 e) (r : Fin 2) (f : (m.access (slot2 r)).ty.Contents (Elt F))
    (x : Fin 256) (y : Fin 2048) :
    (chunk2 m r).view.read (Elt F) f (ix2 x y) = (m.access (slot2 r)).read (Elt F) f (ix3 (⟨0, Nat.one_pos⟩ : Fin 1) x y) :=
  congrArg ((m.access (slot2 r)).read (Elt F) f)
    (reshapeEquiv_ix2_1ab (a := 256) (b := 2048) squeezes_S1x256x2048_S256x2048.numel_eq x y)

/-- Storing an arrival put back into its chunk writes the result there. -/
theorem out_written (X : Fin 4) (d : Dev nD) (k : ℕ) (hk : k < 16) (r : Fin 2)
    (fs : Buf (Elt F) (((st X).access (slot2 r)).loc (d : Thread nD τ))) (fd : Buf (Elt F) ((outChunk X d k hk).view.loc (d : Thread nD τ)))
    (h : ((st X).access (slot2 r)).read (Elt F) fs = deq (scaleOf (maxs xs ws)) (qv xs ws X k d)) :
    ∀ i ∈ (outChunk X d k hk).view.set,
      (outChunk X d k hk).view.write (Elt F) fd ((chunk2 (st X) r).view.read (Elt F) fs) Finset.univ i = OUT xs ws i := by
  intro i hi
  obtain ⟨z, rfl⟩ := View.exists_of_mem_set_slice hi
  refine View.eq_of_read_eq (v := (outChunk X d k hk).view) (congrFun (?_ : _ = _) z)
  rw [View.read_write_univ]
  funext z
  have key : ∀ (x : Fin 256) (y : Fin 2048), (chunk2 (st X) r).view.read (Elt F) fs (ix2 x y)
      = (outChunk X d k hk).view.read (Elt F) (OUT xs ws) (ix2 x y) := by
    intro x y
    rw [out_read, ← h]
    exact chunk_read _ _ _ _ _
  have hz : (ix2 (n0 := 256) (n1 := 2048) (z 0) (z 1)) = z := by funext a; match a with | 0 => rfl | 1 => rfl
  exact (congrArg ((chunk2 (st X) r).view.read (Elt F) fs) hz).symm.trans
    ((key (z 0) (z 1)).trans (congrArg ((outChunk X d k hk).view.read (Elt F) (OUT xs ws)) hz))

end Tile

/-! ## Halves of a slot -/

section Halves

omit [FloatOps F] in
theorem holds_split {s : Shape} {e : EltTy} (m : Memref sig .tc .vmem s e) (r : Rect s) (c : Dev nD) (v : r.shape.Idx → Elt F e) :
    holds m r c fullShare v ⊢ iprop(holds m r c fullShare.left v ∗ holds m r c fullShare.right v) := by
  unfold holds
  iintro ⟨%f, %hf, H⟩
  ihave H := (pointsTo_share (PosShare.mem_left_op_right fullShare)).1 $$ H
  icases H with ⟨H, H'⟩
  isplitl [H]
  · iexists f; isplitr; · ipureintro; exact hf
    iexact H
  · iexists f; isplitr; · ipureintro; exact hf
    iexact H'

omit [FloatOps F] in
theorem any_join {s : Shape} {e : EltTy} (m : Memref sig .tc .vmem s e) (r : Rect s) (c : Dev nD) (v : r.shape.Idx → Elt F e) :
    iprop(any m r c fullShare.left ∗ holds m r c fullShare.right v) ⊢ any m r c fullShare := by
  unfold any holds
  iintro ⟨⟨%f, H⟩, ⟨%g, -, H'⟩⟩
  ihave %hfg := (pointsTo_agree (ℓ := (m.access r).loc (c : Thread nD τ))) $$ [H H']
  · isplitl [H] <;> iassumption
  ihave H' := (Entails.of_eq (pointsTo_congr (q := fullShare.right) (f := g) (g := f)
    (fun i hi => ((hfg i (Finset.mem_inter.mpr ⟨hi, hi⟩)).1).symm))) $$ H'
  iexists f
  iapply (pointsTo_share (PosShare.mem_left_op_right fullShare)).2
  isplitl [H] <;> iassumption

end Halves

end Cert.KernelIdeal.Ring

end
-- ==== Proof.Ring.Gather.lean ====
/- The all-gather: the quantised chunks go round the ring, and each arrival is put back and stored. -/
module

public import proofs.«01_k».proof.Proof.Ring.Tile

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## The payments' levels -/

theorem above_agTail : ∀ g : Fin 15, Above (8 * g.val + 157) (agTail g.val) := by unfold Above; decide +kernel

theorem agTail_succ {g : ℕ} (hg : g < 14) : agTail g = lanes.flatMap (agPays g) ++ agTail (g + 1) := by
  unfold agTail
  rw [range'_succ hg, List.flatMap_cons]

theorem above_agRow (g : Fin 15) (h14 : g.val < 14) (X : Fin 4) (l : List (Fin 4)) (hl : ∀ b ∈ l, pos X < pos b) :
    Above (8 * g.val + 2 * pos X + 158) (l.flatMap (agPays g.val) ++ agTail (g.val + 1)) := by
  refine above_append ?_ (above_mono (show _ ≤ 8 * (g.val + 1) + 157 by have := pos_le X; omega) (above_agTail ⟨g.val + 1, by omega⟩))
  intro p hp
  obtain ⟨Y, hY, hp⟩ := List.mem_flatMap.mp hp
  have h1 := hl Y hY
  have h2 := pos_le Y
  rcases List.mem_cons.mp hp with rfl | hp
  · show 8 * g.val + 2 * pos X + 158 < 8 * g.val + 2 * pos Y + 158 ∧ 8 * g.val + 2 * pos Y + 158 < 300
    omega
  · rw [List.mem_singleton] at hp
    subst hp
    show 8 * g.val + 2 * pos X + 158 < 8 * (g.val + 1) + 2 * pos Y + 151 ∧ 8 * (g.val + 1) + 2 * pos Y + 151 < 300
    omega

/-! ## The states -/

/-- Lane `X`'s places in the all-gather's cells before step `g`. -/
def agPos (X : Fin 4) (c : Dev nD) (g : ℕ) : sProp 𝕄 :=
  iprop((posA (F := F) (c, .ln X (.ga (sl3 (g + 1)))) (g / 3) ∗ posA (F := F) (c, .ln X (.ga (sl3 (g + 2)))) ((g + 1) / 3)
      ∗ posA (F := F) (c, .ln X (.ga (sl3 g))) ((g + 2) / 3))
    ∗ (posA (F := F) (c, .ln X (.gd (sl3 g))) (g / 3) ∗ posA (F := F) (c, .ln X (.gd (sl3 (g + 1)))) ((g + 1) / 3)
      ∗ posA (F := F) (c, .ln X (.gd (sl3 (g + 2)))) ((g + 2) / 3))
    ∗ posA (F := F) (c, .ln X .gc) g)

/-- Lane `X`'s stores before step `g`. -/
def soSt (xs : Dev nD → Vec F S4096x256 .bf16) (ws : Dev nD → Vec F S256x8192 .bf16) (X : Fin 4) (c : Dev nD) : ℕ → sProp 𝕄
  | 0 => iprop(posA (F := F) (c, .ln X (.so (sl2 0))) 0 ∗ posA (F := F) (c, .ln X (.so (sl2 1))) 0 ∗ ocr (F := F) c (.ln X (.so (sl2 0))) 0
      ∗ any (F := F) (st X) (slot2 (sl2 1)) c fullShare)
  | n + 1 => iprop(posA (F := F) (c, .ln X (.so (sl2 n))) (n / 2) ∗ posA (F := F) (c, .ln X (.so (sl2 (n + 1)))) ((n + 1) / 2)
      ∗ ocr (F := F) c (.ln X (.so (sl2 n))) (n / 2) ∗ ocr (F := F) c (.ln X (.so (sl2 (n + 1)))) ((n + 1) / 2)
      ∗ sepL (List.range n) (outDone xs ws X c))

/-- Lane `X` before step `g` of the all-gather. -/
def agSt (xs : Dev nD → Vec F S4096x256 .bf16) (ws : Dev nD → Vec F S256x8192 .bf16) (X : Fin 4) (c : Dev nD) (g : ℕ) : sProp 𝕄 :=
  iprop(agPos (F := F) X c g ∗ got (F := F) c (garP X g) ∗ ocr (F := F) c (.ln X (.gd (sl3 g))) (g / 3)
    ∗ holds (ag X) (slot3 (sl3 g)) c fullShare.right (qv xs ws X g c) ∗ any (F := F) (ag X) (slot3 (sl3 (g + 2))) c fullShare)

/-- What the store of arrival `k` uses. -/
def outNeed (X : Fin 4) (c : Dev nD) (k : ℕ) : sProp 𝕄 :=
  iprop(otok (F := F) c (.ln X (.so (sl2 k))) (k / 2) ∗ outAny (F := F) X c k)

/-- What step `g` of lane `X` uses. -/
def agNeed (X : Fin 4) (c : Dev nD) (g : ℕ) : sProp 𝕄 :=
  iprop((got (F := F) c (gcrP X g) ∗ got (F := F) c (garP X (g + 1)) ∗ tok (F := F) c (gcrP X g) ∗ tok (F := F) c (garP X (g + 1))
    ∗ otok (F := F) c (.ln X (.gd (sl3 (g + 1)))) ((g + 1) / 3)) ∗ outNeed (F := F) X c (g + 1))

section Gather

variable {xs : Dev nD → Vec F S4096x256 .bf16} {ws : Dev nD → Vec F S256x8192 .bf16} {K : Dev nD × Cl → ℕ}

/-! ## The pieces of a step -/

/-- An arrival put back, and its store begun. -/
theorem stage_wp {c : Dev nD} (X : Fin 4) (k : ℕ) (hk : k < 16) (q : PosShare TreeShare) :
    iprop(ctx xs ws K ∗ holds (ag X) (slot3 (sl3 k)) c q (qv xs ws X k c) ∗ any (st X) (slot2 (sl2 k)) c fullShare
        ∗ outNeed X c k ∗ posA (c, .ln X (.so (sl2 k))) (k / 2))
      ⊢ WP c (stage (scaleOf (maxs xs ws)) c X k hk) (fun _ => iprop(holds (ag X) (slot3 (sl3 k)) c q (qv xs ws X k c)
        ∗ posA (c, .ln X (.so (sl2 k))) (k / 2) ∗ ocr c (.ln X (.so (sl2 k))) (k / 2))) := by
  unfold outNeed outAny
  rw [dif_pos hk]
  simp only [stage, Prog.lift, Prog.bind_op, Prog.bind_ret, Prog.pure_eq_ret, Prog.bind_assoc]
  iintro ⟨#Hc, HA, HS, ⟨Ht, ⟨%fd, Hd⟩⟩, Hp⟩
  iapply ld $$ HA
  iintro HA
  iapply ld_any $$ HS
  iintro HS
  iapply sto $$ HS
  iintro HS
  ihave Hp := (pos_split _ _) $$ Hp
  icases Hp with ⟨Hr, Hp⟩
  ihave HS := (Entails.of_eq (show holds (st X) (slot2 (sl2 k)) c fullShare (deq (scaleOf (maxs xs ws)) (qv xs ws X k c))
    = iprop(∃ f, ⌜((st X).access (slot2 (sl2 k))).read (Elt F) f = deq (scaleOf (maxs xs ws)) (qv xs ws X k c)⌝
      ∗ (((st X).access (slot2 (sl2 k))).loc (c : Thread nD τ) ↦[((st X).access (slot2 (sl2 k))).set]{fullShare} f)) from rfl)) $$ HS
  icases HS with ⟨%fs, %hs, HS⟩
  iapply (copy (xs := xs) (ws := ws) (K := K) (src := chunk2 (st X) (sl2 k)) (dst := outChunk X c k hk) (fs := fs) (fd := fd) (sh := fullShare)
    (.ln X (.so (sl2 k))) (k / 2) rfl (one_mem (ln_ne _ _) (so_lt X hk)) (credit_out X c k hk)
    (by
      rw [pay_so, chunk2_pts, pointsTo_congr (out_written xs ws X c k hk (sl2 k) fs fd hs)]
      unfold any outDone
      rw [dif_pos hk]
      iintro ⟨H, H'⟩
      isplitl [H']; · iexists fs; iexact H'
      iexact H)) $$ [HS Hd Ht Hr]
  · isplitr; · iexact Hc
    isplitl [HS]; · rw [chunk2_pts]; iexact HS
    isplitl [Hd]; · iexact Hd
    isplitl [Ht] <;> iassumption
  iintro Ho
  iapply (done (F := F) c PUnit.unit _)
  isplitl [HA]; · iexact HA
  isplitl [Hp] <;> iassumption

/-- A store waited for. -/
theorem stored_wp {c : Dev nD} (X : Fin 4) (k : ℕ) (hk : k < 16) {l : List Pay} (hl : Above 0 l) :
    iprop(ctx xs ws K ∗ T c l ∗ ocr c (.ln X (.so (sl2 k))) (k / 2) ∗ posA (c, .ln X (.so (sl2 k))) (k / 2))
      ⊢ WP c (stored c X k hk) (fun _ => iprop(T c l ∗ posA (c, .ln X (.so (sl2 k))) (k / 2 + 1)
        ∗ any (st X) (slot2 (sl2 k)) c fullShare ∗ outDone xs ws X c k)) := by
  simp only [stored, Prog.lift]
  iintro ⟨#Hc, HT, Ho, Hp⟩
  iapply (wait_dma (xs := xs) (ws := ws) (K := K) (.ln X (.so (sl2 k))) (k / 2) 0 (ln_ne _ _) (so_lt X hk)
    (l := l) hl (by decide) rfl (credit_out X c k hk)) $$ [HT Ho Hp]
  · isplitr; · iexact Hc
    isplitl [HT]; · iexact HT
    isplitl [Ho] <;> iassumption
  rw [pay_so]
  iintro ⟨HT, Hp, HS, Hd⟩
  iapply (done (F := F) c PUnit.unit _)
  isplitl [HT]; · iexact HT
  isplitl [Hp]; · iexact Hp
  isplitl [HS] <;> iassumption

/-- An arrival. -/
theorem take_wp {c : Dev nD} (X : Fin 4) (g : ℕ) (hg : g < 15) {l : List Pay} (hl : Above (8 * g + 2 * pos X + 151) l) :
    iprop(ctx xs ws K ∗ T c l ∗ got c (garP X g) ∗ posA (c, .ln X (.ga (sl3 (g + 1)))) (g / 3))
      ⊢ WP c (agTake X g) (fun _ => iprop(T c l ∗ posA (c, .ln X (.ga (sl3 (g + 1)))) (g / 3 + 1)
        ∗ holds (ag X) (slot3 (sl3 (g + 1))) c fullShare (qv xs ws X (g + 1) c) ∗ reached ER (cell (devFrom X c, .ln X .gc)) g)) := by
  have hp := pos_le X
  simp only [agTake, Prog.lift]
  iintro ⟨#Hc, HT, Hg, Hp⟩
  iapply (wait_dma (xs := xs) (ws := ws) (K := K) (.ln X (.ga (sl3 (g + 1)))) (g / 3) (garP X g).lvl (ln_ne _ _) (ga_lt X hg)
    (l := l) hl (show 8 * g + 2 * pos X + 151 < 300 by omega) rfl (credit_ag X _)) $$ [HT Hg Hp]
  · isplitr; · iexact Hc
    isplitl [HT]; · iexact HT
    isplitl [Hg]; · iexact Hg
    iexact Hp
  rw [pay_ga]
  iintro ⟨HT, Hp, HS, Hr⟩
  iapply (done (F := F) c PUnit.unit _)
  isplitl [HT]; · iexact HT
  isplitl [Hp]; · iexact Hp
  isplitl [HS]; · iexact HS
  iexact Hr

/-- A departure's end. -/
theorem sent_wp {c : Dev nD} (X : Fin 4) (g : ℕ) (hg : g < 15) {l : List Pay} (hl : Above 0 l) :
    iprop(ctx xs ws K ∗ T c l ∗ ocr c (.ln X (.gd (sl3 g))) (g / 3) ∗ posA (c, .ln X (.gd (sl3 g))) (g / 3))
      ⊢ WP c (agSent X g) (fun _ => iprop(T c l ∗ posA (c, .ln X (.gd (sl3 g))) (g / 3 + 1)
        ∗ any (ag X) (slot3 (sl3 g)) c fullShare.left)) := by
  simp only [agSent, Prog.lift]
  iintro ⟨#Hc, HT, Ho, Hp⟩
  iapply (wait_dma (xs := xs) (ws := ws) (K := K) (.ln X (.gd (sl3 g))) (g / 3) 0 (ln_ne _ _) (gd_lt X hg)
    (l := l) hl (by decide) rfl (credit_ag X _)) $$ [HT Ho Hp]
  · isplitr; · iexact Hc
    isplitl [HT]; · iexact HT
    isplitl [Ho] <;> iassumption
  rw [show pay xs ws c (.ln X (.gd (sl3 g))) (g / 3) false = any (ag X) (slot3 (sl3 g)) c fullShare.left from rfl]
  iintro ⟨HT, Hp, HS⟩
  iapply (done (F := F) c PUnit.unit _)
  isplitl [HT]; · iexact HT
  isplitl [Hp]; · iexact Hp
  iexact HS

theorem pay_gcr (c : Dev nD) (X : Fin 4) (g : ℕ) :
    pay xs ws c (.ln X .gc) g false = iprop(any (ag X) (slot3 (sl3 (g + 2))) (devTo X c) fullShare
      ∗ reached ER (cell (devTo X c, .ln X (.ga (sl3 (g + 2))))) ((g + 1) / 3)) := rfl

theorem pay_gar (c : Dev nD) (X : Fin 4) (g : ℕ) :
    pay xs ws (devTo X c) (.ln X (.ga (sl3 (g + 1)))) (g / 3) false
      = iprop(holds (ag X) (slot3 (sl3 (g + 1))) (devTo X c) fullShare (qv xs ws X g c) ∗ reached ER (cell (c, .ln X .gc)) g) := by
  have e := pay_ga xs ws (devTo X c) X g
  rw [from_to] at e
  exact e

/-- An arrival passed on. -/
theorem pass_wp {c : Dev nD} (X : Fin 4) (g : ℕ) (hg : g < 14) {l : List Pay} (hl : Above (8 * g + 2 * pos X + 158) l) :
    iprop(ctx xs ws K ∗ T c (agPays g X ++ l)
        ∗ (got c (gcrP X g) ∗ tok c (gcrP X g) ∗ tok c (garP X (g + 1)) ∗ otok c (.ln X (.gd (sl3 (g + 1)))) ((g + 1) / 3))
        ∗ posA (c, .ln X .gc) g ∗ posA (c, .ln X (.ga (sl3 (g + 2)))) ((g + 1) / 3) ∗ posA (c, .ln X (.gd (sl3 (g + 1)))) ((g + 1) / 3)
        ∗ any (ag X) (slot3 (sl3 (g + 2))) c fullShare ∗ holds (ag X) (slot3 (sl3 (g + 1))) c fullShare (qv xs ws X (g + 1) c)
        ∗ reached ER (cell (devFrom X c, .ln X .gc)) g)
      ⊢ WP c (agPass c X g) (fun _ => iprop(T c l ∗ posA (c, .ln X .gc) (g + 1) ∗ posA (c, .ln X (.ga (sl3 (g + 2)))) ((g + 1) / 3)
        ∗ posA (c, .ln X (.gd (sl3 (g + 1)))) ((g + 1) / 3) ∗ ocr c (.ln X (.gd (sl3 (g + 1)))) ((g + 1) / 3)
        ∗ holds (ag X) (slot3 (sl3 (g + 1))) c fullShare.right (qv xs ws X (g + 1) c))) := by
  have hp := pos_le X
  simp only [agPass, semSignalWord, semWaitWord, Prog.lift, Prog.bind_op, Prog.bind_ret, Prog.pure_eq_ret, Prog.bind_assoc]
  iintro ⟨#Hc, HT, ⟨Gc, Tc, Ta, Ot⟩, Hgc, Hga, Hgd, Hsl, HA, Hcr⟩
  ihave Hga := (pos_split _ _) $$ Hga
  icases Hga with ⟨Hgr, Hga⟩
  iapply (signal (xs := xs) (ws := ws) (K := K) (gcrP X g) (l := garP X (g + 1) :: l) (q := (agCrd X).sem)
    (one_mem (ln_ne _ _) (show g < 14 from hg)) rfl rfl rfl) $$ [HT Tc Hsl Hgr Hcr]
  · isplitr; · iexact Hc
    isplitl [HT]; · iexact HT
    isplitl [Tc]; · iexact Tc
    isplitr [Hcr]
    · iapply (Entails.of_eq (pay_gcr (xs := xs) (ws := ws) (devFrom X c) X g).symm)
      rw [to_from]
      isplitl [Hsl] <;> iassumption
    iexact Hcr
  iintro HT
  iapply (wait_reg (xs := xs) (ws := ws) (K := K) (.ln X .gc) g (gcrP X g).lvl (ln_ne _ _) (show g < 14 from hg)
    (l := garP X (g + 1) :: l)
    (above_cons (show 8 * g + 2 * pos X + 158 < 8 * (g + 1) + 2 * pos X + 151 by omega) (show 8 * (g + 1) + 2 * pos X + 151 < 300 by omega)
        hl) (show 8 * g + 2 * pos X + 158 < 300 by omega) rfl rfl) $$ [HT Gc Hgc]
  · isplitr; · iexact Hc
    isplitl [HT]; · iexact HT
    isplitl [Gc]; · iexact Gc
    iexact Hgc
  rw [pay_gcr]
  iintro ⟨HT, Hgc, Hd, Hrr⟩
  ihave Hgc := (pos_split _ _) $$ Hgc
  icases Hgc with ⟨Hcr, Hgc⟩
  ihave Hgd := (pos_split _ _) $$ Hgd
  icases Hgd with ⟨Hdr, Hgd⟩
  ihave HA := (holds_split _ _ _ _) $$ HA
  icases HA with ⟨HA, HA'⟩
  iapply (send3 (xs := xs) (ws := ws) (K := K) (garP X (g + 1)) (l := l) (.ln X (.gd (sl3 (g + 1)))) ((g + 1) / 3)
    (v := qv xs ws X (g + 1) c) (q := fullShare.left)
    (R := reached ER (cell (c, .ln X .gc)) (g + 1)) rfl rfl rfl
    (one_mem (ln_ne _ _) (gd_lt X (by omega))) (one_mem (ln_ne _ _) (ga_lt X (by omega)))
    (credit_ag X _) rfl (BI.Entails.refl _)
    (Entails.of_eq (pay_gar (xs := xs) (ws := ws) c X (g + 1)).symm)) $$ [HA Hd Hcr HT Ot Hdr Ta Hrr]
  · isplitr; · iexact Hc
    isplitl [HA]; · iexact HA
    isplitl [Hd Hcr]
    · isplitl [Hd]; · iexact Hd
      iexact Hcr
    isplitl [HT]; · iexact HT
    isplitl [Ot]; · iexact Ot
    isplitl [Hdr]; · iexact Hdr
    isplitl [Ta]; · iexact Ta
    iexact Hrr
  iintro ⟨Ho, HT⟩
  iapply (done (F := F) c PUnit.unit _)
  isplitl [HT]; · iexact HT
  isplitl [Hgc]; · iexact Hgc
  isplitl [Hga]; · iexact Hga
  isplitl [Hgd]; · iexact Hgd
  isplitl [Ho]; · iexact Ho
  iexact HA'

/-- The arrival, its passing on, and the end of the departure before. -/
theorem core_wp {c : Dev nD} (X : Fin 4) (g : ℕ) (hg : g < 14) {l : List Pay} (hl : Above (8 * g + 2 * pos X + 158) l)
    {k : PUnit → P F PUnit} {Q : PUnit → sProp 𝕄} :
    iprop(ctx xs ws K ∗ T c (agPays g X ++ l) ∗ agSt xs ws X c g
        ∗ (got (F := F) c (gcrP X g) ∗ got (F := F) c (garP X (g + 1)) ∗ tok (F := F) c (gcrP X g) ∗ tok (F := F) c (garP X (g + 1))
          ∗ otok (F := F) c (.ln X (.gd (sl3 (g + 1)))) ((g + 1) / 3)))
      ⊢ iprop((∀ u, (T c l ∗ agSt xs ws X c (g + 1)) -∗ WP c (k u) Q)
        -∗ WP c (agTake X g >>= fun _ => agPass c X g >>= fun _ => agSent X g >>= k) Q) := by
  have hp := pos_le X
  unfold agSt agPos
  iintro ⟨#Hc, HT, ⟨⟨⟨Ha1, Ha2, Ha0⟩, ⟨Hd0, Hd1, Hd2⟩, Hgc⟩, Ga, Ho, HR, Hs⟩, Gc, Ga', Tc, Ta, Ot⟩ Hk
  iapply (step (take_wp (xs := xs) (ws := ws) (K := K) (c := c) X g (by omega) (l := agPays g X ++ l)
    (above_cons (show 8 * g + 2 * pos X + 151 < 8 * g + 2 * pos X + 158 by omega) (show 8 * g + 2 * pos X + 158 < 300 by omega)
      (above_cons (show 8 * g + 2 * pos X + 151 < 8 * (g + 1) + 2 * pos X + 151 by omega) (show 8 * (g + 1) + 2 * pos X + 151 < 300 by omega)
        (above_mono (show 8 * g + 2 * pos X + 151 ≤ _ by omega) hl))))) $$ [HT Ga Ha1]
  · isplitr; · iexact Hc
    isplitl [HT]; · iexact HT
    isplitl [Ga]; · iexact Ga
    iexact Ha1
  iintro %u ⟨HT, Ha1, HA, Hcr⟩
  iapply (step (pass_wp (xs := xs) (ws := ws) (K := K) (c := c) X g hg hl)) $$ [HT Gc Tc Ta Ot Hgc Ha2 Hd1 Hs HA Hcr]
  · isplitr; · iexact Hc
    isplitl [HT]; · iexact HT
    isplitl [Gc Tc Ta Ot]
    · isplitl [Gc]; · iexact Gc
      isplitl [Tc]; · iexact Tc
      isplitl [Ta] <;> iassumption
    isplitl [Hgc]; · iexact Hgc
    isplitl [Ha2]; · iexact Ha2
    isplitl [Hd1]; · iexact Hd1
    isplitl [Hs]; · iexact Hs
    isplitl [HA] <;> iassumption
  iintro %u ⟨HT, Hgc, Ha2, Hd1, Ho', HA⟩
  iapply (step (sent_wp (xs := xs) (ws := ws) (K := K) (c := c) X g (by omega) (above_mono (Nat.zero_le _) hl))) $$ [HT Ho Hd0]
  · isplitr; · iexact Hc
    isplitl [HT]; · iexact HT
    isplitl [Ho] <;> iassumption
  iintro %u ⟨HT, Hd0, HL⟩
  ihave HS := (any_join _ _ _ _) $$ [HL HR]
  · isplitl [HL] <;> iassumption
  iapply Hk
  rw [sl3_three, show (g + 1 + 2) / 3 = g / 3 + 1 by omega]
  isplitl [HT]; · iexact HT
  isplitl [Ha1 Ha2 Ha0 Hd0 Hd1 Hd2 Hgc]
  · isplitl [Ha1 Ha2 Ha0]
    · isplitl [Ha2]; · iexact Ha2
      isplitl [Ha0] <;> iassumption
    isplitr [Hgc]
    · isplitl [Hd1]; · iexact Hd1
      isplitl [Hd2] <;> iassumption
    iexact Hgc
  isplitl [Ga']; · iexact Ga'
  isplitl [Ho']; · iexact Ho'
  isplitl [HA]; · iexact HA
  iexact HS

/-! ## The steps -/

theorem first_wp {c : Dev nD} (X : Fin 4) {l : List Pay} (hl : Above (8 * 0 + 2 * pos X + 158) l) :
    iprop(ctx xs ws K ∗ T c (agPays 0 X ++ l) ∗ (agSt xs ws X c 0 ∗ soSt xs ws X c 0) ∗ agNeed X c 0)
      ⊢ WP c (agFirst (scaleOf (maxs xs ws)) c X) (fun _ => iprop(T c l ∗ agSt xs ws X c 1 ∗ soSt xs ws X c 1)) := by
  unfold agFirst agNeed soSt
  iintro ⟨#Hc, HT, ⟨Hs, P0, P1, O0, HS⟩, Hn, Hout⟩
  iapply (core_wp (xs := xs) (ws := ws) (K := K) X 0 (by decide) hl) $$ [HT Hs Hn]
  · isplitr; · iexact Hc
    isplitl [HT]; · iexact HT
    isplitl [Hs] <;> iassumption
  iintro %u ⟨HT, Hs⟩
  unfold agSt
  icases Hs with ⟨Hp, Ga, Ho, HA, Hsl⟩
  have e := stage_wp (xs := xs) (ws := ws) (K := K) (c := c) X 1 (by decide) fullShare.right
  unfold WP at *
  iapply (wp_wand_r frame (wpE (defs₀ (F := F)) 𝒱₀ (c : Thread nD τ) none) Set.univ)
  isplitl [HA HS Hout P1]
  · iapply e
    isplitr; · iexact Hc
    isplitl [HA]; · iexact HA
    isplitl [HS]; · iexact HS
    isplitl [Hout]; · iexact Hout
    iexact P1
  iintro %u ⟨HA, P1, O1⟩
  isplitl [HT]; · iexact HT
  isplitl [Hp Ga Ho HA Hsl]
  · isplitl [Hp]; · iexact Hp
    isplitl [Ga]; · iexact Ga
    isplitl [Ho]; · iexact Ho
    isplitl [HA] <;> iassumption
  isplitl [P0]; · iexact P0
  isplitl [P1]; · iexact P1
  isplitl [O0]; · iexact O0
  isplitl [O1]; · iexact O1
  simp only [List.range_zero, sepL]
  iempintro

omit [FloatOps F] in
theorem sepL_range_succ (n : ℕ) (Φ : ℕ → sProp 𝕄) : iprop(sepL (List.range n) Φ ∗ Φ n) ⊢ sepL (List.range (n + 1)) Φ := by
  rw [List.range_succ]
  iintro ⟨H, H'⟩
  iapply (sepL_append _ _ Φ).2
  isplitl [H]; · iexact H
  simp only [sepL]
  isplitl; · iexact H'
  iempintro

theorem soSt_two (X : Fin 4) (c : Dev nD) (n : ℕ) : soSt xs ws X c (n + 2)
    = iprop(posA (F := F) (c, .ln X (.so (sl2 (n + 1)))) ((n + 1) / 2) ∗ posA (F := F) (c, .ln X (.so (sl2 n))) (n / 2 + 1)
      ∗ ocr (F := F) c (.ln X (.so (sl2 (n + 1)))) ((n + 1) / 2) ∗ ocr (F := F) c (.ln X (.so (sl2 n))) (n / 2 + 1)
      ∗ sepL (List.range (n + 1)) (outDone xs ws X c)) := by
  rw [soSt, sl2_two, show (n + 1 + 1) / 2 = n / 2 + 1 by omega]

/-- A store's end and the next store. -/
theorem restage_wp {c : Dev nD} (X : Fin 4) (n : ℕ) (hn : n < 14) (h1 : n < 16) (h2 : n + 2 < 16) {l : List Pay} (hl : Above 0 l)
    (q : PosShare TreeShare) :
    iprop(ctx xs ws K ∗ T c l ∗ holds (ag X) (slot3 (sl3 (n + 2))) c q (qv xs ws X (n + 2) c) ∗ soSt xs ws X c (n + 1) ∗ outNeed X c (n + 2))
      ⊢ WP c (stored c X n h1 >>= fun _ => stage (scaleOf (maxs xs ws)) c X (n + 2) h2)
        (fun _ => iprop(T c l ∗ holds (ag X) (slot3 (sl3 (n + 2))) c q (qv xs ws X (n + 2) c) ∗ soSt xs ws X c (n + 2))) := by
  rw [soSt_two, soSt]
  iintro ⟨#Hc, HT, HA, ⟨P0, P1, O0, O1, Hd⟩, Hout⟩
  iapply (step (stored_wp (xs := xs) (ws := ws) (K := K) (c := c) X n h1 hl)) $$ [HT O0 P0]
  · isplitr; · iexact Hc
    isplitl [HT]; · iexact HT
    isplitl [O0]; · iexact O0
    iexact P0
  iintro %u ⟨HT, P0, HS, Hd'⟩
  have e := stage_wp (xs := xs) (ws := ws) (K := K) (c := c) X (n + 2) h2 q
  rw [sl2_two, show (n + 2) / 2 = n / 2 + 1 by omega] at e
  unfold WP at *
  iapply (wp_wand_r frame (wpE (defs₀ (F := F)) 𝒱₀ (c : Thread nD τ) none) Set.univ)
  isplitl [HA HS Hout P0]
  · iapply e
    isplitr; · iexact Hc
    isplitl [HA]; · iexact HA
    isplitl [HS]; · iexact HS
    isplitl [Hout]; · iexact Hout
    iexact P0
  iintro %u ⟨HA, P0, O0⟩
  isplitl [HT]; · iexact HT
  isplitl [HA]; · iexact HA
  isplitl [P1]; · iexact P1
  isplitl [P0]; · iexact P0
  isplitl [O1]; · iexact O1
  isplitl [O0]; · iexact O0
  iapply (sepL_range_succ n (outDone xs ws X c))
  isplitl [Hd] <;> iassumption

theorem step_wp {c : Dev nD} (g : Fin 14) (h1 : 1 ≤ g.val) (X : Fin 4) {l : List Pay} (hl : Above (8 * g.val + 2 * pos X + 158) l) :
    iprop(ctx xs ws K ∗ T c (agPays g.val X ++ l) ∗ (agSt xs ws X c g.val ∗ soSt xs ws X c g.val) ∗ agNeed X c g.val)
      ⊢ WP c (agStep (scaleOf (maxs xs ws)) c g X) (fun _ => iprop(T c l ∗ agSt xs ws X c (g.val + 1) ∗ soSt xs ws X c (g.val + 1))) := by
  obtain ⟨g, hg⟩ := g
  obtain ⟨n, rfl⟩ : ∃ n, g = n + 1 := ⟨g - 1, by simp only at h1; omega⟩
  unfold agStep agNeed
  simp only at *
  iintro ⟨#Hc, HT, ⟨Hs, Hso⟩, Hn, Hout⟩
  iapply (core_wp (xs := xs) (ws := ws) (K := K) X (n + 1) hg hl) $$ [HT Hs Hn]
  · isplitr; · iexact Hc
    isplitl [HT]; · iexact HT
    isplitl [Hs] <;> iassumption
  iintro %u ⟨HT, Hs⟩
  unfold agSt
  icases Hs with ⟨Hp, Ga, Ho, HA, Hsl⟩
  have e := restage_wp (xs := xs) (ws := ws) (K := K) (c := c) X n (by omega) (by omega) (by omega) (above_mono (Nat.zero_le _) hl) fullShare.right
  unfold WP at *
  iapply (wp_wand_r frame (wpE (defs₀ (F := F)) 𝒱₀ (c : Thread nD τ) none) Set.univ)
  isplitl [HT HA Hso Hout]
  · iapply e
    isplitr; · iexact Hc
    isplitl [HT]; · iexact HT
    isplitl [HA]; · iexact HA
    isplitl [Hso]; · iexact Hso
    iexact Hout
  iintro %u ⟨HT, HA, Hso⟩
  isplitl [HT]; · iexact HT
  isplitr [Hso]
  · isplitl [Hp]; · iexact Hp
    isplitl [Ga]; · iexact Ga
    isplitl [Ho]; · iexact Ho
    isplitl [HA]; · iexact HA
    iexact Hsl
  iexact Hso

/-! ## The ends -/

/-- Lane `X` before the all-gather's first departure. -/
def agIn (xs : Dev nD → Vec F S4096x256 .bf16) (ws : Dev nD → Vec F S256x8192 .bf16) (X : Fin 4) (c : Dev nD) : sProp 𝕄 :=
  iprop(holds (wf X) (slot2 0) c fullShare (pF xs ws X 4 c) ∗ any (F := F) (ag X) (slot3 0) c fullShare
    ∗ any (F := F) (ag X) (slot3 1) (devTo X c) fullShare ∗ otok (F := F) c (.ln X (.gd (sl3 0))) (0 / 3) ∗ tok (F := F) c (garP X 0))
/-- Lane `X`'s other places and slots before the all-gather, and what the store of its own chunk uses. -/
def agRest (X : Fin 4) (c : Dev nD) : sProp 𝕄 :=
  iprop((agPos (F := F) X c 0 ∗ got (F := F) c (garP X 0) ∗ any (F := F) (ag X) (slot3 (sl3 2)) c fullShare)
    ∗ (posA (F := F) (c, .ln X (.so (sl2 0))) 0 ∗ posA (F := F) (c, .ln X (.so (sl2 1))) 0
      ∗ any (F := F) (st X) (slot2 (sl2 0)) c fullShare ∗ any (F := F) (st X) (slot2 (sl2 1)) c fullShare)
    ∗ outNeed (F := F) X c 0)
/-- Lane `X` between its first departure and the first store. -/
def agMid (xs : Dev nD → Vec F S4096x256 .bf16) (ws : Dev nD → Vec F S256x8192 .bf16) (X : Fin 4) (c : Dev nD) : sProp 𝕄 :=
  iprop(any (F := F) (wf X) (slot2 0) c fullShare ∗ ocr (F := F) c (.ln X (.gd (sl3 0))) (0 / 3)
    ∗ holds (ag X) (slot3 (sl3 0)) c fullShare.right (qv xs ws X 0 c))

theorem start_wp {c : Dev nD} (X : Fin 4) {l : List Pay} :
    iprop(ctx xs ws K ∗ T c (garP X 0 :: l) ∗ agIn xs ws X c ∗ agRest X c)
      ⊢ WP c (agStart (invOf (maxs xs ws)) c X) (fun _ => iprop(T c l ∗ agMid xs ws X c ∗ agRest X c)) := by
  unfold agIn agMid
  simp only [agStart, Prog.lift, Prog.bind_op, Prog.bind_ret, Prog.pure_eq_ret, Prog.bind_assoc]
  iintro ⟨#Hc, HT, ⟨HW, HA, Hd, Ot, Tk⟩, Hrest⟩
  iapply ld $$ HW
  iintro HW
  iapply ld_any $$ HA
  iintro HA
  iapply sto $$ HA
  iintro HA
  ihave HA := (holds_split _ _ _ _) $$ HA
  icases HA with ⟨HA, HA'⟩
  iapply (send3 (xs := xs) (ws := ws) (K := K) (garP X 0) (l := l) (.ln X (.gd (sl3 0))) (0 / 3)
    (v := qv xs ws X 0 c) (q := fullShare.left)
    (R := reached ER (cell (c, .ln X .gc)) 0) rfl rfl rfl
    (one_mem (ln_ne _ _) (gd_lt X (by decide))) (one_mem (ln_ne _ _) (ga_lt X (by decide)))
    (credit_ag X _) rfl (BI.Entails.refl _)
    (Entails.of_eq (pay_gar (xs := xs) (ws := ws) c X 0).symm)) $$ [HA Hd HT Ot Tk]
  · isplitr; · iexact Hc
    isplitl [HA]; · iexact HA
    isplitl [Hd]
    · isplitl [Hd]; · iexact Hd
      iapply (ctx_reached xs ws K _); iexact Hc
    isplitl [HT]; · iexact HT
    isplitl [Ot]; · iexact Ot
    isplitr; · iapply (ctx_reached xs ws K _); iexact Hc
    isplitl [Tk]; · iexact Tk
    iapply (ctx_reached xs ws K _); iexact Hc
  iintro ⟨Ho, HT⟩
  iapply (done (F := F) c PUnit.unit _)
  isplitl [HT]; · iexact HT
  isplitr [Hrest]
  · isplitl [HW]; · iapply (holds_any _ _ _ _ _); iexact HW
    isplitl [Ho]; · iexact Ho
    iexact HA'
  iexact Hrest

/-- The device's own chunk stored. -/
theorem own_wp {c : Dev nD} (X : Fin 4) {l : List Pay} :
    iprop(ctx xs ws K ∗ T c l ∗ agMid xs ws X c ∗ agRest X c)
      ⊢ WP c (stage (scaleOf (maxs xs ws)) c X 0 (by decide))
        (fun _ => iprop(T c l ∗ any (wf X) (slot2 0) c fullShare ∗ agSt xs ws X c 0 ∗ soSt xs ws X c 0)) := by
  unfold agMid agRest agSt soSt
  iintro ⟨#Hc, HT, ⟨HW, Ho, HA⟩, ⟨Hp, Ga, Hs⟩, ⟨P0, P1, S0, S1⟩, Hout⟩
  have e := stage_wp (xs := xs) (ws := ws) (K := K) (c := c) X 0 (by decide) fullShare.right
  unfold WP at *
  iapply (wp_wand_r frame (wpE (defs₀ (F := F)) 𝒱₀ (c : Thread nD τ) none) Set.univ)
  isplitl [HA S0 Hout P0]
  · iapply e
    isplitr; · iexact Hc
    isplitl [HA]; · iexact HA
    isplitl [S0]; · iexact S0
    isplitl [Hout]; · iexact Hout
    iexact P0
  iintro %u ⟨HA, P0, O0⟩
  isplitl [HT]; · iexact HT
  isplitl [HW]; · iexact HW
  isplitl [Hp Ga Ho HA Hs]
  · isplitl [Hp]; · iexact Hp
    isplitl [Ga]; · iexact Ga
    isplitl [Ho]; · iexact Ho
    isplitl [HA]; · iexact HA
    iexact Hs
  isplitl [P0]; · iexact P0
  isplitl [P1]; · iexact P1
  isplitl [O0]; · iexact O0
  iexact S1

/-- Lane `X`'s slots and places after the all-gather. -/
def agEnd (X : Fin 4) (c : Dev nD) : sProp 𝕄 :=
  iprop(((posA (F := F) (c, .ln X (.ga (sl3 15))) 5 ∗ posA (F := F) (c, .ln X (.ga (sl3 16))) 5 ∗ posA (F := F) (c, .ln X (.ga (sl3 14))) 5)
      ∗ (posA (F := F) (c, .ln X (.gd (sl3 14))) 5 ∗ posA (F := F) (c, .ln X (.gd (sl3 15))) 5 ∗ posA (F := F) (c, .ln X (.gd (sl3 16))) 5)
      ∗ posA (F := F) (c, .ln X .gc) 14)
    ∗ any (F := F) (ag X) (slot3 (sl3 14)) c fullShare ∗ any (F := F) (ag X) (slot3 (sl3 15)) c fullShare
    ∗ any (F := F) (ag X) (slot3 (sl3 16)) c fullShare)

theorem last_wp {c : Dev nD} (X : Fin 4) :
    iprop(ctx xs ws K ∗ T c [] ∗ (agSt xs ws X c 14 ∗ soSt xs ws X c 14) ∗ outNeed X c 15)
      ⊢ WP c (agLast (scaleOf (maxs xs ws)) c X) (fun _ => iprop(T c [] ∗ agEnd X c ∗ soSt xs ws X c 15)) := by
  unfold agLast agSt agPos agEnd
  iintro ⟨#Hc, HT, ⟨⟨⟨⟨Ha1, Ha2, Ha0⟩, ⟨Hd0, Hd1, Hd2⟩, Hgc⟩, Ga, Ho, HR, Hs⟩, Hso⟩, Hout⟩
  iapply (step (take_wp (xs := xs) (ws := ws) (K := K) (c := c) X 14 (by decide) (l := []) (above_nil _))) $$ [HT Ga Ha1]
  · isplitr; · iexact Hc
    isplitl [HT]; · iexact HT
    isplitl [Ga]; · iexact Ga
    iexact Ha1
  iintro %u ⟨HT, Ha1, HA, -⟩
  iapply (step (sent_wp (xs := xs) (ws := ws) (K := K) (c := c) X 14 (by decide) (l := []) (above_nil _))) $$ [HT Ho Hd0]
  · isplitr; · iexact Hc
    isplitl [HT]; · iexact HT
    isplitl [Ho]; · iexact Ho
    iexact Hd0
  iintro %u ⟨HT, Hd0, HL⟩
  ihave HS := (any_join _ _ _ _) $$ [HL HR]
  · isplitl [HL] <;> iassumption
  have e := restage_wp (xs := xs) (ws := ws) (K := K) (c := c) X 13 (by decide) (by decide) (by decide) (l := []) (above_nil _) fullShare
  unfold WP at *
  iapply (wp_wand_r frame (wpE (defs₀ (F := F)) 𝒱₀ (c : Thread nD τ) none) Set.univ)
  isplitl [HT HA Hso Hout]
  · iapply e
    isplitr; · iexact Hc
    isplitl [HT]; · iexact HT
    isplitl [HA]; · iexact HA
    isplitl [Hso]; · iexact Hso
    iexact Hout
  iintro %u ⟨HT, HA, Hso⟩
  ihave HA := (holds_any _ _ _ _ _) $$ HA
  isplitl [HT]; · iexact HT
  isplitr [Hso]
  · isplitl [Ha1 Ha2 Ha0 Hd0 Hd1 Hd2 Hgc]
    · isplitl [Ha1 Ha2 Ha0]
      · isplitl [Ha1]; · iexact Ha1
        isplitl [Ha2]; · iexact Ha2
        iexact Ha0
      isplitr [Hgc]
      · isplitl [Hd0]; · iexact Hd0
        isplitl [Hd1]; · iexact Hd1
        iexact Hd2
      iexact Hgc
    isplitl [HS]; · iexact HS
    isplitl [HA]; · iexact HA
    iexact Hs
  iexact Hso

/-- Lane `X`'s stores, all done. -/
def soEnd (xs : Dev nD → Vec F S4096x256 .bf16) (ws : Dev nD → Vec F S256x8192 .bf16) (X : Fin 4) (c : Dev nD) : sProp 𝕄 :=
  iprop((posA (F := F) (c, .ln X (.so (sl2 14))) 8 ∗ posA (F := F) (c, .ln X (.so (sl2 15))) 8)
    ∗ (any (F := F) (st X) (slot2 (sl2 14)) c fullShare ∗ any (F := F) (st X) (slot2 (sl2 15)) c fullShare)
    ∗ sepL (List.range 16) (outDone xs ws X c))

theorem finish_wp {c : Dev nD} (X : Fin 4) :
    iprop(ctx xs ws K ∗ T c [] ∗ soSt xs ws X c 15)
      ⊢ WP c (stored c X 14 (by decide) >>= fun _ => stored c X 15 (by decide)) (fun _ => iprop(T c [] ∗ soEnd xs ws X c)) := by
  unfold soSt soEnd
  iintro ⟨#Hc, HT, P0, P1, O0, O1, Hd⟩
  iapply (step (stored_wp (xs := xs) (ws := ws) (K := K) (c := c) X 14 _ (l := []) (above_nil _))) $$ [HT O0 P0]
  · isplitr; · iexact Hc
    isplitl [HT]; · iexact HT
    isplitl [O0]; · iexact O0
    iexact P0
  iintro %u ⟨HT, P0, S0, Hd'⟩
  ihave Hd := (sepL_range_succ 14 (outDone xs ws X c)) $$ [Hd Hd']
  · isplitl [Hd] <;> iassumption
  have e := stored_wp (xs := xs) (ws := ws) (K := K) (c := c) X 15 (by decide) (l := []) (above_nil _)
  unfold WP at *
  iapply (wp_wand_r frame (wpE (defs₀ (F := F)) 𝒱₀ (c : Thread nD τ) none) Set.univ)
  isplitl [HT O1 P1]
  · iapply e
    isplitr; · iexact Hc
    isplitl [HT]; · iexact HT
    isplitl [O1]; · iexact O1
    iexact P1
  iintro %u ⟨HT, P1, S1, Hd'⟩
  isplitl [HT]; · iexact HT
  isplitl [P0 P1]
  · isplitl [P0]; · iexact P0
    iexact P1
  isplitl [S0 S1]
  · isplitl [S0]; · iexact S0
    iexact S1
  iapply (sepL_range_succ 15 (outDone xs ws X c))
  isplitl [Hd] <;> iassumption

/-! ## The whole -/

attribute [local irreducible] agTail

/-- What the steps from `g` on use. -/
def agNeeds (c : Dev nD) (g : ℕ) : sProp 𝕄 := sepL (List.range' g (14 - g)) fun g => sepL lanes fun X => agNeed (F := F) X c g

/-- A device before step `g` of the all-gather. -/
def AG (xs : Dev nD → Vec F S4096x256 .bf16) (ws : Dev nD → Vec F S256x8192 .bf16) (K : Dev nD × Cl → ℕ) (c : Dev nD) (g : ℕ) : sProp 𝕄 :=
  iprop(ctx xs ws K ∗ T c (agTail g) ∗ (sepL lanes fun X => iprop(agSt xs ws X c g ∗ soSt xs ws X c g)) ∗ agNeeds (F := F) c g)

theorem ag_row {c : Dev nD} (g : Fin 15) {n n' : ℕ} (hn : g.val = n) (hn' : n + 1 = n') (h14 : n < 14) (f : Fin 4 → P F PUnit)
    (hf : ∀ X l, Above (8 * n + 2 * pos X + 158) l →
      iprop(ctx xs ws K ∗ T c (agPays n X ++ l) ∗ (agSt xs ws X c n ∗ soSt xs ws X c n) ∗ agNeed X c n)
        ⊢ WP c (f X) (fun _ => iprop(T c l ∗ agSt xs ws X c (n + 1) ∗ soSt xs ws X c (n + 1)))) :
    AG xs ws K c n ⊢ WP c (forL lanes f) (fun _ => AG xs ws K c n') := by
  subst hn'
  subst hn
  have e := loop_map (xs := xs) (ws := ws) (K := K) c (fun X Y => pos X < pos Y)
    (fun l => T c (l.flatMap (agPays g.val) ++ agTail (g.val + 1)))
    (fun X => iprop((agSt xs ws X c g.val ∗ soSt xs ws X c g.val) ∗ agNeed (F := F) X c g.val))
    (fun X => iprop(agSt xs ws X c (g.val + 1) ∗ soSt xs ws X c (g.val + 1))) f
    (by
      intro X l hl
      rw [List.flatMap_cons, List.append_assoc]
      exact hf X _ (above_agRow g h14 X l hl)) lanes lanes_sorted
  rw [List.flatMap_nil, List.nil_append] at e
  have e := keep c e
  unfold AG agNeeds
  rw [agTail_succ h14, range'_succ h14]
  unfold WP at *
  iintro ⟨#Hc, HT, Hs, Hn⟩
  ihave Hn := (Entails.of_eq (show (sepL (g.val :: List.range' (g.val + 1) (14 - (g.val + 1))) fun g => sepL lanes fun X => agNeed (F := F) X c g)
    = iprop((sepL lanes fun X => agNeed (F := F) X c g.val) ∗ sepL (List.range' (g.val + 1) (14 - (g.val + 1))) fun g => sepL lanes fun X => agNeed (F := F) X c g)
      from rfl)) $$ Hn
  icases Hn with ⟨Hn, Hr⟩
  iapply (wp_mono frame (wpE (defs₀ (F := F)) 𝒱₀ (c : Thread nD τ) none) Set.univ
    (Q := fun _ => iprop((sepL (List.range' (g.val + 1) (14 - (g.val + 1))) fun h => sepL lanes fun X => agNeed (F := F) X c h)
      ∗ ctx xs ws K ∗ T c (agTail (g.val + 1)) ∗ sepL lanes fun X => iprop(agSt xs ws X c (g.val + 1) ∗ soSt xs ws X c (g.val + 1)))) ?_)
  · intro _
    iintro ⟨Hr, Hc, H, Hs⟩
    isplitl [Hc]; · iexact Hc
    isplitl [H]; · iexact H
    isplitl [Hs]; · iexact Hs
    iexact Hr
  iapply (wp_frame_l frame (wpE (defs₀ (F := F)) 𝒱₀ (c : Thread nD τ) none) Set.univ)
  isplitl [Hr]; · iexact Hr
  iapply e
  isplitr; · iexact Hc
  isplitl [HT]; · iexact HT
  iapply (sepL_sep lanes _ _).2
  isplitl [Hs] <;> iassumption

theorem g13_val : ∀ i : Fin 13, ([1, 2, 3, 4, 5, 6, 7, 8, 9, 10, 11, 12, 13] : List (Fin 14))[i].val = 1 + i.val := by decide

theorem first_row (c : Dev nD) : AG xs ws K c 0 ⊢ WP c (forL lanes (agFirst (scaleOf (maxs xs ws)) c)) (fun _ => AG xs ws K c 1) :=
  ag_row 0 rfl rfl (by decide) _ fun X _ hl => first_wp X hl

theorem step_row (c : Dev nD) (g : Fin 14) {n n' : ℕ} (hn : g.val = n) (hn' : n + 1 = n') (h1 : 1 ≤ n) :
    AG xs ws K c n ⊢ WP c (forL lanes fun X => agStep (scaleOf (maxs xs ws)) c g X) (fun _ => AG xs ws K c n') := by
  subst hn
  exact ag_row ⟨g.val, by omega⟩ rfl hn' g.isLt _ fun X _ hl => step_wp g h1 X hl

theorem step_loop (c : Dev nD) : AG xs ws K c 1 ⊢ WP c (forL [1, 2, 3, 4, 5, 6, 7, 8, 9, 10, 11, 12, 13] fun g => forL lanes fun X =>
    agStep (scaleOf (maxs xs ws)) c g X) (fun _ => AG xs ws K c 14) := by
  have e := forL_index c [1, 2, 3, 4, 5, 6, 7, 8, 9, 10, 11, 12, 13] (fun g => forL lanes fun X =>
    agStep (scaleOf (maxs xs ws)) c g X) (fun i => AG xs ws K c (1 + i)) 13 rfl fun i hi =>
    step_row (xs := xs) (ws := ws) (K := K) c _ (g13_val ⟨i, hi⟩) rfl (Nat.le_add_right 1 i)
  refine Eq.mp ?_ e
  congr 1

/-- The all-gather. -/
theorem gather_wp (c : Dev nD) :
    iprop(ctx xs ws K ∗ T c agAll ∗ (sepL lanes fun X => iprop(agIn xs ws X c ∗ agRest (F := F) X c)) ∗ agNeeds (F := F) c 0
        ∗ sepL lanes fun X => outNeed (F := F) X c 15)
      ⊢ WP c (gather (maxs xs ws) c) (fun _ => iprop(T c [] ∗ (sepL lanes fun X => any (F := F) (wf X) (slot2 0) c fullShare)
        ∗ (sepL lanes fun X => agEnd (F := F) X c) ∗ sepL lanes fun X => soEnd xs ws X c)) := by
  have e1 := loop_map (xs := xs) (ws := ws) (K := K) c (fun X Y => pos X < pos Y)
    (fun l => T c ((l.flatMap fun X => [garP X 0]) ++ agTail 0))
    (fun X => iprop(agIn xs ws X c ∗ agRest (F := F) X c)) (fun X => iprop(agMid xs ws X c ∗ agRest (F := F) X c)) (agStart (invOf (maxs xs ws)) c)
    (fun X l _ => start_wp X) lanes lanes_sorted
  rw [List.flatMap_nil, List.nil_append] at e1
  have e2 := loop_map (xs := xs) (ws := ws) (K := K) c (fun X Y => pos X < pos Y)
    (fun _ => T c (agTail 0))
    (fun X => iprop(agMid xs ws X c ∗ agRest (F := F) X c))
    (fun X => iprop(any (F := F) (wf X) (slot2 0) c fullShare ∗ agSt xs ws X c 0 ∗ soSt xs ws X c 0))
    (fun X => stage (scaleOf (maxs xs ws)) c X 0 (by decide)) (fun X l _ => own_wp X) lanes lanes_sorted
  have e3 := loop_map (xs := xs) (ws := ws) (K := K) c (fun X Y => pos X < pos Y)
    (fun _ => T c [])
    (fun X => iprop((agSt xs ws X c 14 ∗ soSt xs ws X c 14) ∗ outNeed (F := F) X c 15))
    (fun X => iprop(agEnd (F := F) X c ∗ soSt xs ws X c 15))
    (agLast (scaleOf (maxs xs ws)) c) (fun X l _ => last_wp X) lanes lanes_sorted
  have e4 := loop_map (xs := xs) (ws := ws) (K := K) c (fun X Y => pos X < pos Y)
    (fun _ => T c []) (fun X => soSt xs ws X c 15) (fun X => soEnd xs ws X c)
    (fun X => stored c X 14 (by decide) >>= fun _ => stored c X 15 (by decide)) (fun X l _ => finish_wp X) lanes lanes_sorted
  unfold gather agAll
  iintro ⟨#Hc, HT, Hs, Hn, Hl⟩
  iapply (step e1) $$ [HT Hs]
  · isplitr; · iexact Hc
    isplitl [HT] <;> iassumption
  iintro %u ⟨HT, Hs⟩
  iapply (step e2) $$ [HT Hs]
  · isplitr; · iexact Hc
    isplitl [HT] <;> iassumption
  iintro %u ⟨HT, Hs⟩
  ihave Hs := (sepL_sep lanes _ _).1 $$ Hs
  icases Hs with ⟨HW, Hs⟩
  have f1 := first_row (xs := xs) (ws := ws) (K := K) c
  have f2 := step_loop (xs := xs) (ws := ws) (K := K) c
  have f3 : iprop(ctx xs ws K ∗ T c (agTail 0) ∗ (sepL lanes fun X => iprop(agSt xs ws X c 0 ∗ soSt xs ws X c 0)) ∗ agNeeds (F := F) c 0)
    ⊢ WP c (forL lanes (agFirst (scaleOf (maxs xs ws)) c)) (fun _ => AG xs ws K c 1) := f1
  iapply (step f3) $$ [HT Hs Hn]
  · isplitr; · iexact Hc
    isplitl [HT]; · iexact HT
    isplitl [Hs] <;> iassumption
  iintro %u Hs
  have f4 : iprop(ctx xs ws K ∗ AG xs ws K c 1) ⊢ WP c (forL [1, 2, 3, 4, 5, 6, 7, 8, 9, 10, 11, 12, 13] fun g => forL lanes fun X =>
    agStep (scaleOf (maxs xs ws)) c g X) (fun _ => AG xs ws K c 14) := by
    unfold WP at *
    iintro ⟨-, H⟩
    iapply f2 $$ H
  iapply (step f4) $$ [Hs]
  · isplitr; · iexact Hc
    iexact Hs
  iintro %u Hs
  ihave Hs := (Entails.of_eq (show AG xs ws K c 14 = iprop(ctx xs ws K ∗ T c (agTail 14)
    ∗ (sepL lanes fun X => iprop(agSt xs ws X c 14 ∗ soSt xs ws X c 14)) ∗ agNeeds (F := F) c 14) from rfl)) $$ Hs
  icases Hs with ⟨-, HT, Hs, -⟩
  rw [show agTail 14 = [] by unfold agTail; rfl]
  iapply (step e3) $$ [HT Hs Hl]
  · isplitr; · iexact Hc
    isplitl [HT]; · iexact HT
    iapply (sepL_sep lanes _ _).2
    isplitl [Hs] <;> iassumption
  iintro %u ⟨HT, Hs⟩
  ihave Hs := (sepL_sep lanes _ _).1 $$ Hs
  icases Hs with ⟨HE, Hs⟩
  unfold WP at *
  iapply (wp_wand_r frame (wpE (defs₀ (F := F)) 𝒱₀ (c : Thread nD τ) none) Set.univ)
  isplitl [HT Hs]
  · iapply e4
    isplitr; · iexact Hc
    isplitl [HT] <;> iassumption
  iintro %u ⟨HT, Hs⟩
  isplitl [HT]; · iexact HT
  isplitl [HW]; · iexact HW
  isplitl [HE] <;> iassumption

end Gather

end Cert.KernelIdeal.Ring

end
-- ==== Proof.Ring.Main.lean ====
/- The whole body of a device, from what it starts with to what it ends with. -/
module

public import proofs.«01_k».proof.Proof.Ring.Gather

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-- What lane `X` has for the reduce-scatter. -/
def laneA (X : Fin 4) (c : Dev nD) : sProp 𝕄 :=
  iprop(rsPos (F := F) X c 0 ∗ got (F := F) c (arrP X 0) ∗ otok (F := F) c (.ln X (.rd (sl2 0))) (0 / 2) ∗ tok (F := F) c (arrP X 0)
    ∗ any (F := F) (wb X) (slot2 0) c fullShare ∗ spare (F := F) X c 0)
/-- What lane `X` has for the all-gather. -/
def laneB (X : Fin 4) (c : Dev nD) : sProp 𝕄 :=
  iprop((any (F := F) (ag X) (slot3 0) c fullShare ∗ otok (F := F) c (.ln X (.gd (sl3 0))) (0 / 3) ∗ tok (F := F) c (garP X 0)) ∗ agRest (F := F) X c)
/-- What a device has for the barrier. -/
def barIn (c : Dev nD) : sProp 𝕄 :=
  iprop(tok (F := F) c barL ∗ tok (F := F) c barR ∗ cred (tallyAt (cell (c, .bar)) 1 2) ∗ atPos ER (cell (c, .bar)) 0 ∅ 0
    ∗ opens (F := F) c ∗ pool (F := F) (devL c) 0)
/-- What the steps use. -/
def needs (c : Dev nD) : sProp 𝕄 :=
  iprop(rsNeeds (F := F) c 0 ∗ sepL j15 (amNeed (F := F) c) ∗ agNeeds (F := F) c 0 ∗ sepL lanes fun X => outNeed (F := F) X c 15)
/-- What a device starts with. -/
def devIn (c : Dev nD) : sProp 𝕄 :=
  iprop(barIn (F := F) c ∗ (sepL lanes fun X => laneA (F := F) X c) ∗ (sepL lanes fun X => laneB (F := F) X c) ∗ amAny (F := F) c {c} ∗ needs (F := F) c)

/-- Lane `X`'s places and slots after the reduce-scatter. -/
def rsFin (X : Fin 4) (c : Dev nD) : sProp 𝕄 :=
  iprop((posA (F := F) (c, .ln X (.ra (sl2 15))) 8 ∗ posA (F := F) (c, .ln X (.ra (sl2 14))) 7
    ∗ posA (F := F) (c, .ln X (.rd (sl2 14))) 8 ∗ posA (F := F) (c, .ln X (.rd (sl2 15))) 7 ∗ posA (F := F) (c, .ln X .rc) 14)
    ∗ any (F := F) (wf X) (slot2 1) c fullShare ∗ spare (F := F) X c 14)

/-- What a device ends with. -/
def devOut (xs : Dev nD → Vec F S4096x256 .bf16) (ws : Dev nD → Vec F S256x8192 .bf16) (c : Dev nD) : sProp 𝕄 :=
  iprop(atPos ER (cell (c, .bar)) 1 ∅ 0 ∗ (sepL lanes fun X => rsFin (F := F) X c) ∗ (sepL lanes fun X => any (F := F) (wf X) (slot2 0) c fullShare)
    ∗ (sepL lanes fun X => agEnd (F := F) X c) ∗ (sepL lanes fun X => soEnd xs ws X c)
    ∗ amRow xs ws c (rset c 15) fullShare ∗ sepL j15 (amLeft (F := F) c))

section Main

variable {xs : Dev nD → Vec F S4096x256 .bf16} {ws : Dev nD → Vec F S256x8192 .bf16} {K : Dev nD × Cl → ℕ}

/-- The two sides' landing slots, by lane. -/
theorem opened (c : Dev nD) :
    iprop((laneOpen (F := F) 0 (devR c) ∗ laneOpen (F := F) 1 (devR c) ∗ pool (F := F) c 0) ∗ (laneOpen (F := F) 2 (devL c) ∗ laneOpen (F := F) 3 (devL c)))
      ⊢ iprop((sepL lanes fun X => any (F := F) (wb X) (slot2 1) (devTo X c) fullShare)
        ∗ (sepL lanes fun X => any (F := F) (ag X) (slot3 1) (devTo X c) fullShare) ∗ sepL lanes fun X => pl (F := F) X c 0) := by
  have e0 : iprop(pool (F := F) c 0) ⊢ pl 0 c 0 := by
    unfold pl kept
    rw [if_pos rfl]
    simp only [List.range_zero, sepL]
    iintro H
    isplitl; · iexact H
    iempintro
  have en : ∀ X : Fin 4, X ≠ 0 → iprop(emp) ⊢ pl (F := F) X c 0 := by
    intro X hX
    unfold pl
    rw [if_neg hX]
  unfold laneOpen
  simp only [lanes, sepL]
  iintro ⟨⟨⟨W0, A0⟩, ⟨W1, A1⟩, Hp⟩, ⟨W2, A2⟩, ⟨W3, A3⟩⟩
  isplitl [W0 W1 W2 W3]
  · isplitl [W0]; · iexact W0
    isplitl [W2]; · iexact W2
    isplitl [W1]; · iexact W1
    isplitl [W3]; · iexact W3
    iempintro
  isplitl [A0 A1 A2 A3]
  · isplitl [A0]; · iexact A0
    isplitl [A2]; · iexact A2
    isplitl [A1]; · iexact A1
    isplitl [A3]; · iexact A3
    iempintro
  isplitl [Hp]; · iapply e0; iexact Hp
  isplitr; · iapply (en 2 (by decide)); iempintro
  isplitr; · iapply (en 1 (by decide)); iempintro
  isplitr; · iapply (en 3 (by decide)); iempintro
  iempintro

omit [FloatOps F] in
theorem sepL_in {α : Type} (l : List α) (Φ Ψ Θ : α → sProp 𝕄) (h : ∀ a, iprop(Φ a ∗ Ψ a) ⊢ Θ a) : iprop(sepL l Φ ∗ sepL l Ψ) ⊢ sepL l Θ := by
  have e := sepL_mono l h
  iintro H
  iapply e
  iapply (sepL_sep l Φ Ψ).2
  iexact H

theorem rs_in (X : Fin 4) (c : Dev nD) :
    iprop(laneA (F := F) X c ∗ (any (F := F) (wb X) (slot2 1) (devTo X c) fullShare ∗ pl (F := F) X c 0)) ⊢ rsIn (F := F) X c := by
  unfold laneA rsIn
  iintro ⟨⟨H1, H2, H3, H4, H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7] <;> iassumption

theorem rs_fin (X : Fin 4) (c : Dev nD) :
    rsEnd xs ws X c ⊢ iprop(rsFin (F := F) X c ∗ holds (wf X) (slot2 0) c fullShare (pF xs ws X 4 c)) := by
  unfold rsEnd rsFin
  iintro ⟨H1, H2, H3, H4⟩
  isplitr [H4]
  · isplitl [H1]; · iexact H1
    isplitl [H2] <;> iassumption
  iexact H4

theorem ag_in (X : Fin 4) (c : Dev nD) :
    iprop(holds (wf X) (slot2 0) c fullShare (pF xs ws X 4 c) ∗ (laneB (F := F) X c ∗ any (F := F) (ag X) (slot3 1) (devTo X c) fullShare))
      ⊢ iprop(agIn xs ws X c ∗ agRest (F := F) X c) := by
  unfold laneB agIn
  iintro ⟨H1, ⟨⟨H2, H3, H4⟩, H5⟩, H6⟩
  isplitr [H5]
  · isplitl [H1]; · iexact H1
    isplitl [H2]; · iexact H2
    isplitl [H6]; · iexact H6
    isplitl [H3] <;> iassumption
  iexact H5

theorem rsTail_end : rsTail 14 = mxAll := by
  unfold rsTail
  rw [show List.range' 14 (14 - 14) = [] from rfl, List.flatMap_nil, List.nil_append]

/-- The body. -/
theorem body_wp (c : Dev nD) :
    iprop(ctx xs ws K ∗ T c allPays ∗ xw xs ws c ∗ devIn (F := F) c)
      ⊢ WP c (body xM wM) (fun _ => iprop(T c [] ∗ xw xs ws c ∗ devOut xs ws c)) := by
  have hb := bar_wp (xs := xs) (ws := ws) (K := K) c
  have hr := reduce_wp (xs := xs) (ws := ws) (K := K) c
  have hm := maxima_wp (xs := xs) (ws := ws) (K := K) c
  have hg := gather_wp (xs := xs) (ws := ws) (K := K) c
  unfold devIn barIn needs body
  simp only [Prog.lift, Prog.bind_op, Prog.bind_ret]
  unfold WP
  rw [wp_deviceId]
  iintro ⟨#Hc, HT, Hx, ⟨Tl, Tr, Cb, Pb, Op, Po⟩, HA, HB, Ham, Nr, Nm, Ng, No⟩
  iapply (step hb) $$ [HT Tl Tr Cb Pb Op Po]
  · isplitr; · iexact Hc
    isplitl [HT]; · iexact HT
    isplitl [Tl]; · iexact Tl
    isplitl [Tr]; · iexact Tr
    isplitl [Cb]; · iexact Cb
    isplitl [Pb]; · iexact Pb
    isplitl [Op] <;> iassumption
  iintro %u ⟨HT, Pb, Hop⟩
  ihave Hop := (opened c) $$ Hop
  icases Hop with ⟨Hw, Ha, Hp⟩
  ihave HA := (sepL_in lanes _ _ (fun X => rsIn (F := F) X c) (fun X => rs_in X c)) $$ [HA Hw Hp]
  · isplitl [HA]; · iexact HA
    iapply (sepL_sep lanes _ _).2
    isplitl [Hw] <;> iassumption
  iapply (step hr) $$ [HT Hx HA Nr]
  · isplitr; · iexact Hc
    isplitl [HT Hx]
    · isplitl [HT] <;> iassumption
    isplitl [HA] <;> iassumption
  iintro %u H
  unfold RS
  icases H with ⟨-, HTx, HS, -⟩
  rw [rsTail_end]
  iapply (step hm) $$ [HTx HS Ham Nm]
  · isplitr; · iexact Hc
    isplitl [HTx HS]
    · isplitl [HTx] <;> iassumption
    isplitl [Ham] <;> iassumption
  iintro %v ⟨%hv, ⟨HT, Hx⟩, HE, Ham, Hl⟩
  subst hv
  ihave HE := (sepL_mono lanes (fun X => rs_fin (xs := xs) (ws := ws) X c)) $$ HE
  ihave HE := (sepL_sep lanes _ _).1 $$ HE
  icases HE with ⟨HF, HW⟩
  ihave HG := (sepL_in lanes _ _ (fun X => iprop(agIn xs ws X c ∗ agRest (F := F) X c)) (fun X => ag_in X c)) $$ [HW HB Ha]
  · isplitl [HW]; · iexact HW
    iapply (sepL_sep lanes _ _).2
    isplitl [HB] <;> iassumption
  unfold WP at *
  iapply (wp_wand_r frame (wpE (defs₀ (F := F)) 𝒱₀ (c : Thread nD τ) none) Set.univ)
  isplitl [HT HG Ng No]
  · iapply hg
    isplitr; · iexact Hc
    isplitl [HT]; · iexact HT
    isplitl [HG]; · iexact HG
    isplitl [Ng] <;> iassumption
  iintro %u ⟨HT, HW, HE, HS⟩
  unfold devOut
  isplitl [HT]; · iexact HT
  isplitl [Hx]; · iexact Hx
  isplitl [Pb]; · iexact Pb
  isplitl [HF]; · iexact HF
  isplitl [HW]; · iexact HW
  isplitl [HE]; · iexact HE
  isplitl [HS]; · iexact HS
  isplitl [Ham] <;> iassumption

end Main

end Cert.KernelIdeal.Ring

end
-- ==== Proof.Ring.Tokens.lean ====
/- What the launch mints and owes, dealt to the devices: a token of each payment to the device that makes it (`deal`), the
   credit of each payment to the device that receives it (`creds`). -/
module

public import proofs.«01_k».proof.Proof.Ring.Main

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## Lists of assertions, as equalities -/

section Lists

omit [FloatOps F] in
theorem sepL_append_eq {α : Type} (l l' : List α) (Φ : α → sProp 𝕄) : sepL (l ++ l') Φ = iprop(sepL l Φ ∗ sepL l' Φ) :=
  BI.Entails.antisymm (sepL_append l l' Φ).1 (sepL_append l l' Φ).2
omit [FloatOps F] in
theorem sepL_sep_eq {α : Type} (l : List α) (Φ Ψ : α → sProp 𝕄) :
    sepL l (fun a => iprop(Φ a ∗ Ψ a)) = iprop(sepL l Φ ∗ sepL l Ψ) :=
  BI.Entails.antisymm (sepL_sep l Φ Ψ).1 (sepL_sep l Φ Ψ).2
omit [FloatOps F] in
theorem sepL_flatMap_eq {α β : Type} (l : List α) (f : α → List β) (Φ : β → sProp 𝕄) :
    sepL (l.flatMap f) Φ = sepL l fun a => sepL (f a) Φ := by
  induction l with
  | nil => rfl
  | cons a l ih =>
    rw [List.flatMap_cons, sepL_append_eq, ih]; rfl
omit [FloatOps F] in
theorem sepL_map_eq {α β : Type} (l : List α) (f : α → β) (Φ : β → sProp 𝕄) : sepL (l.map f) Φ = sepL l fun a => Φ (f a) := by
  induction l with
  | nil => rfl
  | cons a l ih => show iprop(Φ (f a) ∗ sepL (l.map f) Φ) = _; rw [ih]; rfl
omit [FloatOps F] in
theorem sepL_emp {α : Type} (l : List α) : sepL (F := F) l (fun _ => iprop(emp)) = iprop(emp) := by
  induction l with
  | nil => rfl
  | cons a l ih =>
    show iprop(emp ∗ sepL l fun _ => iprop(emp)) = _
    rw [ih]
    exact BI.Entails.antisymm (show iprop(emp ∗ emp) ⊢ (iprop(emp) : sProp 𝕄) from by iintro -; iempintro)
      (show (iprop(emp) : sProp 𝕄) ⊢ iprop(emp ∗ emp) from by iintro -; isplitl <;> iempintro)
omit [FloatOps F] in
theorem sepL_comm {α β : Type} (l : List α) (l' : List β) (Φ : α → β → sProp 𝕄) :
    (sepL l fun a => sepL l' (Φ a)) = sepL l' fun b => sepL l fun a => Φ a b := by
  induction l with
  | nil => exact (sepL_emp l').symm
  | cons a l ih =>
    show iprop(sepL l' (Φ a) ∗ sepL l fun a => sepL l' (Φ a)) = _
    rw [ih, ← sepL_sep_eq]; rfl
omit [FloatOps F] in
theorem sepL_toFinset {α : Type} [DecidableEq α] (l : List α) (hl : l.Nodup) (Φ : α → sProp 𝕄) : bigSep l.toFinset Φ = sepL l Φ := by
  induction l with
  | nil => exact bigSep_empty
  | cons a l ih =>
    rw [List.toFinset_cons, bigSep_insert (fun h => (List.nodup_cons.mp hl).1 (List.mem_toFinset.mp h)), ih (List.nodup_cons.mp hl).2]
    rfl
omit [FloatOps F] in
theorem sepL_univ {α : Type} [DecidableEq α] [Fintype α] (l : List α) (hl : l.Nodup) (h : ∀ a, a ∈ l) (Φ : α → sProp 𝕄) :
    bigSep Finset.univ Φ = sepL l Φ := by
  rw [← sepL_toFinset l hl]
  congr 1
  ext a
  exact ⟨fun _ => List.mem_toFinset.mpr (h a), fun _ => Finset.mem_univ a⟩

end Lists

/-! ## The tokens -/

/-- A payment to one of the device's own cells. -/
def ownP (k : Cl) (r : ℕ) : Pay := ⟨Equiv.refl _, k, r, false, 0⟩
/-- The payments of the reduce-scatter's departures. -/
def ownRs : List Pay := (lanes.flatMap fun X => [ownP (.ln X (.rd (sl2 0))) (0 / 2)])
  ++ (List.range' 0 14).flatMap fun h => lanes.flatMap fun X => [ownP (.ln X (.rd (sl2 (h + 1)))) ((h + 1) / 2)]
/-- Of the maxima's. -/
def ownMx : List Pay := j15.flatMap fun j => [ownP (.ms j.succ) 0]
/-- Of the all-gather's, and of the stores. -/
def ownAg : List Pay := (lanes.flatMap fun X => [ownP (.ln X (.gd (sl3 0))) (0 / 3), ownP (.ln X (.so (sl2 0))) (0 / 2)])
  ++ ((List.range' 0 14).flatMap fun g => lanes.flatMap fun X =>
    [ownP (.ln X (.gd (sl3 (g + 1)))) ((g + 1) / 3), ownP (.ln X (.so (sl2 (g + 1)))) ((g + 1) / 2)])
  ++ lanes.flatMap fun X => [ownP (.ln X (.so (sl2 15))) (15 / 2)]
/-- All of these. -/
def ownAll : List Pay := ownRs ++ (ownMx ++ ownAg)

/-- Every payment. -/
def every : List Pay := allPays ++ ownAll

/-- A payment's cell, round and duty. -/
def Pay.ev (p : Pay) : Cl × ℕ × Bool := (p.k, p.r, p.d)

/-- A cell's number. -/
def Cl.num : Cl → ℕ
  | .bar => 0
  | .ms j => 1 + j.val
  | .mr j => 17 + j.val
  | .ln X .rc => 40 + 20 * X.val
  | .ln X .gc => 41 + 20 * X.val
  | .ln X (.ra s) => 42 + 20 * X.val + s.val
  | .ln X (.rd s) => 44 + 20 * X.val + s.val
  | .ln X (.ga s) => 46 + 20 * X.val + s.val
  | .ln X (.gd s) => 49 + 20 * X.val + s.val
  | .ln X (.so s) => 52 + 20 * X.val + s.val
/-- A number for each cell, round and duty. -/
def evNum (e : Cl × ℕ × Bool) : ℕ := (e.1.num * 100 + e.2.1) * 2 + if e.2.2 then 1 else 0

theorem every_nodup : (every.map Pay.ev).Nodup := by
  have h : ((every.map Pay.ev).map evNum).Nodup := by decide +kernel
  exact List.Nodup.of_map _ h

/-- Device `c`'s cell, round and duty. -/
def evAt (c : Dev nD) (e : Cl × ℕ × Bool) : GSem nD τ sig × ℕ × Bool := (cell (c, e.1), e.2.1, e.2.2)
theorem evAt_inj {c c' : Dev nD} {e e' : Cl × ℕ × Bool} (h : evAt c e = evAt c' e') : c = c' ∧ e = e' := by
  have h1 := cell_inj (Prod.mk.inj h).1
  have h2 := (Prod.mk.inj h).2
  exact ⟨(Prod.mk.inj h1).1, Prod.ext (Prod.mk.inj h1).2 h2⟩

/-- The cells. -/
def ringCells : Finset (GSem nD τ sig) := Finset.univ.map ⟨cell, cell_inj⟩
/-- The tokens of device `c`'s cells. -/
def toksOf (c : Dev nD) : Finset (GSem nD τ sig × ℕ × Bool) := (every.map Pay.ev).toFinset.map ⟨evAt c, fun _ _ h => (evAt_inj h).2⟩
/-- The tokens. -/
def ringToks : Finset (GSem nD τ sig × ℕ × Bool) := Finset.univ.biUnion toksOf

omit [FloatOps F] in
theorem ringToks_eq : bigSep ringToks (fun x => (dutyTok ER x.1 x.2.1 x.2.2 : sProp 𝕄))
    = bigSep Finset.univ fun c : Dev nD => sepL every fun p => dutyTok ER (cell (c, p.k)) p.r p.d := by
  unfold ringToks
  rw [bigSep_biUnion_eq _ _ _ fun c _ c' _ hcc => ?_]
  · refine bigSep_congr fun c _ => ?_
    unfold toksOf
    rw [bigSep_map, sepL_toFinset _ every_nodup, sepL_map_eq]
    rfl
  · rw [Finset.disjoint_left]
    intro x hx hx'
    obtain ⟨e, -, rfl⟩ := Finset.mem_map.mp hx
    obtain ⟨e', -, he⟩ := Finset.mem_map.mp hx'
    exact hcc (evAt_inj he).1.symm

omit [FloatOps F] in
/-- The tokens, each to the device that pays with it. -/
theorem deal (l : List Pay) : (bigSep Finset.univ fun c : Dev nD => sepL l fun p => (dutyTok ER (cell (c, p.k)) p.r p.d : sProp 𝕄))
    = bigSep Finset.univ fun c : Dev nD => sepL l (tok (F := F) c) := by
  induction l with
  | nil => rfl
  | cons p l ih =>
    show (bigSep Finset.univ fun c : Dev nD => iprop(dutyTok ER (cell (c, p.k)) p.r p.d ∗ sepL l fun p => (dutyTok ER (cell (c, p.k)) p.r p.d : sProp 𝕄)))
      = bigSep Finset.univ fun c : Dev nD => iprop(tok (F := F) c p ∗ sepL l (tok (F := F) c))
    rw [bigSep_sep', bigSep_sep', ih, bigSep_univ_equiv p.dst (fun c : Dev nD => (dutyTok ER (cell (c, p.k)) p.r p.d : sProp 𝕄))]
    rfl

omit [FloatOps F] in
/-- The credits of what the others owe. -/
theorem creds (l : List Pay) (c : Dev nD) : (Pipeline.launchCred (fun d => owed d l) c : sProp 𝕄) ⊢ sepL l (got (F := F) c) := by
  induction l with
  | nil => exact Entails.of_eq (Pipeline.launchCred_zero c)
  | cons p l ih =>
    have h0 := Pipeline.launchCred_add (Name := ℕ) (U := UU) (Lvl := ℕ) (Val := Elt F) (fun d => owed d l)
      (fun d => tallyAt ((p.dst d : Thread nD τ), p.k.sem) p.lvl (amt p.k p.r)) c
    have h1 := Pipeline.launchCred_tallyAt (Name := ℕ) (U := UU) (Lvl := ℕ) (Val := Elt F) (τ := τ) p.k.sem p.dst p.dst.symm
      p.dst.apply_symm_apply p.dst.symm_apply_apply p.lvl (amt p.k p.r) c
    show (Pipeline.launchCred (fun d => owed d l + tallyAt ((p.dst d : Thread nD τ), p.k.sem) p.lvl (amt p.k p.r)) c : sProp 𝕄)
      ⊢ iprop(got c p ∗ sepL l (got (F := F) c))
    rw [h0]
    iintro ⟨H, Hp⟩
    isplitl [Hp]
    · iapply h1; iexact Hp
    · iapply ih; iexact H

end Cert.KernelIdeal.Ring

end
-- ==== Proof.Ring.Buffers.lean ====
/- The buffers in parts and back: a buffer of slots (`split_parts`, `join_parts`), the maxima by rows, the result by chunks. -/
module

public import proofs.«01_k».proof.Proof.Ring.Tokens

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

section Parts

variable {I : Type} [Fintype I] [DecidableEq I] {sp : Space} {s : Shape} {e : EltTy}

/-- The rectangles are disjoint, and together all. -/
def Parts (r : I → Rect s) : Prop := (∀ i, ∃ k, i ∈ (r k).set) ∧ ∀ k k', k ≠ k' → Disjoint (r k).set (r k').set

theorem parts_set (m : Memref sig .tc sp s e) {r : I → Rect s} (h : Parts r) :
    m.view.set = Finset.univ.biUnion fun k => (m.access (r k)).set := by
  ext j
  simp only [Finset.mem_biUnion, Finset.mem_univ, true_and]
  constructor
  · intro hj
    obtain ⟨i, -, rfl⟩ := Finset.mem_map.mp hj
    obtain ⟨k, hk⟩ := h.1 i
    refine ⟨k, ?_⟩
    show m.view.emb i ∈ (m.view.slice (r k)).set
    rw [View.set_slice]
    exact Finset.mem_map_of_mem _ hk
  · rintro ⟨k, hk⟩
    exact View.set_slice_subset m.view (r k) hk
theorem parts_disjoint (m : Memref sig .tc sp s e) {r : I → Rect s} (h : Parts r) (k k' : I) (hk : k ≠ k') :
    Disjoint (m.access (r k)).set (m.access (r k')).set := by
  show Disjoint (m.view.slice (r k)).set (m.view.slice (r k')).set
  rw [View.set_slice, View.set_slice]
  exact (Finset.disjoint_map _).mpr (h.2 k k' hk)

omit [FloatOps F] in
/-- A buffer at one contents, in parts. -/
theorem parts_eq (m : Memref sig .tc sp s e) {r : I → Rect s} (h : Parts r) (c : Dev nD) (f : Buf (Elt F) (m.view.loc (c : Thread nD τ))) :
    (m.view.loc (c : Thread nD τ) ↦[m.view.set]{fullShare} f : sProp 𝕄)
      = bigSep Finset.univ fun k => (m.view.loc (c : Thread nD τ) ↦[(m.access (r k)).set]{fullShare} f : sProp 𝕄) := by
  rw [parts_set m h]
  exact pointsTo_biUnion _ _ fun k _ k' _ hk => parts_disjoint m h k k' hk

end Parts

section Slots

variable {I : Type} [Fintype I] [DecidableEq I] {s : Shape} {e : EltTy}

omit [FloatOps F] in
theorem split_parts (m : Memref sig .tc .vmem s e) {r : I → Rect s} (h : Parts r) (c : Dev nD)
    (f : Buf (Elt F) (m.view.loc (c : Thread nD τ))) :
    (m.view.loc (c : Thread nD τ) ↦[m.view.set]{fullShare} f : sProp 𝕄) ⊢ bigSep Finset.univ fun k => any (F := F) m (r k) c fullShare := by
  rw [parts_eq m h c f]
  refine bigSep_mono fun k _ => ?_
  show (m.view.loc (c : Thread nD τ) ↦[(m.access (r k)).set]{fullShare} f : sProp 𝕄) ⊢ any (F := F) m (r k) c fullShare
  unfold any
  iintro H
  iexists f
  iexact H

omit [FloatOps F] in
theorem join_parts (m : Memref sig .tc .vmem s e) {r : I → Rect s} (h : Parts r) (c : Dev nD) [∀ e, Nonempty (Elt F e)] :
    (bigSep Finset.univ fun k => any (F := F) m (r k) c fullShare)
      ⊢ (iprop(∃ f, m.view.loc (c : Thread nD τ) ↦[m.view.set]{fullShare} f) : sProp 𝕄) := by
  have h0 := BI.bigSep_exists_pi Finset.univ (fun k (f : Buf (Elt F) (m.view.loc (c : Thread nD τ))) =>
    (m.view.loc (c : Thread nD τ) ↦[(m.access (r k)).set]{fullShare} f : sProp 𝕄))
  have h1 := fun (fs : I → Buf (Elt F) (m.view.loc (c : Thread nD τ))) => pointsTo_biUnion_join (Ix := ℕ) (Name := ℕ) (U := UU) (Lvl := ℕ) (q := fullShare)
    Finset.univ (fun k => (m.access (r k)).set) fs (fun _ => Classical.arbitrary _) fun k _ k' _ hk => parts_disjoint m h k k' hk
  rw [parts_set m h]
  unfold any
  iintro H
  ihave H := h0 $$ H
  icases H with ⟨%fs, H⟩
  ihave H := (h1 fs) $$ H
  icases H with ⟨%g, -, H⟩
  iexists g
  iexact H

end Slots

theorem parts2 : Parts slot2 := by
  refine ⟨fun i => ⟨⟨(i 0).val, (i 0).isLt⟩, ?_⟩, fun k k' hk => ?_⟩
  · rw [Rect.mem_set_unit]
    intro a
    match a with
    | 0 => exact ⟨le_refl _, Nat.lt_succ_self _⟩
    | 1 => exact ⟨Nat.zero_le _, by rw [show (![(i 0).val, 0, 0] : Fin 3 → ℕ) 1 = 0 from rfl, Nat.zero_add]; exact (i 1).isLt⟩
    | 2 => exact ⟨Nat.zero_le _, by rw [show (![(i 0).val, 0, 0] : Fin 3 → ℕ) 2 = 0 from rfl, Nat.zero_add]; exact (i 2).isLt⟩
  · rw [Finset.disjoint_left]
    intro i hi hi'
    have h := (Rect.mem_set_unit.mp hi) 0
    have h' := (Rect.mem_set_unit.mp hi') 0
    have e : (![k.val, 0, 0] : Fin 3 → ℕ) 0 = k.val := rfl
    have e' : (![k'.val, 0, 0] : Fin 3 → ℕ) 0 = k'.val := rfl
    have e1 : S1x256x2048.size 0 = 1 := rfl
    rw [e, e1] at h
    rw [e', e1] at h'
    exact hk (Fin.ext (by omega))

theorem parts3 : Parts slot3 := by
  refine ⟨fun i => ⟨⟨(i 0).val, (i 0).isLt⟩, ?_⟩, fun k k' hk => ?_⟩
  · rw [Rect.mem_set_unit]
    intro a
    match a with
    | 0 => exact ⟨le_refl _, Nat.lt_succ_self _⟩
    | 1 => exact ⟨Nat.zero_le _, by rw [show (![(i 0).val, 0, 0] : Fin 3 → ℕ) 1 = 0 from rfl, Nat.zero_add]; exact (i 1).isLt⟩
    | 2 => exact ⟨Nat.zero_le _, by rw [show (![(i 0).val, 0, 0] : Fin 3 → ℕ) 2 = 0 from rfl, Nat.zero_add]; exact (i 2).isLt⟩
  · rw [Finset.disjoint_left]
    intro i hi hi'
    have h := (Rect.mem_set_unit.mp hi) 0
    have h' := (Rect.mem_set_unit.mp hi') 0
    have e : (![k.val, 0, 0] : Fin 3 → ℕ) 0 = k.val := rfl
    have e' : (![k'.val, 0, 0] : Fin 3 → ℕ) 0 = k'.val := rfl
    have e1 : S1x256x2048.size 0 = 1 := rfl
    rw [e, e1] at h
    rw [e', e1] at h'
    exact hk (Fin.ext (by omega))

/-! ## The result -/

/-- The chunk of lane `X`'s arrival `k`, as a rectangle. -/
def chunkR (c : Dev nD) (p : Fin 4 × Fin 16) : Rect S4096x8192 :=
  Rect.unit (s := S4096x8192) (ooff p.1 c p.2.val) S256x2048.size (ooff_inb p.1 c p.2.val p.2.isLt)

theorem blk_inj (X : Fin 4) (c : Dev nD) (k k' : Fin 16) (h : blk X c k.val = blk X c k'.val) : k = k' := by
  revert X c k k'; decide +kernel
theorem blk_surj (X : Fin 4) (c : Dev nD) (b : Fin 16) : ∃ k : Fin 16, blk X c k.val = b := by
  revert X c b; decide +kernel

theorem parts_out (c : Dev nD) : Parts (chunkR c) := by
  refine ⟨fun i => ?_, fun p p' hp => ?_⟩
  · obtain ⟨k, hk⟩ := blk_surj ⟨(i 1).val / 2048, Nat.div_lt_of_lt_mul (i 1).isLt⟩ c ⟨(i 0).val / 256, Nat.div_lt_of_lt_mul (i 0).isLt⟩
    refine ⟨(⟨(i 1).val / 2048, Nat.div_lt_of_lt_mul (i 1).isLt⟩, k), ?_⟩
    unfold chunkR
    rw [Rect.mem_set_unit]
    have e := ooff_eq ⟨(i 1).val / 2048, Nat.div_lt_of_lt_mul (i 1).isLt⟩ c k
    rw [hk] at e
    intro a
    match a with
    | 0 =>
      rw [congrFun e 0]
      show 256 * ((i 0).val / 256) ≤ (i 0).val ∧ (i 0).val < 256 * ((i 0).val / 256) + 256
      omega
    | 1 =>
      rw [congrFun e 1]
      show 2048 * ((i 1).val / 2048) ≤ (i 1).val ∧ (i 1).val < 2048 * ((i 1).val / 2048) + 2048
      omega
  · rw [Finset.disjoint_left]
    intro i hi hi'
    unfold chunkR at hi hi'
    rw [Rect.mem_set_unit] at hi hi'
    have h0 := hi 0
    have h1 := hi 1
    have h0' := hi' 0
    have h1' := hi' 1
    have e := ooff_eq p.1 c p.2
    have e' := ooff_eq p'.1 c p'.2
    rw [congrFun e 0] at h0
    rw [congrFun e 1] at h1
    rw [congrFun e' 0] at h0'
    rw [congrFun e' 1] at h1'
    replace h0 : 256 * (blk p.1 c p.2.val).val ≤ (i 0).val ∧ (i 0).val < 256 * (blk p.1 c p.2.val).val + 256 := h0
    replace h0' : 256 * (blk p'.1 c p'.2.val).val ≤ (i 0).val ∧ (i 0).val < 256 * (blk p'.1 c p'.2.val).val + 256 := h0'
    replace h1 : 2048 * p.1.val ≤ (i 1).val ∧ (i 1).val < 2048 * p.1.val + 2048 := h1
    replace h1' : 2048 * p'.1.val ≤ (i 1).val ∧ (i 1).val < 2048 * p'.1.val + 2048 := h1'
    have hX : p.1 = p'.1 := Fin.ext (by omega)
    have hb : blk p.1 c p.2.val = blk p'.1 c p'.2.val := Fin.ext (by omega)
    rw [hX] at hb
    exact hp (Prod.ext hX (blk_inj _ _ _ _ hb))

theorem j16_nodup : j16.Nodup := by decide
theorem lanes_nodup : lanes.Nodup := by decide

omit [FloatOps F] in
/-- Over the chunks, lane by lane. -/
theorem chunks_eq (Φ : Fin 4 → ℕ → sProp 𝕄) :
    (bigSep Finset.univ fun p : Fin 4 × Fin 16 => Φ p.1 p.2.val) = sepL lanes fun X => sepL (List.range 16) (Φ X) := by
  rw [bigSep_univ_prod, sepL_univ lanes lanes_nodup lanes_mem]
  refine congrArg (sepL lanes) (funext fun X => ?_)
  rw [sepL_univ j16 j16_nodup j16_mem]
  exact (sepL_map_eq j16 Fin.val (Φ X)).symm

omit [FloatOps F] in
theorem out_split (c : Dev nD) (f : Buf (Elt F) ((c : Thread nD τ).loc main_v1)) :
    ((((c : Thread nD τ).loc main_v1) ↦{fullShare} f) : sProp 𝕄) ⊢ sepL lanes fun X => sepL (List.range 16) (outAny (F := F) X c) := by
  have h0 := parts_eq (F := F) out (parts_out c) c f
  have hset : out.view.set = Finset.univ := View.set_whole _
  rw [hset] at h0
  rw [← chunks_eq]
  refine (Entails.of_eq h0).trans (bigSep_mono fun p _ => ?_)
  unfold outAny
  rw [dif_pos p.2.isLt]
  show (out.view.loc (c : Thread nD τ) ↦[(out.access (chunkR c p)).set]{fullShare} f : sProp 𝕄) ⊢ _
  iintro H
  iexists f
  iexact H

theorem out_join (xs : Dev nD → Vec F S4096x256 .bf16) (ws : Dev nD → Vec F S256x8192 .bf16) (c : Dev nD) :
    (sepL lanes fun X => sepL (List.range 16) (outDone xs ws X c)) ⊢ ((((c : Thread nD τ).loc main_v1) ↦{fullShare} OUT xs ws) : sProp 𝕄) := by
  have h0 := parts_eq (F := F) out (parts_out c) c (OUT xs ws)
  have hset : out.view.set = Finset.univ := View.set_whole _
  rw [hset] at h0
  rw [← chunks_eq]
  refine BI.Entails.trans (bigSep_mono fun p _ => ?_) (Entails.of_eq h0.symm)
  unfold outDone
  rw [dif_pos p.2.isLt]
  exact BI.Entails.refl _

/-! ## The maxima -/

theorem rows_all : rowsOf Finset.univ = Finset.univ := by
  unfold rowsOf; exact Finset.filter_true_of_mem fun _ _ => Finset.mem_univ _
theorem pool_first (c : Dev nD) : (Finset.univ : Finset (Fin 16)) = {c} ∪ poolRows (devL c) 0 ∧ Disjoint ({c} : Finset (Fin 16)) (poolRows (devL c) 0) := by
  revert c; decide +kernel
theorem sh_devL_one (c : Dev nD) : sh (devL c) (0 + 1) = c := by revert c; decide +kernel

omit [FloatOps F] in
theorem am_split (c : Dev nD) (f : Buf (Elt F) ((c : Thread nD τ).loc cc0_scratch44)) :
    ((((c : Thread nD τ).loc cc0_scratch44) ↦{fullShare} f) : sProp 𝕄) ⊢ iprop(amAny (F := F) c {c} ∗ pool (F := F) (devL c) 0) := by
  have h0 := amAny_union (F := F) c (pool_first c).2
  rw [← (pool_first c).1] at h0
  unfold pool
  rw [sh_devL_one]
  have h1 : ((((c : Thread nD τ).loc cc0_scratch44) ↦{fullShare} f) : sProp 𝕄) ⊢ amAny (F := F) c Finset.univ := by
    unfold amAny
    rw [rows_all]
    iintro H
    iexists f
    iexact H
  exact h1.trans h0

theorem am_join (xs : Dev nD → Vec F S4096x256 .bf16) (ws : Dev nD → Vec F S256x8192 .bf16) (c : Dev nD) :
    amRow xs ws c (rset c 15) fullShare ⊢ (iprop(∃ f, ((c : Thread nD τ).loc cc0_scratch44) ↦{fullShare} f) : sProp 𝕄) := by
  unfold amRow
  rw [rset_all, rows_all]
  iintro H
  iexists _
  iexact H

end Cert.KernelIdeal.Ring

end
-- ==== Proof.Ring.Start.lean ====
/- What the launch deals a device, put in the order the body takes it. -/
module

public import proofs.«01_k».proof.Proof.Ring.Buffers

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## The payments in order -/

section Order

omit [FloatOps F] in
theorem sepL_flat2 {α β γ : Type} (l : List α) (l' : List β) (f : α → β → List γ) (Φ : γ → sProp 𝕄) :
    sepL (l.flatMap fun a => l'.flatMap (f a)) Φ = sepL l fun a => sepL l' fun b => sepL (f a b) Φ := by
  rw [sepL_flatMap_eq]
  exact congrArg (sepL l) (funext fun a => sepL_flatMap_eq l' (f a) Φ)

omit [FloatOps F] in
theorem allPays_eq (Φ : Pay → sProp 𝕄) : sepL allPays Φ = iprop(Φ barL ∗ Φ barR
    ∗ (sepL lanes fun X => sepL [arrP X 0] Φ)
    ∗ (sepL (List.range' 0 14) fun h => sepL lanes fun X => sepL (rsPays h X) Φ)
    ∗ (sepL j15 fun j => sepL [rowP j] Φ)
    ∗ (sepL lanes fun X => sepL [garP X 0] Φ)
    ∗ (sepL (List.range' 0 14) fun g => sepL lanes fun X => sepL (agPays g X) Φ)) := by
  have e4 : sepL agAll Φ = iprop((sepL lanes fun X => sepL [garP X 0] Φ)
      ∗ (sepL (List.range' 0 14) fun g => sepL lanes fun X => sepL (agPays g X) Φ)) := by
    rw [agAll, sepL_append_eq, agTail, sepL_flatMap_eq, sepL_flat2]
  have e3 : sepL mxAll Φ = iprop((sepL j15 fun j => sepL [rowP j] Φ) ∗ sepL agAll Φ) := by
    rw [mxAll, sepL_append_eq, sepL_flatMap_eq]
  have e2 : sepL (rsTail 0) Φ = iprop((sepL (List.range' 0 14) fun h => sepL lanes fun X => sepL (rsPays h X) Φ) ∗ sepL mxAll Φ) := by
    rw [rsTail, sepL_append_eq, sepL_flat2]
  have e1 : sepL rsAll Φ = iprop((sepL lanes fun X => sepL [arrP X 0] Φ) ∗ sepL (rsTail 0) Φ) := by
    rw [rsAll, sepL_append_eq, sepL_flatMap_eq]
  rw [← e4, ← e3, ← e2, ← e1]
  rfl

omit [FloatOps F] in
theorem ownAll_eq (Φ : Pay → sProp 𝕄) : sepL ownAll Φ = iprop(((sepL lanes fun X => sepL [ownP (.ln X (.rd (sl2 0))) (0 / 2)] Φ)
    ∗ (sepL (List.range' 0 14) fun h => sepL lanes fun X => sepL [ownP (.ln X (.rd (sl2 (h + 1)))) ((h + 1) / 2)] Φ))
    ∗ (sepL j15 fun j => sepL [ownP (.ms j.succ) 0] Φ)
    ∗ ((sepL lanes fun X => sepL [ownP (.ln X (.gd (sl3 0))) (0 / 3), ownP (.ln X (.so (sl2 0))) (0 / 2)] Φ)
      ∗ (sepL (List.range' 0 14) fun g => sepL lanes fun X =>
          sepL [ownP (.ln X (.gd (sl3 (g + 1)))) ((g + 1) / 3), ownP (.ln X (.so (sl2 (g + 1)))) ((g + 1) / 2)] Φ))
    ∗ (sepL lanes fun X => sepL [ownP (.ln X (.so (sl2 15))) (15 / 2)] Φ)) := by
  rw [ownAll, sepL_append_eq, sepL_append_eq, ownRs, sepL_append_eq, sepL_flatMap_eq, sepL_flat2, ownMx, sepL_flatMap_eq,
    ownAg, sepL_append_eq, sepL_append_eq, sepL_flatMap_eq, sepL_flat2, sepL_flatMap_eq]

end Order

/-! ## The places -/

omit [FloatOps F] in
theorem cells_eq (Φ : Cl → sProp 𝕄) : sepL Cl.all Φ = iprop(Φ .bar ∗ (sepL lanes fun X => sepL LC.all fun k => Φ (.ln X k))
    ∗ (Φ (.ms 0) ∗ sepL j15 fun j => Φ (.ms j.succ)) ∗ (Φ (.mr 0) ∗ sepL j15 fun j => Φ (.mr j.succ))) := by
  unfold Cl.all Cl.own
  show iprop(Φ .bar ∗ sepL ((lanes.flatMap fun X => LC.all.map (Cl.ln X)) ++ (j16.map Cl.ms ++ j16.map Cl.mr)) Φ) = _
  rw [sepL_append_eq, sepL_append_eq, sepL_flatMap_eq]
  simp only [sepL_map_eq]
  rfl

/-- A lane's places at the start. -/
def lanePos (X : Fin 4) (c : Dev nD) : sProp 𝕄 := sepL LC.all fun k => posA (F := F) (c, .ln X k) 0
/-- A lane's buffers. -/
def laneBuf (X : Fin 4) (c : Dev nD) : sProp 𝕄 :=
  iprop((any (F := F) (wb X) (slot2 0) c fullShare ∗ any (F := F) (wb X) (slot2 1) c fullShare)
    ∗ (any (F := F) (wf X) (slot2 0) c fullShare ∗ any (F := F) (wf X) (slot2 1) c fullShare)
    ∗ (any (F := F) (ag X) (slot3 0) c fullShare ∗ any (F := F) (ag X) (slot3 1) c fullShare ∗ any (F := F) (ag X) (slot3 2) c fullShare)
    ∗ (any (F := F) (st X) (slot2 0) c fullShare ∗ any (F := F) (st X) (slot2 1) c fullShare))
/-- A device's buffers. -/
def bufs (c : Dev nD) : sProp 𝕄 :=
  iprop((sepL lanes fun X => laneBuf (F := F) X c) ∗ (amAny (F := F) c {c} ∗ pool (F := F) (devL c) 0)
    ∗ sepL lanes fun X => sepL (List.range 16) (outAny (F := F) X c))
/-- The places nothing uses. -/
def idle (c : Dev nD) : sProp 𝕄 := iprop(posA (F := F) (c, .ms 0) 0 ∗ posA (F := F) (c, .mr 0) 0)

omit [FloatOps F] in
/-- The first chunk, the middle ones and the last. -/
theorem out_order (c : Dev nD) : (sepL lanes fun X => sepL (List.range 16) (outAny (F := F) X c))
    = iprop((sepL lanes fun X => outAny (F := F) X c 0)
      ∗ (sepL (List.range' 0 14) fun g => sepL lanes fun X => outAny (F := F) X c (g + 1))
      ∗ sepL lanes fun X => outAny (F := F) X c 15) := by
  rw [sepL_comm (List.range' 0 14) lanes, ← sepL_sep_eq, ← sepL_sep_eq]
  refine congrArg (sepL lanes) (funext fun X => ?_)
  rw [show List.range 16 = [0] ++ ((List.range' 0 14).map (· + 1) ++ [15]) from rfl, sepL_append_eq, sepL_append_eq, sepL_map_eq]
  have e : ∀ P : sProp 𝕄, iprop(P ∗ emp) = P := fun P => BI.Entails.antisymm
    (show iprop(P ∗ emp) ⊢ P from by iintro ⟨H, -⟩; iexact H)
    (show P ⊢ iprop(P ∗ emp) from by iintro H; isplitl; (· iexact H); iempintro)
  show iprop(iprop(outAny (F := F) X c 0 ∗ emp) ∗ (sepL (List.range' 0 14) fun a => outAny (F := F) X c (a + 1)) ∗ iprop(outAny (F := F) X c 15 ∗ emp)) = _
  rw [e, e]

/-! ## A lane's start -/

omit [FloatOps F] in
theorem tok_own (c : Dev nD) (k : Cl) (r : ℕ) : tok (F := F) c (ownP k r) = otok (F := F) c k r := rfl

/-- What one lane has of the launch. -/
def laneIn (X : Fin 4) (c : Dev nD) : sProp 𝕄 :=
  iprop(lanePos (F := F) X c ∗ laneBuf (F := F) X c ∗ (got (F := F) c (arrP X 0) ∗ tok (F := F) c (arrP X 0))
    ∗ (got (F := F) c (garP X 0) ∗ tok (F := F) c (garP X 0)) ∗ tok (F := F) c (ownP (.ln X (.rd (sl2 0))) (0 / 2))
    ∗ (tok (F := F) c (ownP (.ln X (.gd (sl3 0))) (0 / 3)) ∗ tok (F := F) c (ownP (.ln X (.so (sl2 0))) (0 / 2))) ∗ outAny (F := F) X c 0)

omit [FloatOps F] in
theorem lane_start (X : Fin 4) (c : Dev nD) : laneIn (F := F) X c ⊢ iprop(laneA (F := F) X c ∗ laneB (F := F) X c ∗ laneOpen (F := F) X c) := by
  unfold laneIn lanePos laneBuf laneA laneB laneOpen agRest outNeed rsPos agPos spare
  rw [if_pos (by decide)]
  simp only [LC.all, sepL, tok_own]
  iintro ⟨⟨Prc, Pgc, Pra0, Pra1, Prd0, Prd1, Pga0, Pga1, Pga2, Pgd0, Pgd1, Pgd2, Pso0, Pso1, -⟩,
    ⟨⟨B0, B1⟩, ⟨W0, W1⟩, ⟨G0, G1, G2⟩, S0, S1⟩, ⟨Ga, Ta⟩, ⟨Gg, Tg⟩, Trd, ⟨Tgd, Tso⟩, Ho⟩
  isplitl [Prc Pra0 Pra1 Prd0 Prd1 Ga Ta Trd B0 W0 W1]
  · isplitl [Prc Pra0 Pra1 Prd0 Prd1]
    · isplitl [Pra1]; · iexact Pra1
      isplitl [Pra0]; · iexact Pra0
      isplitl [Prd0]; · iexact Prd0
      isplitl [Prd1]; · iexact Prd1
      iexact Prc
    isplitl [Ga]; · iexact Ga
    isplitl [Trd]; · iexact Trd
    isplitl [Ta]; · iexact Ta
    isplitl [B0]; · iexact B0
    isplitl [W1]; · iexact W1
    iexact W0
  isplitr [B1 G1]
  · isplitl [G0 Tgd Tg]
    · isplitl [G0]; · iexact G0
      isplitl [Tgd]; · iexact Tgd
      iexact Tg
    isplitl [Pgc Pga0 Pga1 Pga2 Pgd0 Pgd1 Pgd2 Gg G2]
    · isplitl [Pgc Pga0 Pga1 Pga2 Pgd0 Pgd1 Pgd2]
      · isplitl [Pga0 Pga1 Pga2]
        · isplitl [Pga1]; · iexact Pga1
          isplitl [Pga2]; · iexact Pga2
          iexact Pga0
        isplitl [Pgd0 Pgd1 Pgd2]
        · isplitl [Pgd0]; · iexact Pgd0
          isplitl [Pgd1]; · iexact Pgd1
          iexact Pgd2
        iexact Pgc
      isplitl [Gg]; · iexact Gg
      iexact G2
    isplitl [Pso0 Pso1 S0 S1]
    · isplitl [Pso0]; · iexact Pso0
      isplitl [Pso1]; · iexact Pso1
      isplitl [S0]; · iexact S0
      iexact S1
    isplitl [Tso]; · iexact Tso
    iexact Ho
  isplitl [B1]; · iexact B1
  iexact G1

/-! ## A device's start -/

/-- What the launch deals a device. -/
def dealt (c : Dev nD) : sProp 𝕄 :=
  iprop((sepL allPays (tok (F := F) c) ∗ sepL ownAll (tok (F := F) c)) ∗ sepL allPays (got (F := F) c)
    ∗ sepL Cl.all (fun k => posA (F := F) (c, k) 0))

omit [FloatOps F] in
theorem lanes_in (c : Dev nD) :
    iprop((sepL lanes fun X => lanePos (F := F) X c) ∗ (sepL lanes fun X => laneBuf (F := F) X c)
      ∗ ((sepL lanes fun X => sepL [arrP X 0] (got (F := F) c)) ∗ (sepL lanes fun X => sepL [arrP X 0] (tok (F := F) c)))
      ∗ ((sepL lanes fun X => sepL [garP X 0] (got (F := F) c)) ∗ (sepL lanes fun X => sepL [garP X 0] (tok (F := F) c)))
      ∗ (sepL lanes fun X => sepL [ownP (.ln X (.rd (sl2 0))) (0 / 2)] (tok (F := F) c))
      ∗ (sepL lanes fun X => sepL [ownP (.ln X (.gd (sl3 0))) (0 / 3), ownP (.ln X (.so (sl2 0))) (0 / 2)] (tok (F := F) c))
      ∗ (sepL lanes fun X => outAny (F := F) X c 0))
    ⊢ iprop((sepL lanes fun X => laneA (F := F) X c) ∗ (sepL lanes fun X => laneB (F := F) X c) ∗ (sepL lanes fun X => laneOpen (F := F) X c)) := by
  rw [← sepL_sep_eq, ← sepL_sep_eq, ← sepL_sep_eq, ← sepL_sep_eq, ← sepL_sep_eq, ← sepL_sep_eq, ← sepL_sep_eq, ← sepL_sep_eq,
    ← sepL_sep_eq, ← sepL_sep_eq]
  refine sepL_mono lanes fun X => ?_
  have e := lane_start (F := F) X c
  unfold laneIn at e
  simp only [sepL]
  iintro ⟨H1, H2, ⟨⟨H3, -⟩, ⟨H4, -⟩⟩, ⟨⟨H5, -⟩, ⟨H6, -⟩⟩, ⟨H7, -⟩, ⟨H8, H9, -⟩, H10⟩
  iapply e
  isplitl [H1]; · iexact H1
  isplitl [H2]; · iexact H2
  isplitl [H3 H4]
  · isplitl [H3] <;> iassumption
  isplitl [H5 H6]
  · isplitl [H5] <;> iassumption
  isplitl [H7]; · iexact H7
  isplitl [H8 H9]
  · isplitl [H8] <;> iassumption
  iexact H10

omit [FloatOps F] in
theorem rs_needs (c : Dev nD) :
    iprop((sepL (List.range' 0 14) fun h => sepL lanes fun X => sepL (rsPays h X) (got (F := F) c))
      ∗ (sepL (List.range' 0 14) fun h => sepL lanes fun X => sepL (rsPays h X) (tok (F := F) c))
      ∗ (sepL (List.range' 0 14) fun h => sepL lanes fun X => sepL [ownP (.ln X (.rd (sl2 (h + 1)))) ((h + 1) / 2)] (tok (F := F) c)))
    ⊢ rsNeeds (F := F) c 0 := by
  unfold rsNeeds
  rw [← sepL_sep_eq, ← sepL_sep_eq]
  refine sepL_mono _ fun h => ?_
  rw [← sepL_sep_eq, ← sepL_sep_eq]
  refine sepL_mono lanes fun X => ?_
  unfold rsNeed rsPays
  simp only [sepL, tok_own]
  iintro ⟨⟨H1, H2, -⟩, ⟨H3, H4, -⟩, ⟨H5, -⟩⟩
  isplitl [H1]; · iexact H1
  isplitl [H2]; · iexact H2
  isplitl [H3]; · iexact H3
  isplitl [H4]; · iexact H4
  iexact H5

omit [FloatOps F] in
theorem ag_needs (c : Dev nD) :
    iprop((sepL (List.range' 0 14) fun g => sepL lanes fun X => sepL (agPays g X) (got (F := F) c))
      ∗ (sepL (List.range' 0 14) fun g => sepL lanes fun X => sepL (agPays g X) (tok (F := F) c))
      ∗ (sepL (List.range' 0 14) fun g => sepL lanes fun X =>
          sepL [ownP (.ln X (.gd (sl3 (g + 1)))) ((g + 1) / 3), ownP (.ln X (.so (sl2 (g + 1)))) ((g + 1) / 2)] (tok (F := F) c))
      ∗ (sepL (List.range' 0 14) fun g => sepL lanes fun X => outAny (F := F) X c (g + 1)))
    ⊢ agNeeds (F := F) c 0 := by
  unfold agNeeds
  rw [← sepL_sep_eq, ← sepL_sep_eq, ← sepL_sep_eq]
  refine sepL_mono _ fun g => ?_
  rw [← sepL_sep_eq, ← sepL_sep_eq, ← sepL_sep_eq]
  refine sepL_mono lanes fun X => ?_
  unfold agNeed agPays outNeed
  simp only [sepL, tok_own]
  iintro ⟨⟨H1, H2, -⟩, ⟨H3, H4, -⟩, ⟨H5, H6, -⟩, H7⟩
  isplitr [H6 H7]
  · isplitl [H1]; · iexact H1
    isplitl [H2]; · iexact H2
    isplitl [H3]; · iexact H3
    isplitl [H4]; · iexact H4
    iexact H5
  isplitl [H6]; · iexact H6
  iexact H7

omit [FloatOps F] in
theorem am_needs (c : Dev nD) :
    iprop((sepL j15 fun j => sepL [ownP (.ms j.succ) 0] (tok (F := F) c)) ∗ (sepL j15 fun j => sepL [rowP j] (tok (F := F) c))
      ∗ (sepL j15 fun j => sepL [rowP j] (got (F := F) c)) ∗ (sepL j15 fun j => posA (F := F) (c, .mr j.succ) 0)
      ∗ (sepL j15 fun j => posA (F := F) (c, .ms j.succ) 0))
    ⊢ sepL j15 (amNeed (F := F) c) := by
  rw [← sepL_sep_eq, ← sepL_sep_eq, ← sepL_sep_eq, ← sepL_sep_eq]
  refine sepL_mono j15 fun j => ?_
  unfold amNeed
  simp only [sepL, tok_own]
  iintro ⟨⟨H1, -⟩, ⟨H2, -⟩, ⟨H3, -⟩, H4, H5⟩
  isplitl [H1 H2]
  · isplitl [H1]; · iexact H1
    iexact H2
  isplitl [H3 H4]
  · isplitl [H3]; · iexact H3
    iexact H4
  iexact H5

omit [FloatOps F] in
theorem out_last (c : Dev nD) :
    iprop((sepL lanes fun X => sepL [ownP (.ln X (.so (sl2 15))) (15 / 2)] (tok (F := F) c)) ∗ (sepL lanes fun X => outAny (F := F) X c 15))
    ⊢ sepL lanes fun X => outNeed (F := F) X c 15 := by
  rw [← sepL_sep_eq]
  refine sepL_mono lanes fun X => ?_
  unfold outNeed
  simp only [sepL, tok_own]
  iintro ⟨⟨H1, -⟩, H2⟩
  isplitl [H1]; · iexact H1
  iexact H2

omit [FloatOps F] in
theorem bar_credit (c : Dev nD) : iprop(got (F := F) c barL ∗ got (F := F) c barR) ⊢ cred (tallyAt (cell (c, .bar)) 1 2) := by
  have h := (cred_add (Val := Elt F) (Name := ℕ) (U := UU) (Lvl := ℕ) (tallyAt (cell (c, .bar)) 1 1) (tallyAt (cell (c, .bar)) 1 1)).2
  exact h.trans (Entails.of_eq (congrArg cred (tallyAt_add (cell (c, .bar)) 1 1 1)))

omit [FloatOps F] in
theorem start_in (c : Dev nD) : iprop(dealt (F := F) c ∗ bufs (F := F) c) ⊢ iprop(devIn (F := F) c ∗ idle (F := F) c) := by
  unfold dealt bufs devIn barIn needs idle opens
  rw [allPays_eq, allPays_eq, ownAll_eq, cells_eq, out_order]
  iintro ⟨⟨⟨⟨TL, TR, Ta, Trs, Trow, Tga, Tag⟩, ⟨⟨Ord, Ors⟩, Oms, ⟨Ogd, Oag⟩, Olast⟩⟩, ⟨GL, GR, Ga, Grs, Grow, Gga, Gag⟩,
    ⟨Pb, PL, ⟨Pm0, Pms⟩, ⟨Pr0, Pmr⟩⟩⟩, Bl, ⟨Bam, Bpool⟩, ⟨Bo0, Bog, Bol⟩⟩
  ihave HL := (lanes_in (F := F) c) $$ [PL Bl Ga Ta Gga Tga Ord Ogd Bo0]
  · isplitl [PL]; · iexact PL
    isplitl [Bl]; · iexact Bl
    isplitl [Ga Ta]
    · isplitl [Ga] <;> iassumption
    isplitl [Gga Tga]
    · isplitl [Gga] <;> iassumption
    isplitl [Ord]; · iexact Ord
    isplitl [Ogd] <;> iassumption
  icases HL with ⟨HA, HB, HO⟩
  isplitr [Pm0 Pr0]
  · isplitl [TL TR GL GR Pb HO Bpool]
    · isplitl [TL]; · iexact TL
      isplitl [TR]; · iexact TR
      isplitl [GL GR]
      · iapply (bar_credit (F := F) c)
        isplitl [GL] <;> iassumption
      isplitl [Pb]
      · unfold posA
        icases Pb with ⟨H, -⟩
        iexact H
      isplitl [HO]
      · simp only [lanes, sepL]
        icases HO with ⟨H0, H2, H1, H3, -⟩
        isplitl [H0]; · iexact H0
        isplitl [H1]; · iexact H1
        isplitl [H2]; · iexact H2
        iexact H3
      iexact Bpool
    isplitl [HA]; · iexact HA
    isplitl [HB]; · iexact HB
    isplitl [Bam]; · iexact Bam
    isplitl [Grs Trs Ors]
    · iapply (rs_needs (F := F) c)
      isplitl [Grs]; · iexact Grs
      isplitl [Trs] <;> iassumption
    isplitl [Oms Trow Grow Pmr Pms]
    · iapply (am_needs (F := F) c)
      isplitl [Oms]; · iexact Oms
      isplitl [Trow]; · iexact Trow
      isplitl [Grow]; · iexact Grow
      isplitl [Pmr] <;> iassumption
    isplitl [Gag Tag Oag Bog]
    · iapply (ag_needs (F := F) c)
      isplitl [Gag]; · iexact Gag
      isplitl [Tag]; · iexact Tag
      isplitl [Oag] <;> iassumption
    iapply (out_last (F := F) c)
    isplitl [Olast] <;> iassumption
  isplitl [Pm0] <;> iassumption

end Cert.KernelIdeal.Ring

end
-- ==== Proof.Ring.End.lean ====
/- What a device ends with: its cells closed, its buffers whole. -/
module

public import proofs.«01_k».proof.Proof.Ring.Start

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig ℕ (Elt F) ℕ UU ℕ

/-! ## The places at the end -/

/-- A device's place in a cell once the cell's rounds are over. -/
def over (c : Dev nD) (k : Cl) : sProp 𝕄 := atPos ER (cell (c, k)) (rounds k) ∅ 0

omit [FloatOps F] in
theorem over_of (c : Dev nD) (k : Cl) (r : ℕ) (h : rounds k = r) : posA (F := F) (c, k) r ⊢ over (F := F) c k := by
  subst h
  unfold posA over
  iintro ⟨H, -⟩
  iexact H

theorem rounds_ms (j : Fin 15) : rounds (.ms j.succ) = 1 := by revert j; decide
theorem rounds_mr (j : Fin 15) : rounds (.mr j.succ) = 1 := by revert j; decide

variable (xs : Dev nD → Vec F S4096x256 .bf16) (ws : Dev nD → Vec F S256x8192 .bf16)

theorem lane_end (X : Fin 4) (c : Dev nD) :
    iprop(rsFin (F := F) X c ∗ any (F := F) (wf X) (slot2 0) c fullShare ∗ agEnd (F := F) X c ∗ soEnd xs ws X c)
      ⊢ iprop((sepL LC.all fun k => over (F := F) c (.ln X k)) ∗ laneBuf (F := F) X c ∗ sepL (List.range 16) (outDone xs ws X c)) := by
  unfold rsFin agEnd soEnd laneBuf spare
  rw [if_neg (by decide)]
  simp only [LC.all, sepL, show sl2 14 = 0 from rfl, show sl2 15 = 1 from rfl, show sl2 (14 + 1) = 1 from rfl, show sl3 14 = 2 from rfl,
    show sl3 15 = 0 from rfl, show sl3 16 = 1 from rfl]
  iintro ⟨⟨⟨Pra1, Pra0, Prd0, Prd1, Prc⟩, W1, B1, B0⟩, W0, ⟨⟨⟨Pga0, Pga1, Pga2⟩, ⟨Pgd2, Pgd0, Pgd1⟩, Pgc⟩, G2, G0, G1⟩, ⟨Pso0, Pso1⟩, ⟨S0, S1⟩, Ho⟩
  isplitl [Pra0 Pra1 Prd0 Prd1 Prc Pga0 Pga1 Pga2 Pgd0 Pgd1 Pgd2 Pgc Pso0 Pso1]
  · isplitl [Prc]; · iapply (over_of (F := F) c (.ln X .rc) 14 rfl) $$ Prc
    isplitl [Pgc]; · iapply (over_of (F := F) c (.ln X .gc) 14 rfl) $$ Pgc
    isplitl [Pra0]; · iapply (over_of (F := F) c (.ln X (.ra 0)) 7 rfl) $$ Pra0
    isplitl [Pra1]; · iapply (over_of (F := F) c (.ln X (.ra 1)) 8 rfl) $$ Pra1
    isplitl [Prd0]; · iapply (over_of (F := F) c (.ln X (.rd 0)) 8 rfl) $$ Prd0
    isplitl [Prd1]; · iapply (over_of (F := F) c (.ln X (.rd 1)) 7 rfl) $$ Prd1
    isplitl [Pga0]; · iapply (over_of (F := F) c (.ln X (.ga 0)) 5 rfl) $$ Pga0
    isplitl [Pga1]; · iapply (over_of (F := F) c (.ln X (.ga 1)) 5 rfl) $$ Pga1
    isplitl [Pga2]; · iapply (over_of (F := F) c (.ln X (.ga 2)) 5 rfl) $$ Pga2
    isplitl [Pgd0]; · iapply (over_of (F := F) c (.ln X (.gd 0)) 5 rfl) $$ Pgd0
    isplitl [Pgd1]; · iapply (over_of (F := F) c (.ln X (.gd 1)) 5 rfl) $$ Pgd1
    isplitl [Pgd2]; · iapply (over_of (F := F) c (.ln X (.gd 2)) 5 rfl) $$ Pgd2
    isplitl [Pso0]; · iapply (over_of (F := F) c (.ln X (.so 0)) 8 rfl) $$ Pso0
    isplitl [Pso1]; · iapply (over_of (F := F) c (.ln X (.so 1)) 8 rfl) $$ Pso1
    iempintro
  isplitr [Ho]
  · isplitl [B0 B1]
    · isplitl [B0]; · iexact B0
      iexact B1
    isplitl [W0 W1]
    · isplitl [W0]; · iexact W0
      iexact W1
    isplitl [G0 G1 G2]
    · isplitl [G0]; · iexact G0
      isplitl [G1]; · iexact G1
      iexact G2
    isplitl [S0]; · iexact S0
    iexact S1
  iexact Ho

/-- A device's buffers at the end. -/
def bufsEnd (c : Dev nD) : sProp 𝕄 :=
  iprop((sepL lanes fun X => laneBuf (F := F) X c) ∗ amRow xs ws c (rset c 15) fullShare ∗ sepL lanes fun X => sepL (List.range 16) (outDone xs ws X c))

theorem end_out (c : Dev nD) : iprop(devOut xs ws c ∗ idle (F := F) c) ⊢ iprop((sepL Cl.all fun k => over (F := F) c k) ∗ bufsEnd xs ws c) := by
  have hl : iprop((sepL lanes fun X => rsFin (F := F) X c) ∗ (sepL lanes fun X => any (F := F) (wf X) (slot2 0) c fullShare)
      ∗ (sepL lanes fun X => agEnd (F := F) X c) ∗ (sepL lanes fun X => soEnd xs ws X c))
      ⊢ iprop((sepL lanes fun X => sepL LC.all fun k => over (F := F) c (.ln X k)) ∗ (sepL lanes fun X => laneBuf (F := F) X c)
        ∗ sepL lanes fun X => sepL (List.range 16) (outDone xs ws X c)) := by
    rw [← sepL_sep_eq, ← sepL_sep_eq, ← sepL_sep_eq, ← sepL_sep_eq, ← sepL_sep_eq]
    exact sepL_mono lanes fun X => lane_end xs ws X c
  have hr : (sepL j15 (amLeft (F := F) c)) ⊢ iprop((sepL j15 fun j => over (F := F) c (.ms j.succ)) ∗ sepL j15 fun j => over (F := F) c (.mr j.succ)) := by
    rw [← sepL_sep_eq]
    refine sepL_mono j15 fun j => ?_
    unfold amLeft
    iintro ⟨H1, H2⟩
    isplitl [H2]; · iapply (over_of (F := F) c (.ms j.succ) 1 (rounds_ms j)) $$ H2
    iapply (over_of (F := F) c (.mr j.succ) 1 (rounds_mr j)) $$ H1
  rw [cells_eq]
  unfold devOut idle bufsEnd
  iintro ⟨⟨Pb, H1, H2, H3, H4, Ham, Hj⟩, I1, I2⟩
  ihave HL := hl $$ [H1 H2 H3 H4]
  · isplitl [H1]; · iexact H1
    isplitl [H2]; · iexact H2
    isplitl [H3] <;> iassumption
  icases HL with ⟨HP, HB, HO⟩
  ihave HR := hr $$ Hj
  icases HR with ⟨Hs, Hr⟩
  isplitl [Pb HP I1 I2 Hs Hr]
  · isplitl [Pb]; · unfold over; iexact Pb
    isplitl [HP]; · iexact HP
    isplitl [I1 Hs]
    · isplitl [I1]; · iapply (over_of (F := F) c (.ms 0) 0 rfl) $$ I1
      iexact Hs
    isplitl [I2]; · iapply (over_of (F := F) c (.mr 0) 0 rfl) $$ I2
    iexact Hr
  isplitl [HB]; · iexact HB
  isplitl [Ham] <;> iassumption

/-! ## The cells closed -/

theorem close_one (K : Dev nD × Cl → ℕ) (c : Dev nD) (k : Cl) :
    iprop(ctx xs ws K ∗ over (F := F) c k) ⊢ |={Set.univ}=> (semVal (cell (c, k)) 0 : sProp 𝕄) := by
  have h := Rounds.cell_close ER (Rd xs ws) (g := cell (c, k)) (Set.mem_univ (K (c, k))) (fun h => h) (R := rounds k)
    (fun r hr => by rw [Rd_duties]; exact duties_none hr)
  have hi := ctx_inv xs ws K (c, k)
  unfold over
  iintro ⟨Hc, H⟩
  iapply h
  isplitl [Hc]
  · iapply hi $$ Hc
  iexact H

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem cells_sepL (Φ : Cl → sProp 𝕄) : bigSep Finset.univ Φ = sepL Cl.all Φ := sepL_univ Cl.all Cl.all_nodup Cl.mem_all Φ

theorem close_all (K : Dev nD × Cl → ℕ) (c : Dev nD) :
    iprop(ctx xs ws K ∗ sepL Cl.all fun k => over (F := F) c k) ⊢ |={Set.univ}=> (bigSep Finset.univ fun k => semVal (cell (c, k)) 0 : sProp 𝕄) := by
  rw [← cells_sepL]
  exact (with_persistent fun k _ => close_one xs ws K c k).trans (bigSep_fupd _ _)

/-! ## The buffers whole -/

/-- A lane's buffers whole. -/
def laneMem (X : Fin 4) (c : Dev nD) : sProp 𝕄 :=
  iprop((∃ f, (wb X).view.loc (c : Thread nD τ) ↦[(wb X).view.set]{fullShare} f) ∗ (∃ f, (wf X).view.loc (c : Thread nD τ) ↦[(wf X).view.set]{fullShare} f)
    ∗ (∃ f, (ag X).view.loc (c : Thread nD τ) ↦[(ag X).view.set]{fullShare} f) ∗ (∃ f, (st X).view.loc (c : Thread nD τ) ↦[(st X).view.set]{fullShare} f))

omit [FloatOps F] in
theorem two_eq (Φ : Fin 2 → sProp 𝕄) : bigSep Finset.univ Φ = iprop(Φ 0 ∗ Φ 1) := bigSep_univ_eq_bigSepL [0, 1] (by decide) (by decide) Φ
omit [FloatOps F] in
theorem three_eq (Φ : Fin 3 → sProp 𝕄) : bigSep Finset.univ Φ = iprop(Φ 0 ∗ Φ 1 ∗ Φ 2) := bigSep_univ_eq_bigSepL [0, 1, 2] (by decide) (by decide) Φ

omit [FloatOps F] in
theorem lane_split (X : Fin 4) (c : Dev nD) : laneMem (F := F) X c ⊢ laneBuf (F := F) X c := by
  have h1 := fun f => split_parts (F := F) (wb X) parts2 c f
  have h2 := fun f => split_parts (F := F) (wf X) parts2 c f
  have h3 := fun f => split_parts (F := F) (ag X) parts3 c f
  have h4 := fun f => split_parts (F := F) (st X) parts2 c f
  simp only [two_eq, three_eq] at h1 h2 h3 h4
  unfold laneMem laneBuf
  iintro ⟨⟨%f1, H1⟩, ⟨%f2, H2⟩, ⟨%f3, H3⟩, ⟨%f4, H4⟩⟩
  isplitl [H1]; · iapply (h1 f1) $$ H1
  isplitl [H2]; · iapply (h2 f2) $$ H2
  isplitl [H3]; · iapply (h3 f3) $$ H3
  iapply (h4 f4) $$ H4

theorem lane_join [∀ e, Nonempty (Elt F e)] (X : Fin 4) (c : Dev nD) : laneBuf (F := F) X c ⊢ laneMem (F := F) X c := by
  have h1 := join_parts (F := F) (wb X) parts2 c
  have h2 := join_parts (F := F) (wf X) parts2 c
  have h3 := join_parts (F := F) (ag X) parts3 c
  have h4 := join_parts (F := F) (st X) parts2 c
  simp only [two_eq, three_eq] at h1 h2 h3 h4
  unfold laneMem laneBuf
  iintro ⟨H1, H2, H3, H4⟩
  isplitl [H1]; · iapply h1 $$ H1
  isplitl [H2]; · iapply h2 $$ H2
  isplitl [H3]; · iapply h3 $$ H3
  iapply h4 $$ H4

omit [FloatOps F] in
theorem whole_eq (b : Ref sig .tc) (c : Dev nD) :
    (iprop(∃ f, (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  rw [show (Memref.whole b).view.set = Finset.univ from View.set_whole _]

omit [FloatOps F] in
theorem scoped_eq (c : Dev nD) :
    (Pipeline.scopedRest (Ix := ℕ) (Name := ℕ) (U := UU) (Lvl := ℕ) (Val := Elt F) spec0 c : sProp 𝕄)
      = iprop((sepL lanes fun X => laneMem (F := F) X c)
        ∗ ∃ f : Buf (Elt F) ((c : Thread nD τ).loc cc0_scratch44), ((c : Thread nD τ).loc cc0_scratch44) ↦{fullShare} f) := by
  have e0 : laneMem (F := F) 0 c = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)) := by
    rw [← whole_eq, ← whole_eq, ← whole_eq, ← whole_eq]; rfl
  have e1 : laneMem (F := F) 1 c = iprop((∃ f : Buf (Elt F) ((c : Thread nD τ).loc cc0_scratch11), ((c : Thread nD τ).loc cc0_scratch11) ↦{fullShare} f)
      ∗ (∃ f : Buf (Elt F) ((c : Thread nD τ).loc cc0_scratch12), ((c : Thread nD τ).loc cc0_scratch12) ↦{fullShare} f)
      ∗ (∃ f : Buf (Elt F) ((c : Thread nD τ).loc cc0_scratch13), ((c : Thread nD τ).loc cc0_scratch13) ↦{fullShare} f)
      ∗ (∃ f : Buf (Elt F) ((c : Thread nD τ).loc cc0_scratch14), ((c : Thread nD τ).loc cc0_scratch14) ↦{fullShare} f)) := by
    rw [← whole_eq, ← whole_eq, ← whole_eq, ← whole_eq]; rfl
  have e2 : laneMem (F := F) 2 c = iprop((∃ f : Buf (Elt F) ((c : Thread nD τ).loc cc0_scratch22), ((c : Thread nD τ).loc cc0_scratch22) ↦{fullShare} f)
      ∗ (∃ f : Buf (Elt F) ((c : Thread nD τ).loc cc0_scratch23), ((c : Thread nD τ).loc cc0_scratch23) ↦{fullShare} f)
      ∗ (∃ f : Buf (Elt F) ((c : Thread nD τ).loc cc0_scratch24), ((c : Thread nD τ).loc cc0_scratch24) ↦{fullShare} f)
      ∗ (∃ f : Buf (Elt F) ((c : Thread nD τ).loc cc0_scratch25), ((c : Thread nD τ).loc cc0_scratch25) ↦{fullShare} f)) := by
    rw [← whole_eq, ← whole_eq, ← whole_eq, ← whole_eq]; rfl
  have e3 : laneMem (F := F) 3 c = iprop((∃ f : Buf (Elt F) ((c : Thread nD τ).loc cc0_scratch33), ((c : Thread nD τ).loc cc0_scratch33) ↦{fullShare} f)
      ∗ (∃ f : Buf (Elt F) ((c : Thread nD τ).loc cc0_scratch34), ((c : Thread nD τ).loc cc0_scratch34) ↦{fullShare} f)
      ∗ (∃ f : Buf (Elt F) ((c : Thread nD τ).loc cc0_scratch35), ((c : Thread nD τ).loc cc0_scratch35) ↦{fullShare} f)
      ∗ (∃ f : Buf (Elt F) ((c : Thread nD τ).loc cc0_scratch36), ((c : Thread nD τ).loc cc0_scratch36) ↦{fullShare} f)) := by
    rw [← whole_eq, ← whole_eq, ← whole_eq, ← whole_eq]; rfl
  rw [scopedRest0_eq]
  simp only [lanes, sepL]
  rw [e0, e1, e2, e3]
  refine BI.Entails.antisymm (show _ ⊢ (_ : sProp 𝕄) from by
      iintro ⟨H0, H1, H2, H3, H4, H5, H6, H7, H8, H9, H10, H11, H12, H13, H14, H15, H16⟩
      isplitr [H16]
      · isplitl [H0 H1 H2 H3]
        · isplitl [H0]; · iexact H0
          isplitl [H1]; · iexact H1
          isplitl [H2] <;> iassumption
        isplitl [H8 H9 H10 H11]
        · isplitl [H8]; · iexact H8
          isplitl [H9]; · iexact H9
          isplitl [H10] <;> iassumption
        isplitl [H4 H5 H6 H7]
        · isplitl [H4]; · iexact H4
          isplitl [H5]; · iexact H5
          isplitl [H6] <;> iassumption
        isplitl
        · isplitl [H12]; · iexact H12
          isplitl [H13]; · iexact H13
          isplitl [H14] <;> iassumption
        iempintro
      iexact H16) (show _ ⊢ (_ : sProp 𝕄) from by
      iintro ⟨⟨⟨H0, H1, H2, H3⟩, ⟨H8, H9, H10, H11⟩, ⟨H4, H5, H6, H7⟩, ⟨H12, H13, H14, H15⟩, -⟩, H16⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16)

omit [FloatOps F] in
/-- The buffers of the launch in the body's pieces. -/
theorem bufs_in (c : Dev nD) (f : Buf (Elt F) ((c : Thread nD τ).loc main_v1)) :
    iprop(Pipeline.scopedRest (Ix := ℕ) (Name := ℕ) (U := UU) (Lvl := ℕ) (Val := Elt F) spec0 c ∗ (((c : Thread nD τ).loc main_v1) ↦{fullShare} f))
      ⊢ bufs (F := F) c := by
  rw [scoped_eq]
  unfold bufs
  iintro ⟨⟨HL, ⟨%g, HA⟩⟩, HO⟩
  isplitl [HL]; · iapply (sepL_mono lanes fun X => lane_split (F := F) X c) $$ HL
  isplitl [HA]; · iapply (am_split (F := F) c g) $$ HA
  iapply (out_split (F := F) c f) $$ HO

/-- The pieces together again. -/
theorem bufs_out [∀ e, Nonempty (Elt F e)] (c : Dev nD) :
    bufsEnd xs ws c ⊢ iprop(Pipeline.scopedRest (Ix := ℕ) (Name := ℕ) (U := UU) (Lvl := ℕ) (Val := Elt F) spec0 c
      ∗ (((c : Thread nD τ).loc main_v1) ↦{fullShare} OUT xs ws)) := by
  rw [scoped_eq]
  unfold bufsEnd
  iintro ⟨HL, HA, HO⟩
  isplitr [HO]
  · isplitl [HL]; · iapply (sepL_mono lanes fun X => lane_join (F := F) X c) $$ HL
    iapply (am_join xs ws c) $$ HA
  iapply (out_join xs ws c) $$ HO

end Cert.KernelIdeal.Ring

end
-- ==== Proof.Ring.BodyEq.lean ====
/- The printed body is the program of `Body.lean`. -/
module

public import proofs.«01_k».proof.Proof.Ring.Body
public import proofs.«01_k».proof.Proof.Gen.KernelIdeal.Points
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

set_option maxRecDepth 100000 in
set_option maxHeartbeats 0 in
/-- The printed body, as the pipeline calls it at a point, is the program `body` on the point's staged blocks. -/
theorem body_eq (t : Fin cfg0.N) :
    bodyAt0 (F := F) t = body (win0_0.stage (cfg0.slots t 0)) (win0_1.stage (cfg0.slots t 1)) := by
  chain_rfl

end Cert.KernelIdeal.Ring

end
-- ==== Proof.Ring.Launch.lean ====
/- The kernel's launch: sixteen devices' bodies under one schedule, to the contents of the result. -/
module

public import proofs.«01_k».proof.Proof.Ring.End
public import proofs.«01_k».proof.Proof.Ring.BodyEq
public import Idealize.ShloMosaic.Lib.Pipeline.CollectiveSegs
public import proofs.«01_k».proof.Proof.Gen.KernelIdeal.Frame

@[expose] public section

noncomputable section

namespace Cert.KernelIdeal.Ring

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem Idealize.ShloMosaic.Rounds
open Idealize.ShloMosaic.Pipeline (Dat Cfg Window BodyObligation)

variable {F : FTy → Type} [FloatOps F]

local notation "𝕄" => MT nD τ sig ℕ (Elt F) ℕ UU ℕ

section Launch

variable (m : (ℓ : Loc nD τ sig) → Buf (Elt F) ℓ) (ρ : Dev nD → PrngReg)

/-! ## The launch's data -/

/-- The devices' columns of `x`. -/
def xOf (c : Dev nD) : Vec F S4096x256 .bf16 := iblk m c 0 t0_0
/-- The devices' rows of `w`. -/
def wOf (c : Dev nD) : Vec F S256x8192 .bf16 := iblk m c 1 t0_0

/-- A device's share of the ghost state. -/
def share (K : Dev nD × Cl → ℕ) (c : Dev nD) : sProp 𝕄 :=
  iprop((bigSep Finset.univ fun ck : Dev nD × Cl => cellInv ER (Rd (xOf m) (wOf m)) (K ck) (cell ck))
    ∗ (bigSep Finset.univ fun ck : Dev nD × Cl => reached ER (cell ck) 0)
    ∗ sepL every (tok (F := F) c) ∗ sepL Cl.all fun k => posA (F := F) (c, k) 0)

/-- What a device starts from. -/
def start (c : Dev nD) : sProp 𝕄 :=
  iprop((∃ K, share m K c) ∗ sepL allPays (got (F := F) c) ∗ levAts Lv lv ∗ ∃ f : Buf (Elt F) ((c : Thread nD τ).loc main_v1), ((c : Thread nD τ).loc main_v1) ↦{fullShare} f)

def phi0 (c : Dev nD) : sProp 𝕄 :=
  iprop(start m c ∗ Pipeline.scopedRest (Ix := ℕ) (Name := ℕ) (U := UU) (Lvl := ℕ) (Val := Elt F) spec0 c)
def phi1 (c : Dev nD) : sProp 𝕄 :=
  iprop((bigSep Finset.univ fun k => semVal (cell (c, k)) 0) ∗ Pipeline.scopedRest (Ix := ℕ) (Name := ℕ) (U := UU) (Lvl := ℕ) (Val := Elt F) spec0 c
    ∗ (((c : Thread nD τ).loc main_v1) ↦{fullShare} OUT (xOf m) (wOf m)))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xOf m c
    | ⟨1, _⟩ => wOf m c
  Φ t := match t with
    | ⟨0, _⟩ => phi0 m c
    | ⟨_ + 1, _⟩ => phi1 m c
  q _ := fullShare
  owed t := match t with
    | ⟨0, _⟩ => owed c allPays
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staged buffer of a device at `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(phi0 m c ∗ (dats m ρ 0 c).owesAt 0 t0_0.castSucc
    ∗ (∃ d, stg (F := F) c cc0_stg0_0 ((dats m ρ 0 c).before (0 : Fin 2) t0_0 d))
    ∗ (∃ d, stg (F := F) c cc0_stg1_0 ((dats m ρ 0 c).before (1 : Fin 2) t0_0 d)))
def bodyPost (c : Dev nD) : sProp 𝕄 :=
  iprop(phi1 m c ∗ (dats m ρ 0 c).owesAt 0 t0_0.succ ∗ stg (F := F) c cc0_stg0_0 (xOf m c) ∗ stg (F := F) c cc0_stg1_0 (wOf m c))

theorem every_split (c : Dev nD) : sepL every (tok (F := F) c) = iprop(sepL allPays (tok (F := F) c) ∗ sepL ownAll (tok (F := F) c)) := by
  unfold every; exact sepL_append_eq _ _ _

/-- A device's whole run. -/
theorem dev_wp (K : Dev nD × Cl → ℕ) (c : Dev nD) :
    iprop(ctx (xOf m) (wOf m) K ∗ T c allPays ∗ xw (xOf m) (wOf m) c ∗ dealt (F := F) c ∗ bufs (F := F) c)
      ⊢ WP c (body xM wM) (fun _ => iprop(T c [] ∗ xw (xOf m) (wOf m) c ∗ phi1 m c)) := by
  have hs := start_in (F := F) c
  have hb := body_wp (xs := xOf m) (ws := wOf m) (K := K) c
  have he := end_out (xOf m) (wOf m) c
  have hc := close_all (xOf m) (wOf m) K c
  have hw := bufs_out (xOf m) (wOf m) c
  iintro ⟨#Hc, HT, Hx, Hd, Hb⟩
  ihave Hs := hs $$ [Hd Hb]
  · isplitl [Hd] <;> iassumption
  icases Hs with ⟨Hin, Hidle⟩
  unfold WP at *
  iapply (wp_fupd frame (wpE (defs₀ (F := F)) 𝒱₀ (c : Thread nD τ) none) Set.univ)
  iapply (wp_wand_r frame (wpE (defs₀ (F := F)) 𝒱₀ (c : Thread nD τ) none) Set.univ)
  isplitl [HT Hx Hin]
  · iapply hb
    isplitr; · iexact Hc
    isplitl [HT]; · iexact HT
    isplitl [Hx] <;> iassumption
  iintro %u ⟨HT, Hx, Hout⟩
  ihave He := he $$ [Hout Hidle]
  · isplitl [Hout] <;> iassumption
  icases He with ⟨Hp, Hb⟩
  imod hc $$ [Hp] with Hz
  · isplitr; · iexact Hc
    iexact Hp
  ihave Hb := hw $$ Hb
  imodintro
  unfold phi1
  isplitl [HT]; · iexact HT
  isplitl [Hx]; · iexact Hx
  isplitl [Hz] <;> iassumption

theorem before_0 (c : Dev nD) (d) : (dats m ρ 0 c).before (0 : Fin 2) t0_0 d = xOf m c := by
  unfold Dat.before; rw [if_pos (fetch0_0 t0_0)]; rfl
theorem before_1 (c : Dev nD) (d) : (dats m ρ 0 c).before (1 : Fin 2) t0_0 d = wOf m c := by
  unfold Dat.before; rw [if_pos (fetch0_1 t0_0)]; rfl

theorem sound_body (c : Dev nD) : bodyPre m ρ c ⊢ WP c (body xM wM) (fun _ => bodyPost m ρ c) := by
  have hd := fun K => dev_wp m K c
  unfold bodyPre bodyPost phi0 start share stg ctx xw dealt at *
  simp only [before_0, before_1]
  unfold Dat.owesAt Pipeline.owesWithin
  rw [show (dats m ρ 0 c).owed t0_0.castSucc = owed c allPays from rfl, show (dats m ρ 0 c).owed t0_0.succ = 0 from rfl]
  iintro ⟨⟨⟨⟨%K, HI, HR, Ht, Hp⟩, Hg, Hl, ⟨%f, Ho⟩⟩, Hs⟩, ⟨%W, -, HO⟩, ⟨%d0, %g0, %h0, H0⟩, ⟨%d1, %g1, %h1, H1⟩⟩
  subst h0 h1
  ihave Hb := (bufs_in (F := F) c f) $$ [Hs Ho]
  · isplitl [Hs] <;> iassumption
  ihave Ht := (Entails.of_eq (every_split c)) $$ Ht
  icases Ht with ⟨Ht1, Ht2⟩
  unfold WP at *
  iapply (wp_wand_r frame (wpE (defs₀ (F := F)) 𝒱₀ (c : Thread nD τ) none) Set.univ)
  isplitl
  · iapply (hd K)
    isplitl [HI HR Hl]
    · isplitl [HI]; · iexact HI
      isplitl [HR] <;> iassumption
    isplitl [HO]
    · unfold T
      iexists W
      iexact HO
    isplitl [H0 H1]
    · isplitl [H0] <;> iassumption
    isplitr [Hb]
    · isplitl [Ht1 Ht2]
      · isplitl [Ht1] <;> iassumption
      isplitl [Hg] <;> iassumption
    iexact Hb
  iintro %u ⟨HT, ⟨H0, H1⟩, HP⟩
  unfold T
  icases HT with ⟨%W', HO⟩
  isplitl [HP]; · iexact HP
  isplitl [HO]
  · iexists W'
    isplitr; · ipureintro; exact fun _ _ => Or.inl trivial
    iexact HO
  isplitl [H0]
  · iexists _; isplitr; · (ipureintro; rfl)
    iexact H0
  iexists _; isplitr; · (ipureintro; rfl)
  iexact H1

attribute [local irreducible] body in
set_option maxRecDepth 4000 in
theorem body_obligation (c : Dev nD) : BodyObligation (dats (F := F) m ρ 0 c) (defs₀ (F := F)) 𝒱₀ 0 Set.univ := fun t => by
  rw [fin_N0 t, bigSep_W0, bigSep_W0]
  simp only [owns_whole_eq]
  have e := sound_body m ρ c
  have hb := body_eq (F := F) t0_0
  have hp : defs₀ (F := F) Proc.tc 0 (t0_0, cfg0.slots t0_0) = bodyAt0 (F := F) t0_0 := rfl
  rw [hp]
  have hx : win0_0.stage (cfg0.slots t0_0 0) = xM := rfl
  have hw : win0_1.stage (cfg0.slots t0_0 1) = wM := rfl
  rw [hb, hx, hw]
  have hpre : iprop((dats m ρ 0 c).Φ t0_0.castSucc ∗ (dats m ρ 0 c).owesAt 0 t0_0.castSucc
      ∗ (∃ d, stg (F := F) c cc0_stg0_0 ((dats m ρ 0 c).before (0 : Fin 2) t0_0 d))
      ∗ (∃ d, stg (F := F) c cc0_stg1_0 ((dats m ρ 0 c).before (1 : Fin 2) t0_0 d))) = bodyPre m ρ c := rfl
  have hpost : iprop((dats m ρ 0 c).Φ t0_0.succ ∗ (dats m ρ 0 c).owesAt 0 t0_0.succ
      ∗ stg (F := F) c cc0_stg0_0 ((dats m ρ 0 c).after (0 : Fin 2) t0_0) ∗ stg (F := F) c cc0_stg1_0 ((dats m ρ 0 c).after (1 : Fin 2) t0_0)) = bodyPost m ρ c := rfl
  rw [← hpre, ← hpost] at e
  exact e

/-! ## The launch -/

/-- The cells' semaphores of the kernel's own. -/
abbrev osem : {k : Cl // k ≠ .bar} → SemLoc sig := fun k => k.1.sem

theorem ownSemFacts : Pipeline.OwnSemFacts cfg0.spec osem where
  isScoped := by decide +kernel
  inj := fun a b h => Subtype.ext (Cl.sem_inj h)
  disj := by decide +kernel

theorem share_eq (c : Dev nD) (w : Fin cfg0.W) : (dats m ρ 0 c).share w = fullShare := by unfold Dat.share; split <;> rfl

theorem above_all : Above 0 allPays := by unfold Above; decide +kernel

theorem waits (c : Dev nD) : (levAts Lv lv : sProp 𝕄) ⊢ Pipeline.cellsWaits cfgs (dats m ρ) 0 0 c :=
  Pipeline.cellsWaits_intro cfgs (dats m ρ) 0 0 c fun w s t => by
    rcases t with ⟨_ | _, ht⟩
    · exact mayWait c _ (by decide) above_all
    · exact mayWait c _ (by decide) (l := []) (above_nil _)

theorem Lv_of_ne (g : GSem nD τ sig) (h : g.1.2 ≠ .tc) : Lv g = ∅ := if_neg h

omit [FloatOps F] in
/-- A device's cells are the barrier's and the kernel's own. -/
theorem sems_eq (c : Dev nD) : (bigSep Finset.univ fun k => semVal (cell (c, k)) 0 : sProp 𝕄)
    = iprop(unscopedSems0 c ∗ Pipeline.ownSems0 (Ix := ℕ) (Name := ℕ) (U := UU) (Lvl := ℕ) (Val := Elt F) (τ := τ) osem c) := by
  have hu : (unscopedSems0 c : sProp 𝕄) = semVal (cell (c, .bar)) 0 := by
    unfold unscopedSems0; rw [bigSep_eq_bigSepL_of_eq [SemLoc.reg barS] (by decide) (by decide)]; rfl
  have he : (Finset.univ : Finset Cl).erase .bar = (Finset.univ : Finset {k : Cl // k ≠ .bar}).map (Function.Embedding.subtype _) := by
    ext k; simp
  rw [hu, bigSep_univ_at _ Cl.bar, he, bigSep_map]
  rfl

def u₀ : UU := (initOf (Pipeline.cells cfgs cellOf_inj) (Pipeline.launchToks cfgs cellOf_inj), initOf ringCells ringToks)

/-- What the launch deals device `c`. -/
def G (c : Dev nD) : sProp 𝕄 :=
  iprop((bigSep Finset.univ fun k : Cl => roundState ER (Rd (xOf m) (wOf m)) (cell (c, k)) 0)
    ∗ (bigSep Finset.univ fun k : Cl => posA (F := F) (c, k) 0) ∗ sepL every fun p => dutyTok ER (cell (c, p.k)) p.r p.d)
/-- What the devices have of it once the cells are open. -/
def G' (c : Dev nD) : sProp 𝕄 := iprop(∃ K, share m K c)

omit [FloatOps F] in
theorem ringCells_eq (Φ : GSem nD τ sig → sProp 𝕄) :
    bigSep ringCells Φ = bigSep Finset.univ fun c : Dev nD => bigSep Finset.univ fun k : Cl => Φ (cell (c, k)) := by
  unfold ringCells; rw [bigSep_map, bigSep_univ_prod]; rfl

theorem fund_ring : BI.own (ER (initOf ringCells ringToks)) ⊢ (|==> bigSep Finset.univ (G m) : sProp 𝕄) := by
  iintro HX
  imod (Rounds.fund ER (Rd (xOf m) (wOf m)) ringCells ringToks) $$ HX with ⟨Hst, Hr, Hat, Htok⟩
  imodintro
  ihave Hst := (Entails.of_eq (ringCells_eq fun g => roundState ER (Rd (xOf m) (wOf m)) g 0)) $$ Hst
  ihave Hat := (Entails.of_eq (ringCells_eq fun g => atPos ER g 0 ∅ 0)) $$ Hat
  ihave Hr := (Entails.of_eq (ringCells_eq fun g => reached ER g 0)) $$ Hr
  ihave Htok := (Entails.of_eq ringToks_eq) $$ Htok
  unfold G posA; simp only [bigSep_sep']
  isplitl [Hst]; · iexact Hst
  isplitl [Hat Hr]
  · isplitl [Hat] <;> iassumption
  iexact Htok

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (xOf m) (wOf m)) κ (cell (c, k))))
          ∗ (bigSep Finset.univ fun k : Cl => posA (F := F) (c, k) 0) ∗ sepL every fun p => dutyTok ER (cell (c, p.k)) p.r p.d) := by
  have hi : iprop((bigSep Finset.univ fun k : Cl => semVal (cell (c, k)) 0) ∗ bigSep Finset.univ fun k : Cl => roundState ER (Rd (xOf m) (wOf m)) (cell (c, k)) 0)
      ⊢ (|={Set.univ}=> bigSep Finset.univ fun k => iprop(∃ κ : ℕ, cellInv ER (Rd (xOf m) (wOf m)) κ (cell (c, k))) : sProp 𝕄) := by
    rw [← bigSep_sep']
    exact (bigSep_mono fun k _ => (Rounds.body_intro ER (Rd (xOf m) (wOf m)) (cell (c, k))).trans inv_alloc).trans (bigSep_fupd _ _)
  unfold G
  iintro ⟨Hos, Hus, Hst, Hat, Htok⟩
  ihave Hv := (Entails.of_eq (sems_eq (F := F) c).symm) $$ [Hos Hus]
  · isplitl [Hus] <;> iassumption
  imod hi $$ [Hv Hst] with Hinv
  · isplitl [Hv] <;> iassumption
  imodintro
  isplitl [Hinv]; · iexact Hinv
  isplitl [Hat] <;> iassumption

/-- The records every device has. -/
def records (K : Dev nD × Cl → ℕ) : sProp 𝕄 :=
  iprop((bigSep Finset.univ fun ck : Dev nD × Cl => cellInv ER (Rd (xOf m) (wOf m)) (K ck) (cell ck))
    ∗ bigSep Finset.univ fun ck : Dev nD × Cl => reached ER (cell ck) 0)
instance records_persistent (K : Dev nD × Cl → ℕ) : BI.Persistent (records m K) := by unfold records; infer_instance

theorem share_intro (K : Dev nD × Cl → ℕ) (c : Dev nD) :
    iprop(records m K ∗ (sepL every (tok (F := F) c)) ∗ bigSep Finset.univ fun k : Cl => posA (F := F) (c, k) 0) ⊢ G' m c := by
  unfold records G' share
  rw [cells_sepL]
  iintro ⟨⟨HI, HR⟩, Ht, Hp⟩
  iexists K
  isplitl [HI]; · iexact HI
  isplitl [HR]; · iexact HR
  isplitl [Ht] <;> iassumption

omit [FloatOps F] in
/-- Every cell's first round is open, by the places. -/
theorem reached_all : (bigSep Finset.univ fun c : Dev nD => bigSep Finset.univ fun k : Cl => posA (F := F) (c, k) 0)
    ⊢ iprop((bigSep Finset.univ fun ck : Dev nD × Cl => reached ER (cell ck) 0) ∗ bigSep Finset.univ fun c : Dev nD => bigSep Finset.univ fun k : Cl => posA (F := F) (c, k) 0) := by
  rw [← bigSep_univ_prod (fun ck : Dev nD × Cl => posA (F := F) ck 0), ← bigSep_sep']
  refine bigSep_mono fun ck _ => ?_
  show posA (F := F) ck 0 ⊢ iprop(reached ER (cell ck) 0 ∗ posA (F := F) ck 0)
  unfold posA
  iintro ⟨H, #HR⟩
  isplitr; · iexact HR
  isplitl; · iexact H
  iexact HR

theorem regroup :
    (bigSep Finset.univ fun c : Dev nD => iprop((bigSep Finset.univ fun k => iprop(∃ κ : ℕ, cellInv ER (Rd (xOf m) (wOf m)) κ (cell (c, k))))
          ∗ (bigSep Finset.univ fun k : Cl => posA (F := F) (c, k) 0) ∗ sepL every fun p => dutyTok ER (cell (c, p.k)) p.r p.d) : sProp 𝕄)
      ⊢ bigSep Finset.univ (G' m) := by
  have hg : ∀ K, iprop(records m K ∗ (bigSep Finset.univ fun c : Dev nD => iprop((sepL every (tok (F := F) c)) ∗ bigSep Finset.univ fun k : Cl => posA (F := F) (c, k) 0)))
      ⊢ bigSep Finset.univ (G' m) := fun K => with_persistent fun c _ => share_intro m K c
  have hd := Entails.of_eq (deal (F := F) every)
  have hr := reached_all (F := F)
  rw [bigSep_sep', bigSep_sep', ← bigSep_univ_prod (fun ck : Dev nD × Cl => iprop(∃ κ : ℕ, cellInv ER (Rd (xOf m) (wOf m)) κ (cell ck)))]
  iintro ⟨HI, Hat, Htok⟩
  ihave HK := (BI.bigSep_exists_pi Finset.univ (fun (ck : Dev nD × Cl) (κ : ℕ) => (cellInv ER (Rd (xOf m) (wOf m)) κ (cell ck) : sProp 𝕄))) $$ HI
  icases HK with ⟨%K, HI⟩
  ihave Hat := hr $$ Hat
  icases Hat with ⟨HR, Hat⟩
  ihave Htok := hd $$ Htok
  iapply (hg K)
  isplitl [HI HR]
  · unfold records
    isplitl [HI] <;> iassumption
  rw [bigSep_sep']
  isplitl [Htok] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts Lv lv
        ∗ Pipeline.launchCred (fun c => owed c allPays) c ∗ prngReg c (ρ c) ∗ G' m c)
      ⊢ |={Set.univ}=> iprop(start m c ∗ emp) := by
  have hu := Entails.of_eq ((Pipeline.unscopedRestP_none (Ix := ℕ) (Name := ℕ) (U := UU) (Lvl := ℕ) cfg0.spec c (fun b => m ((c : Thread nD τ).loc b))).trans
    (unscopedRest0_eq c (fun b => m ((c : Thread nD τ).loc b))))
  have hc := creds (F := F) allPays c
  iintro ⟨Hm, Hlev, Hcr, -, HG⟩
  ihave Hc := hc $$ Hcr
  ihave Hm := hu $$ Hm
  imodintro
  unfold start G'
  isplitl
  · isplitl [HG]; · iexact HG
    isplitl [Hc]; · iexact Hc
    isplitl [Hlev]; · iexact Hlev
    iexists _
    iexact Hm
  iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m c from rfl]
  unfold phi0
  iintro ⟨Hs, -, Hr⟩
  isplitl [Hs]; · iexact Hs
  iexact Hr

/-- What is read at the end: the counters outside the kernel, the result. -/
def left (c : Dev nD) : sProp 𝕄 := iprop(unscopedSems0 c ∗ (((c : Thread nD τ).loc main_v1) ↦{fullShare} OUT (xOf m) (wOf m)))

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = phi1 m c from rfl]
  unfold phi1 left
  rw [sems_eq]
  iintro ⟨⟨Hu, Ho⟩, Hr, Hm⟩
  isplitl [Hu Hm]
  · isplitl [Hu] <;> iassumption
  isplitl [Ho] <;> iassumption

theorem read_out (c : Dev nD) (s' : Phys nD τ sig (Elt F)) :
    iprop(left m c ∗ iprop(emp) ∗ SI s') ⊢ |={Set.univ}=> iprop(⌜s'.mem.mem ((c.tc : Thread nD τ).loc main_v1) = OUT (xOf m) (wOf m)
      ∧ ∀ sm : SemLoc sig, sm.isScoped .tc = false → s'.mem.sem ((c.tc : Thread nD τ), sm) = 0⌝ ∗ SI s') := by
  have hu := Pipeline.unscopedSems0_read (X := unscopedSems0 c) (c := c) (Lvl := ℕ) (Ix := ℕ) (Name := ℕ) (U := UU) fupd_intro s'
  unfold left
  iintro ⟨⟨Hu, Hm⟩, -, HSI⟩
  icombine HSI Hm gives %h
  imod hu $$ [Hu HSI] with ⟨%hz, HSI⟩
  · isplitl [Hu] <;> iassumption
  imodintro
  isplitr
  · ipureintro
    exact ⟨Buf.eq_of_forall_mem_univ h, hz⟩
  iexact HSI

/-! ## The run -/

set_option maxRecDepth 8000 in
/-- Every execution of the sixteen devices' programs ends, with each device's result at `OUT`, its arguments as they were
    and every counter at zero. -/
theorem run_main : θ_run defs (onTc (τ := τ) (main (F := F))) (s₀ m ρ) (fun r => (∀ c : Dev nD,
      r.2.mem ((c.tc : Thread nD τ).loc main_v1) = OUT (xOf m) (wOf m)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun c => owed c allPays) (howed₀ := fun _ => rfl) (howedN := fun _ => rfl)
    (L := Lv) (lv := lv) (hL := Lv_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => s.mem ((c.tc : Thread nD τ).loc main_v1) = OUT (xOf m) (wOf m)
      ∧ ∀ sm : SemLoc sig, sm.isScoped .tc = false → s.sem ((c.tc : Thread nD τ), sm) = 0)
    (hY := read_out m)
    (hQ := fun _ h hs => ⟨fun c => ⟨(h c).2.2.1, ((h c).1 0).trans ((dats m ρ 0 c).arrAt_in 0 rfl _), ((h c).1 1).trans ((dats m ρ 0 c).arrAt_in 1 rfl _)⟩,
      sem_eq_zero hs fun c => (h c).2.2.2⟩)

end Launch

end Cert.KernelIdeal.Ring

end
-- ==== Proof.Ring.Frames.lean ====
/- The frames of the kernel as written and of its idealization. -/
module

public import proofs.«01_k».proof.Defs
public import proofs.«01_k».proof.Proof.Gen.Kernel
public import proofs.«01_k».proof.Proof.Ring.Launch

@[expose] public section

noncomputable section

namespace Cert.KernelIdeal.Ring

open Idealize.ShloMosaic Idealize.SL.Sem

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The frame over any float values. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_main (F := F) m ρ)

set_option maxRecDepth 100000 in
/-- The two printed body tables are the same. -/
theorem bodies_same {F : FTy → Type} [FloatOps F] : Cert.Kernel.defs₀ (F := F) = defs₀ (F := F) := by
  funext k l a
  cases k with
  | tc => match l, a with | 0, (_, _) => rfl
  | _ => rfl

set_option maxRecDepth 100000 in
/-- So are the two programs' tables. -/
theorem defs_same {F : FTy → Type} [FloatOps F] : Cert.Kernel.defs (F := F) = defs (F := F) :=
  congrArg (Pipeline.defs (pcfgs (F := F))) bodies_same

set_option maxRecDepth 100000 in
/-- The kernel as written is the idealization's program at the machine's floats. -/
theorem frame_kernel : Cert.quiescent_Kernel (hKernel := Cert.Kernel.Gen.facts) := fun m ρ _ => by
  have h := frame_any (F := Bits) m ρ
  rw [← defs_same] at h
  exact h

end Cert.KernelIdeal.Ring

end
-- ==== Proof.Ring.Numbers.lean ====
/- The numbers the two programs write as bit patterns, and the equation between the two ways of quantising: the kernel
   multiplies by `448 / a` and back by `a / 448`; the reference divides by `a / 448`, clips to `[-448, 448]`, and
   multiplies back. With `a` at least every magnitude the clip changes nothing. -/
module

public import Idealize.ShloMosaic.PureOps.Ideal.Laws
public import Idealize.ShloMosaic.Lib.IdealHost

@[expose] public section

noncomputable section

namespace Cert.KernelIdeal.Ring

open Idealize.ShloMosaic

/-- The pattern of `448`. -/
theorem bits_top : Ideal.ofBits .f32 0x43E00000#32 = ((448 : ℝ) : EReal) := by
  simp [Ideal.ofBits, Ideal.ieee, -EReal.coe_mul]; norm_num
/-- The pattern of `-448`. -/
theorem bits_bottom : Ideal.ofBits .f32 0xC3E00000#32 = ((-448 : ℝ) : EReal) := by
  simp [Ideal.ofBits, Ideal.ieee, -EReal.coe_mul, -EReal.coe_neg]; norm_num
/-- The pattern a greatest value starts from. -/
theorem bits_least : Ideal.ofBits .f32 0xFF800000#32 = (⊥ : EReal) := by
  simp [Ideal.ofBits, Ideal.ieee]

/-- Quantising by the reciprocal of the scale is quantising by the scale and clipping. -/
theorem quantise_eq (y a : EReal) (h : max y (-y) ≤ a) :
    (y * Ideal.div ((448 : ℝ) : EReal) a) * Ideal.div a ((448 : ℝ) : EReal)
      = min ((448 : ℝ) : EReal) (max ((-448 : ℝ) : EReal) (Ideal.div y (Ideal.div a ((448 : ℝ) : EReal))))
        * Ideal.div a ((448 : ℝ) : EReal) := by
  have h1 : y ≤ a := (le_max_left _ _).trans h
  have h2 : -y ≤ a := (le_max_right _ _).trans h
  have hK : ((448 : ℝ) : EReal) ≠ 0 := by
    rw [← EReal.coe_zero]; exact fun e => by have := EReal.coe_eq_coe_iff.1 e; norm_num at this
  have hs : Ideal.div a ((448 : ℝ) : EReal) = a * (((448 : ℝ)⁻¹ : ℝ) : EReal) := by
    unfold Ideal.div; rw [if_neg hK, EReal.coe_inv]
  induction a using EReal.rec with
  | bot =>
    have : y = ⊥ := le_bot_iff.1 h1
    rw [this] at h2; simp at h2
  | top =>
    have hi : Ideal.div ((448 : ℝ) : EReal) ⊤ = 0 := by
      unfold Ideal.div; rw [if_neg (by simp)]; simp
    have ht : Ideal.div ⊤ ((448 : ℝ) : EReal) = ⊤ := by
      rw [hs, EReal.top_mul_coe_of_pos (by norm_num)]
    have hq : Ideal.div y ⊤ = 0 := by
      unfold Ideal.div; rw [if_neg (by simp)]; simp
    rw [hi, ht, hq]
    have : max ((-448 : ℝ) : EReal) 0 = 0 := max_eq_right (by rw [← EReal.coe_zero, EReal.coe_le_coe_iff]; norm_num)
    rw [this]
    have : min ((448 : ℝ) : EReal) 0 = 0 := min_eq_right (by rw [← EReal.coe_zero, EReal.coe_le_coe_iff]; norm_num)
    rw [this, mul_zero]
  | coe a =>
    have hyT : y ≠ ⊤ := fun e => by rw [e] at h1; exact absurd h1 (by simp)
    have hyB : y ≠ ⊥ := fun e => by rw [e] at h2; exact absurd h2 (by simp)
    lift y to ℝ using ⟨hyT, hyB⟩
    have h1 : y ≤ a := EReal.coe_le_coe_iff.1 h1
    have h2 : -y ≤ a := by rw [← EReal.coe_neg] at h2; exact EReal.coe_le_coe_iff.1 h2
    have hs' : Ideal.div (a : EReal) ((448 : ℝ) : EReal) = ((a / 448 : ℝ) : EReal) := by
      rw [hs, ← EReal.coe_mul, div_eq_mul_inv]
    rw [hs']
    by_cases ha : a = 0
    · subst ha
      simp
    · have hp : 0 < a := lt_of_le_of_ne (by linarith) (Ne.symm ha)
      have hq : Ideal.div ((448 : ℝ) : EReal) (a : EReal) = ((448 / a : ℝ) : EReal) := by
        unfold Ideal.div
        rw [if_neg (by rw [← EReal.coe_zero]; exact fun e => ha (EReal.coe_eq_coe_iff.1 e)), ← EReal.coe_inv, ← EReal.coe_mul,
          div_eq_mul_inv]
      have hr : Ideal.div (y : EReal) ((a / 448 : ℝ) : EReal) = ((y / (a / 448) : ℝ) : EReal) := by
        unfold Ideal.div
        rw [if_neg (by
          rw [← EReal.coe_zero]; exact fun e => (div_ne_zero ha (by norm_num)) (EReal.coe_eq_coe_iff.1 e)), ← EReal.coe_inv,
          ← EReal.coe_mul, div_eq_mul_inv (y : ℝ)]
      have hc : 0 < a / 448 := by positivity
      have b1 : y / (a / 448) ≤ 448 := by rw [div_le_iff₀ hc]; linarith
      have b2 : -448 ≤ y / (a / 448) := by rw [le_div_iff₀ hc]; linarith
      rw [hq, hr, max_eq_right (EReal.coe_le_coe_iff.2 b2), min_eq_right (EReal.coe_le_coe_iff.2 b1), ← EReal.coe_mul,
        ← EReal.coe_mul, ← EReal.coe_mul]
      congr 1
      field_simp

end Cert.KernelIdeal.Ring
-- ==== Proof.Ring.Sums.lean ====
/- What the ring computes over the extended reals, index by index: a running sum is the sum of the partial products of
   the devices it has passed, and a whole sum is the sum over all sixteen. -/
module

public import proofs.«01_k».proof.Proof.Ring.Sched
public import proofs.«01_k».proof.Proof.Ring.Numbers
public import Idealize.ShloMosaic.Lib.MatmulPlain
public import Idealize.ShloMosaic.Lib.ValueLayout
public import Idealize.ShloMosaic.Lib.LayoutAt
public import Idealize.ShloMosaic.Lib.Pipeline.Value

@[expose] public section

set_option maxRecDepth 4096

noncomputable section

namespace Cert.KernelIdeal.Ring

open Idealize.ShloMosaic Idealize.ShloMosaic.TcCoe Idealize.ShloMosaic.ValueIdx Cert.KernelIdeal.Gen

/-! ## The payloads at an index -/

/-- A row of `a` by a column of `b`. -/
def rc (a : Vec Ideal S256x256 .bf16) (b : Vec Ideal S256x2048 .bf16) (r : Fin 256) (j : Fin 2048) : EReal :=
  ∑ k : Fin 256, a (ix2 r k) * b (ix2 k j)

/-- The kernel's product at an index. -/
theorem prod_apply (a : FVec Ideal S256x256 .bf16) (b : FVec Ideal S256x2048 .bf16) (r : Fin 256) (j : Fin 2048) :
    matmul dot_S256x256_S256x2048_S256x2048_1_0_0_1_n_n none a b (constant S256x2048 .f32 0x00000000#32) (ix2 r j)
      = rc a b r j := by
  have h := Ideal.matmul_plain_apply (M := 256) (K := 256) (N := 2048) none a b (constant S256x2048 .f32 0x00000000#32) r j
  refine Eq.trans h ?_
  have z : (constant S256x2048 .f32 0x00000000#32 : FVec Ideal S256x2048 .f32) (ix2 r j) = 0 := Ideal.ofBits_zero_f32
  rw [z, zero_add]
  rfl

theorem seedOf_apply (a : Vec Ideal S256x256 .bf16) (b : Vec Ideal S256x2048 .bf16) (r : Fin 256) (j : Fin 2048) :
    seedOf a b (ix3 0 r j) = rc a b r j := by
  unfold seedOf k0_pay1
  simp only [shapeCast_self]
  rw [shapeCast_ab_1ab_apply]
  exact prod_apply a b r j

theorem sumBB_apply (v : Vec Ideal S1x256x2048 .bf16) (a : Vec Ideal S256x256 .bf16) (b : Vec Ideal S256x2048 .bf16)
    (r : Fin 256) (j : Fin 2048) : sumBB v a b (ix3 0 r j) = v (ix3 0 r j) + rc a b r j := by
  unfold sumBB k0_pay6
  simp only [shapeCast_self]
  rw [shapeCast_ab_1ab_apply]
  refine congrArg₂ (fun x y : EReal => x + y) ?_ (prod_apply a b r j)
  exact shapeCast_1ab_ab_apply v _ r j

theorem sumBF_apply (v : Vec Ideal S1x256x2048 .bf16) (a : Vec Ideal S256x256 .bf16) (b : Vec Ideal S256x2048 .bf16)
    (r : Fin 256) (j : Fin 2048) : sumBF v a b (ix3 0 r j) = v (ix3 0 r j) + rc a b r j := by
  unfold sumBF k0_pay75 k0_pay74
  simp only [shapeCast_self]
  rw [shapeCast_ab_1ab_apply]
  refine congrArg₂ (fun x y : EReal => x + y) ?_ (prod_apply a b r j)
  exact shapeCast_1ab_ab_apply v _ r j

theorem pay83_apply (v : Vec Ideal S1x256x2048 .f32) (a : Vec Ideal S256x256 .bf16) (b : Vec Ideal S256x2048 .bf16)
    (r : Fin 256) (j : Fin 2048) : k0_pay83 v a b (ix2 r j) = v (ix3 0 r j) + rc a b r j := by
  unfold k0_pay83
  simp only [shapeCast_self]
  refine congrArg₂ (fun x y : EReal => x + y) ?_ (prod_apply a b r j)
  exact shapeCast_1ab_ab_apply v _ r j

theorem sumFF_apply (v : Vec Ideal S1x256x2048 .f32) (a : Vec Ideal S256x256 .bf16) (b : Vec Ideal S256x2048 .bf16)
    (r : Fin 256) (j : Fin 2048) : sumFF v a b (ix3 0 r j) = v (ix3 0 r j) + rc a b r j := by
  unfold sumFF k0_pay84
  rw [shapeCast_ab_1ab_apply]
  exact pay83_apply v a b r j

theorem quant_apply (i : Ideal .f32) (v : Vec Ideal S1x256x2048 .f32) (r : Fin 256) (j : Fin 2048) :
    (quant i v (ix3 0 r j) : EReal) = (v (ix3 0 r j) : EReal) * i := by
  unfold quant k0_pay124
  rw [shapeCast_ab_1ab_apply]
  exact congrArg (fun x : EReal => x * i) (shapeCast_1ab_ab_apply v _ r j)

theorem deq_apply (s : Ideal .f32) (v : Vec Ideal S1x256x2048 .fp8e4m3) (r : Fin 256) (j : Fin 2048) :
    (deq s v (ix3 0 r j) : EReal) = (v (ix3 0 r j) : EReal) * s := by
  unfold deq k0_pay128
  rw [shapeCast_ab_1ab_apply]
  exact congrArg (fun x : EReal => x * s) (shapeCast_1ab_ab_apply v _ r j)

/-! ## The devices a sum passes -/

theorem devFrom_eq (X : Fin 4) (c : Dev nD) : devFrom X c = sh c (if X.val < 2 then 15 else 1) := by
  match X with
  | 0 => exact devL_eq c
  | 1 => exact devL_eq c
  | 2 => exact devR_eq c
  | 3 => exact devR_eq c

/-- The device `i` places back along lane `X`. -/
def back (X : Fin 4) (c : Dev nD) (i : ℕ) : Dev nD := sh c ((if X.val < 2 then 15 else 1) * i)

theorem back_zero (X : Fin 4) (c : Dev nD) : back X c 0 = c := Fin.ext (by
  show (c.val + _ * 0) % 16 = c.val
  rw [Nat.mul_zero, Nat.add_zero]
  exact Nat.mod_eq_of_lt c.isLt)

theorem back_succ (X : Fin 4) (c : Dev nD) (i : ℕ) : back X (devFrom X c) i = back X c (i + 1) := by
  rw [devFrom_eq]
  refine Fin.ext ?_
  show ((c.val + _) % 16 + _ * i) % 16 = (c.val + _ * (i + 1)) % 16
  split_ifs <;> omega

theorem back_bijective (X : Fin 4) (c : Dev nD) : Function.Bijective fun i : Fin 16 => back X c i.val := by
  refine (Fintype.bijective_iff_injective_and_card _).2 ⟨fun i j h => ?_, rfl⟩
  have h : (c.val + _ * i.val) % 16 = (c.val + _ * j.val) % 16 := congrArg Fin.val h
  have hi := i.isLt
  have hj := j.isLt
  refine Fin.ext ?_
  split_ifs at h <;> omega

/-- The rows lane `X` multiplies at step `h` are those of the device `h + 1` places back. -/
theorem xoff_eq : ∀ (X : Fin 4) (c : Dev nD) (h : Fin 15), xoff X c h 0 = 256 * (back X c (h.val + 1)).val ∧ xoff X c h 1 = 0 := by
  decide +kernel

theorem back_owner (X : Fin 4) (b : Fin 16) : back X (owner X b) 15 = b := by
  revert X b; decide +kernel
theorem owner_back (X : Fin 4) (c : Dev nD) : owner X (back X c 15) = c := by
  revert X c; decide +kernel

/-! ## The rows and columns read -/

section Values

variable (xs : Dev nD → Vec Ideal S4096x256 .bf16) (ws : Dev nD → Vec Ideal S256x8192 .bf16)

/-- Row `r` of block `b`. -/
def row (b : Fin 16) (r : Fin 256) : Fin 4096 := ⟨256 * b.val + r.val, by omega⟩
/-- Column `j` of lane `X`. -/
def col (X : Fin 4) (j : Fin 2048) : Fin 8192 := ⟨2048 * X.val + j.val, by omega⟩

theorem x0_apply (c : Dev nD) (r k : Fin 256) : x0 xs c (ix2 r k) = xs c (ix2 (row c r) k) := by
  have h0 : k0_off1 c 0 = 256 * c.val ∧ k0_off1 c 1 = 0 := by revert c; decide +kernel
  refine congrArg (xs c) (funext fun a => Fin.ext ?_)
  match a with
  | 0 => show k0_off1 c 0 + 1 * r.val = 256 * c.val + r.val; rw [h0.1, Nat.one_mul]
  | 1 => show k0_off1 c 1 + 1 * k.val = k.val; rw [h0.2, Nat.one_mul, Nat.zero_add]

theorem xAt_apply (X : Fin 4) (h : Fin 15) (c : Dev nD) (r k : Fin 256) :
    xAt xs X h c (ix2 r k) = xs c (ix2 (row (back X c (h.val + 1)) r) k) := by
  have h0 := xoff_eq X c h
  refine congrArg (xs c) (funext fun a => Fin.ext ?_)
  match a with
  | 0 => show xoff X c h 0 + 1 * r.val = 256 * (back X c (h.val + 1)).val + r.val; rw [h0.1, Nat.one_mul]
  | 1 => show xoff X c h 1 + 1 * k.val = k.val; rw [h0.2, Nat.one_mul, Nat.zero_add]

theorem wAt_apply (X : Fin 4) (c : Dev nD) (k : Fin 256) (j : Fin 2048) : wAt ws X c (ix2 k j) = ws c (ix2 k (col X j)) := by
  refine congrArg (ws c) (funext fun a => Fin.ext ?_)
  match a with
  | 0 => show 0 + 1 * k.val = k.val; rw [Nat.one_mul, Nat.zero_add]
  | 1 => show 2048 * X.val + 1 * j.val = 2048 * X.val + j.val; rw [Nat.one_mul]

/-- Device `d`'s partial product: its columns of row `r` of block `b` by its rows of column `j` of lane `X`. -/
def partialAt (X : Fin 4) (b d : Dev nD) (r : Fin 256) (j : Fin 2048) : EReal :=
  ∑ k : Fin 256, xs d (ix2 (row b r) k) * ws d (ix2 k (col X j))

theorem rc_x0 (X : Fin 4) (c : Dev nD) (r : Fin 256) (j : Fin 2048) : rc (x0 xs c) (wAt ws X c) r j = partialAt xs ws X c c r j :=
  Finset.sum_congr rfl fun k _ => by rw [x0_apply, wAt_apply]

theorem rc_xAt (X : Fin 4) (h : Fin 15) (c : Dev nD) (r : Fin 256) (j : Fin 2048) :
    rc (xAt xs X h c) (wAt ws X c) r j = partialAt xs ws X (back X c (h.val + 1)) c r j :=
  Finset.sum_congr rfl fun k _ => by rw [xAt_apply, wAt_apply]

/-! ## The sums -/

/-- One more device in front of a sum. -/
theorem sum_back (X : Fin 4) (c : Dev nD) (f : Dev nD → EReal) (n : ℕ) :
    (∑ i ∈ Finset.range n, f (back X (devFrom X c) i)) + f c = ∑ i ∈ Finset.range (n + 1), f (back X c i) := by
  rw [Finset.sum_range_succ', back_zero]
  exact congrArg (· + f c) (Finset.sum_congr rfl fun i _ => by rw [back_succ])

theorem pB_apply (X : Fin 4) (r : Fin 256) (j : Fin 2048) : ∀ (n : ℕ), n < 11 → ∀ c : Dev nD,
    (pB xs ws X n c (ix3 0 r j) : EReal) = ∑ i ∈ Finset.range (n + 1), partialAt xs ws X (back X c n) (back X c i) r j
  | 0, _, c => by
    rw [pB, seedOf_apply, rc_x0, Finset.sum_range_one, back_zero]
  | n + 1, hn, c => by
    rw [pB, sumBB_apply, pB_apply X r j n (by omega), rc_xAt, back_succ,
      show (stp n).val + 1 = n + 1 from congrArg (· + 1) (Nat.mod_eq_of_lt (by omega))]
    exact sum_back X c (fun d => partialAt xs ws X (back X c (n + 1)) d r j) (n + 1)

theorem pF_apply (X : Fin 4) (r : Fin 256) (j : Fin 2048) : ∀ (k : ℕ), k < 5 → ∀ c : Dev nD,
    (pF xs ws X k c (ix3 0 r j) : EReal) = ∑ i ∈ Finset.range (12 + k), partialAt xs ws X (back X c (11 + k)) (back X c i) r j
  | 0, _, c => by
    rw [pF, sumBF_apply, pB_apply xs ws X r j 10 (by omega), rc_xAt, back_succ]
    exact sum_back X c (fun d => partialAt xs ws X (back X c 11) d r j) 11
  | k + 1, hk, c => by
    rw [pF, sumFF_apply, pF_apply X r j k (by omega), rc_xAt, back_succ,
      show (stp (11 + k)).val + 1 = 11 + k + 1 from congrArg (· + 1) (Nat.mod_eq_of_lt (by omega))]
    exact sum_back X c (fun d => partialAt xs ws X (back X c (11 + k + 1)) d r j) (12 + k)

/-- A whole sum is the sum over all devices. -/
theorem pF_whole (X : Fin 4) (c : Dev nD) (r : Fin 256) (j : Fin 2048) :
    (pF xs ws X 4 c (ix3 0 r j) : EReal) = ∑ d : Dev nD, partialAt xs ws X (back X c 15) d r j := by
  rw [pF_apply xs ws X r j 4 (by omega) c, Finset.sum_range]
  exact (back_bijective X c).sum_comp fun d => partialAt xs ws X (back X c 15) d r j

end Values

end Cert.KernelIdeal.Ring
-- ==== Proof.Ring.Greatest.lean ====
/- The greatest magnitude the kernel scales by: it is at most `z` exactly where every magnitude of the whole sums is. -/
module

public import proofs.«01_k».proof.Proof.Ring.Sums

@[expose] public section

set_option maxRecDepth 4096

noncomputable section

namespace Cert.KernelIdeal.Ring

open Idealize.ShloMosaic Idealize.ShloMosaic.TcCoe Idealize.ShloMosaic.ValueIdx Cert.KernelIdeal.Gen

/-- A reduction by the maximum over every element. -/
theorem red_le {s : Shape} {axes : List (Fin s.rank)} (src : FVec Ideal s .f32) (h : s.Reduces axes S1) (hφ : FKind.Formats .f32)
    (hacc : (0xFF800000#32 : BitVec 32) = FKind.maximumf.neutral .f32 hφ) (j : S1.Idx) (z : EReal) :
    (multiReduction .maximumf axes S1 src 0xFF800000#32 h hφ hacc j : EReal) ≤ z ↔ ∀ i, (src i : EReal) ≤ z := by
  rw [multiReduction_maximumf_eq_fold]
  refine Iff.trans (Finset.fold_max_le (s := Finset.univ.filter fun i => h.drop i = j) (f := src) (b := Ideal.ofBits .f32 0xFF800000#32) z) ?_
  rw [bits_least]
  refine ⟨fun h' i => h'.2 i (Finset.mem_filter.2 ⟨Finset.mem_univ _, ?_⟩), fun h' => ⟨bot_le, fun i _ => h' i⟩⟩
  funext a
  have := (h.drop i a).isLt
  have := (j a).isLt
  match a with
  | 0 => exact Subsingleton.elim (α := Fin 1) _ _

/-- A one-element reduction taken out of its vector. -/
theorem pick1 (v : FVec Ideal S1 .f32) : extractAt ![0, 0, 0] (shapeCast S1x1x1 v shapeCasts_S1_S1x1x1) inpos_S1x1x1_p0_0_0 = v (ix1 0) :=
  shapeCast_apply v _ _ _ (by decide)
theorem pick2 (v : FVec Ideal S1 .f32) : extractAt ![0, 0] (shapeCast S1x1 v shapeCasts_S1_S1x1) inpos_S1x1_p0_0 = v (ix1 0) :=
  shapeCast_apply v _ _ _ (by decide)

theorem all3 (p : S1x256x2048.Idx → Prop) : (∀ i, p i) ↔ ∀ (r : Fin 256) (j : Fin 2048), p (ix3 0 r j) := by
  refine ⟨fun h r j => h _, fun h i => ?_⟩
  obtain ⟨u, r, j, rfl⟩ : ∃ (u : Fin 1) (r : Fin 256) (j : Fin 2048), i = ix3 u r j := ⟨i 0, i 1, i 2, eq_ix3 i⟩
  rw [Subsingleton.elim u 0]
  exact h r j

/-- The greatest magnitude of a chunk. -/
theorem chunk_le (v : FVec Ideal S256x2048 .f32) (z : EReal) :
    (extractAt ![0, 0, 0] (shapeCast S1x1x1 (multiReduction .maximumf [1, 2] S1
      (shapeCast S1x256x2048 (absf v) shapeCasts_S256x2048_S1x256x2048) 0xFF800000#32 reduces_S1x256x2048_S1 (.inl rfl) rfl)
      shapeCasts_S1_S1x1x1) inpos_S1x1x1_p0_0_0 : EReal) ≤ z
      ↔ ∀ (r : Fin 256) (j : Fin 2048), max (v (ix2 r j) : EReal) (-(v (ix2 r j) : EReal)) ≤ z := by
  rw [pick1]
  refine Iff.trans (red_le _ _ _ _ _ z) ?_
  rw [all3]
  refine forall_congr' fun r => forall_congr' fun j => ?_
  rw [shapeCast_ab_1ab_apply]
  exact Iff.rfl

theorem maxOf_le (v : Vec Ideal S1x256x2048 .f32) (a : Vec Ideal S256x256 .bf16) (b : Vec Ideal S256x2048 .bf16) (z : EReal) :
    (maxOf v a b : EReal) ≤ z ↔ ∀ (r : Fin 256) (j : Fin 2048),
      max (sumFF v a b (ix3 0 r j) : EReal) (-(sumFF v a b (ix3 0 r j) : EReal)) ≤ z := by
  refine Iff.trans (chunk_le (k0_pay113 v a b) z) (forall_congr' fun r => forall_congr' fun j => ?_)
  rw [sumFF_apply, show (k0_pay113 v a b (ix2 r j) : EReal) = v (ix3 0 r j) + rc a b r j from pay83_apply v a b r j]

/-- Four single elements side by side. -/
theorem four_apply (a b c d : Ideal .f32) (j : Fin 4) :
    concatenate S4 0 [⟨S1, broadcast S1 a⟩, ⟨S1, broadcast S1 b⟩, ⟨S1, broadcast S1 c⟩, ⟨S1, broadcast S1 d⟩]
      concatenates_S1_S1_S1_S1_S4_d0 (ix1 j) = (![a, b, c, d] : Fin 4 → Ideal .f32) j := by
  have hi : ∀ b : Fin S1.rank, b.cast (rfl : S1.rank = S4.rank) ≠ 0 →
      ((ix1 (0 : Fin 1) : S1.Idx) b).val = ((ix1 j : S4.Idx) (b.cast rfl)).val :=
    fun b hb => absurd (Subsingleton.elim (α := Fin 1) _ _) hb
  match j with
  | 0 =>
    exact concatenate_apply_piece (t := S4) 0
      [⟨S1, broadcast S1 a⟩, ⟨S1, broadcast S1 b⟩, ⟨S1, broadcast S1 c⟩, ⟨S1, broadcast S1 d⟩]
      concatenates_S1_S1_S1_S1_S4_d0 _ 0 (by show 0 < 4; decide) S1 _ rfl rfl 0 rfl (ix1 (0 : Fin 1)) hi rfl
  | 1 =>
    exact concatenate_apply_piece (t := S4) 0
      [⟨S1, broadcast S1 a⟩, ⟨S1, broadcast S1 b⟩, ⟨S1, broadcast S1 c⟩, ⟨S1, broadcast S1 d⟩]
      concatenates_S1_S1_S1_S1_S4_d0 _ 1 (by show 1 < 4; decide) S1 _ rfl rfl 1 rfl (ix1 (0 : Fin 1)) hi rfl
  | 2 =>
    exact concatenate_apply_piece (t := S4) 0
      [⟨S1, broadcast S1 a⟩, ⟨S1, broadcast S1 b⟩, ⟨S1, broadcast S1 c⟩, ⟨S1, broadcast S1 d⟩]
      concatenates_S1_S1_S1_S1_S4_d0 _ 2 (by show 2 < 4; decide) S1 _ rfl rfl 2 rfl (ix1 (0 : Fin 1)) hi rfl
  | 3 =>
    exact concatenate_apply_piece (t := S4) 0
      [⟨S1, broadcast S1 a⟩, ⟨S1, broadcast S1 b⟩, ⟨S1, broadcast S1 c⟩, ⟨S1, broadcast S1 d⟩]
      concatenates_S1_S1_S1_S1_S4_d0 _ 3 (by show 3 < 4; decide) S1 _ rfl rfl 3 rfl (ix1 (0 : Fin 1)) hi rfl

/-- The greatest of four. -/
theorem four_le (a b c d : Ideal .f32) (z : EReal) :
    (multiReduction .maximumf [1] S1 (shapeCast S1x4 (concatenate S4 0 [⟨S1, broadcast S1 a⟩, ⟨S1, broadcast S1 b⟩,
      ⟨S1, broadcast S1 c⟩, ⟨S1, broadcast S1 d⟩] concatenates_S1_S1_S1_S1_S4_d0) shapeCasts_S4_S1x4)
      0xFF800000#32 reduces_S1x4_S1 (.inl rfl) rfl (ix1 0) : EReal) ≤ z
      ↔ (a : EReal) ≤ z ∧ (b : EReal) ≤ z ∧ (c : EReal) ≤ z ∧ (d : EReal) ≤ z := by
  refine Iff.trans (red_le _ _ _ _ _ z) ⟨fun h => ?_, fun h i => ?_⟩
  · have H : ∀ j : Fin 4, ((![a, b, c, d] : Fin 4 → Ideal .f32) j : EReal) ≤ z := fun j => by
      have h' := h (ix2 (0 : Fin 1) j)
      rw [shapeCast_a_1a_apply, four_apply] at h'
      exact h'
    exact ⟨H 0, H 1, H 2, H 3⟩
  · obtain ⟨u, j, rfl⟩ : ∃ (u : Fin 1) (j : Fin 4), i = ix2 u j := ⟨i 0, i 1, eq_ix2 i⟩
    rw [shapeCast_a_1a_apply, four_apply]
    match j with
    | 0 => exact h.1
    | 1 => exact h.2.1
    | 2 => exact h.2.2.1
    | 3 => exact h.2.2.2

theorem rowOf_le (m0 m2 m1 : Ideal .f32) (v : Vec Ideal S1x256x2048 .f32) (a : Vec Ideal S256x256 .bf16)
    (b : Vec Ideal S256x2048 .bf16) (i : S1x128.Idx) (z : EReal) :
    (rowOf m0 m2 m1 v a b i : EReal) ≤ z ↔ (m0 : EReal) ≤ z ∧ (m2 : EReal) ≤ z ∧ (m1 : EReal) ≤ z ∧ (maxOf v a b : EReal) ≤ z := by
  refine Iff.trans (Eq.to_iff (congrArg (fun x : EReal => x ≤ z) ?_)) (four_le m0 m2 m1 (maxOf v a b) z)
  unfold rowOf k0_pay119
  rw [shapeCast_self]
  exact pick2 _

section Values

variable (xs : Dev nD → Vec Ideal S4096x256 .bf16) (ws : Dev nD → Vec Ideal S256x8192 .bf16)

/-- The greatest magnitude, of the devices' maxima. -/
def amax : EReal := k0_pay120 (F := Ideal) (maxs xs ws)

theorem mxOf_le (X : Fin 4) (c : Dev nD) (z : EReal) :
    (mxOf xs ws X c : EReal) ≤ z ↔ ∀ (r : Fin 256) (j : Fin 2048),
      max (pF xs ws X 4 c (ix3 0 r j) : EReal) (-(pF xs ws X 4 c (ix3 0 r j) : EReal)) ≤ z :=
  maxOf_le _ _ _ z

theorem amax_le (z : EReal) : amax xs ws ≤ z ↔ ∀ (c : Dev nD) (X : Fin 4) (r : Fin 256) (j : Fin 2048),
    max (pF xs ws X 4 c (ix3 0 r j) : EReal) (-(pF xs ws X 4 c (ix3 0 r j) : EReal)) ≤ z := by
  have e : amax xs ws = multiReduction .maximumf [1, 2] S1 (shapeCast S1x16x128 (maxs xs ws) shapeCasts_S16x128_S1x16x128)
      0xFF800000#32 reduces_S1x16x128_S1 (.inl rfl) rfl (ix1 0) := by
    unfold amax k0_pay120
    exact pick1 _
  have hr : ∀ c : Dev nD, ∀ i, (mrow xs ws c i : EReal) ≤ z ↔ ∀ (X : Fin 4) (r : Fin 256) (j : Fin 2048),
      max (pF xs ws X 4 c (ix3 0 r j) : EReal) (-(pF xs ws X 4 c (ix3 0 r j) : EReal)) ≤ z := by
    intro c i
    refine Iff.trans (rowOf_le _ _ _ _ _ _ i z) ?_
    have h3 : (maxOf (pF xs ws 3 3 (devFrom 3 c)) (xAt xs 3 14 c) (wAt ws 3 c) : EReal) ≤ z ↔ _ := mxOf_le xs ws 3 c z
    rw [mxOf_le, mxOf_le, mxOf_le, h3]
    refine ⟨fun h X => ?_, fun h => ⟨h 0, h 2, h 1, h 3⟩⟩
    match X with
    | 0 => exact h.1
    | 1 => exact h.2.2.1
    | 2 => exact h.2.1
    | 3 => exact h.2.2.2
  rw [e]
  refine Iff.trans (red_le _ _ _ _ _ z) ?_
  refine ⟨fun h c => ?_, fun h i => ?_⟩
  · have h' := h (ix3 (0 : Fin 1) (c : Fin 16) (0 : Fin 128))
    rw [shapeCast_ab_1ab_apply] at h'
    exact (hr c _).1 h'
  · obtain ⟨u, c, k, rfl⟩ : ∃ (u : Fin 1) (c : Fin 16) (k : Fin 128), i = ix3 u c k := ⟨i 0, i 1, i 2, eq_ix3 i⟩
    rw [shapeCast_ab_1ab_apply]
    exact (hr _ _).2 (h _)

end Values

end Cert.KernelIdeal.Ring
-- ==== Proof.Ring.Reference.lean ====
/- What the reference computes over the extended reals, index by index. -/
module

public import proofs.«01_k».proof.Proof.Gen.ReferenceIdeal.Value
public import proofs.«01_k».proof.Proof.Ring.Numbers
public import Idealize.ShloMosaic.Lib.StackMember
public import Idealize.ShloMosaic.Lib.IdealHost
public import Idealize.ShloMosaic.Lib.ValueLayout
public import Idealize.ShloMosaic.Lib.Claim

@[expose] public section

set_option maxRecDepth 4096

noncomputable section

namespace Cert.ReferenceIdeal.Ring

open Cert.ReferenceIdeal Cert.ReferenceIdeal.Gen Idealize.ShloMosaic Idealize.ShloMosaic.TcCoe Idealize.ShloMosaic.ValueIdx

section Terms

variable {F : FTy → Type} [FloatOps F]

/-- The product. -/
def refY (a : FVec F S4096x4096 .bf16) (b : FVec F S4096x8192 .bf16) : FVec F S4096x8192 .f32 :=
  Host.dotGeneral dot_S4096x4096_S4096x8192_S4096x8192_1_0_0_1_n_n none a b
/-- Its greatest magnitude. -/
def refMax (y : FVec F S4096x8192 .f32) : FVec F S_ .f32 :=
  Host.reduce FloatOps.maximumf (Host.absf y) (constant S_ .f32 0xFF800000#32) reducesTo_S4096x8192_S_d0_1 h_S_
/-- The scale. -/
def refScale (y : FVec F S4096x8192 .f32) : FVec F S_ .f32 := Host.divf (refMax y) (constant S_ .f32 0x43E00000#32)
/-- The product quantised. -/
def refQ (y : FVec F S4096x8192 .f32) : FVec F S4096x8192 .fp8e4m3 :=
  Host.convertf .fp8e4m3 (minimumf (broadcastInDim S4096x8192 ![] bcast_S_S4096x8192 (constant S_ .f32 0x43E00000#32))
    (maximumf (broadcastInDim S4096x8192 ![] bcast_S_S4096x8192 (constant S_ .f32 0xC3E00000#32))
      (Host.divf y (broadcastInDim S4096x8192 ![] bcast_S_S4096x8192 (refScale y)))))

variable (m : (ℓ : Loc nD τ sig) → Buf (Elt F) ℓ)

theorem V_quantised (c : Dev nD) : V m c main_v7
    = refQ (refY (m ((c : Thread nD τ).loc main_arg0)) (m ((c : Thread nD τ).loc main_arg1))) := by
  unfold_abbrev_sides
  simp only [List.flatten_cons, List.flatten_nil, List.append_nil, List.cons_append, List.nil_append]
  after_results
  rfl

theorem V_scale (c : Dev nD) : V m c main_v8
    = shapeCast S1x1 (refScale (refY (m ((c : Thread nD τ).loc main_arg0)) (m ((c : Thread nD τ).loc main_arg1)))) shapeCasts_S_S1x1 := by
  unfold_abbrev_sides
  simp only [List.flatten_cons, List.flatten_nil, List.append_nil, List.cons_append, List.nil_append]
  after_results
  rfl

end Terms

/-! ## Index by index -/

theorem refY_apply (a : FVec Ideal S4096x4096 .bf16) (b : FVec Ideal S4096x8192 .bf16) (r : Fin 4096) (j : Fin 8192) :
    (refY a b (ix2 r j) : EReal) = ∑ k : Fin 4096, a (ix2 r k) * b (ix2 k j) :=
  StackMember.dotGeneral_plain_apply (m := 4096) (k := 4096) (n := 8192) none a b r j

theorem refMax_le (y : FVec Ideal S4096x8192 .f32) (z : EReal) :
    (refMax y ix0 : EReal) ≤ z ↔ ∀ i, max (y i : EReal) (-(y i : EReal)) ≤ z := by
  unfold refMax
  rw [Host.reduce_eq_fold]
  refine Iff.trans (Finset.fold_max_le (s := Finset.univ.filter fun i => reducesTo_S4096x8192_S_d0_1.drop i = ix0)
    (f := Host.absf y) (b := Ideal.ofBits .f32 0xFF800000#32) z) ?_
  rw [KernelIdeal.Ring.bits_least]
  refine ⟨fun h i => h.2 i (Finset.mem_filter.2 ⟨Finset.mem_univ _, funext fun a => a.elim0⟩), fun h => ⟨bot_le, fun i _ => h i⟩⟩

theorem refScale_apply (y : FVec Ideal S4096x8192 .f32) (i : S_.Idx) :
    (refScale y i : EReal) = Ideal.div (refMax y ix0) ((448 : ℝ) : EReal) := by
  rw [show i = ix0 from funext fun a => a.elim0]
  exact congrArg (Ideal.div (refMax y ix0)) KernelIdeal.Ring.bits_top

theorem refQ_apply (y : FVec Ideal S4096x8192 .f32) (i : S4096x8192.Idx) : (refQ y i : EReal)
    = min ((448 : ℝ) : EReal) (max ((-448 : ℝ) : EReal) (Ideal.div (y i) (Ideal.div (refMax y ix0) ((448 : ℝ) : EReal)))) := by
  have h : (refQ y i : EReal) = min (Ideal.ofBits .f32 0x43E00000#32) (max (Ideal.ofBits .f32 0xC3E00000#32)
      (Ideal.div (y i) (broadcastInDim S4096x8192 ![] bcast_S_S4096x8192 (refScale y) i))) := rfl
  rw [h, broadcastInDim_scalar_apply, refScale_apply, KernelIdeal.Ring.bits_top, KernelIdeal.Ring.bits_bottom]

/-! ## The array after the run -/

section Final

variable {F : FTy → Type} [FloatOps F] (m : (ℓ : Loc nD τ sig) → Buf (Elt F) ℓ) (c : Dev nD)

theorem iblk_q : iblk m c 0 t0_0 = V m c main_v7 :=
  funext fun y => congrArg (V m c main_v7) (funext fun a => Fin.ext (win0_0.rect_emb_val_of_index_zero t0_0 a rfl y))
theorem iblk_s : iblk m c 1 t0_0 = V m c main_v8 :=
  funext fun y => congrArg (V m c main_v8) (funext fun a => Fin.ext (win0_1.rect_emb_val_of_index_zero t0_0 a rfl y))

theorem read_out (g : Vec F S4096x8192 .bf16) : ((cfg0.win 2).blk t0_0).view.read (Elt F) g = g :=
  funext fun y => congrArg g (funext fun a => Fin.ext (win0_2.rect_emb_val_of_index_zero t0_0 a rfl y))
theorem cut_out (g : Vec F S4096x8192 .bf16) : (cfg0.win 2).cut (grid0.coords t0_0) g = g :=
  funext fun y => congrArg g (funext fun a => Fin.ext rfl)

theorem arr_eq : (dats m 0 c).arrAt 2 cfg0.N = out0_2 (V m c main_v7) (V m c main_v8) := by
  have h := Value.blocks2 m c t0_0 (flush0_2 t0_0)
  rw [Value.flushed2, iblk_q, iblk_s] at h
  exact (read_out _).symm.trans (h.trans (cut_out _))

end Final

theorem out_apply (q : Vec Ideal S4096x8192 .fp8e4m3) (s : Vec Ideal S1x1 .f32) (i : S4096x8192.Idx) :
    (out0_2 q s i : EReal) = (q i : EReal) * s (ix2 (0 : Fin 1) (0 : Fin 1)) := by
  unfold out0_2
  have z : (![0, 0] : Fin 2 → ℕ) = fun _ => 0 := by decide
  rw [View.canon_unit_zero z, View.ld_unit_zero z, View.ld_unit_zero z]
  unfold k0_pay1
  rw [shapeCast_self]
  refine congrArg (fun x : EReal => (q i : EReal) * x) (congrArg s (funext fun a => Fin.ext ?_))
  match a with
  | 0 => rfl
  | 1 => rfl

/-- The reference's result at an index. -/
theorem final_apply (m : (ℓ : Loc nD τ sig) → Buf (Elt Ideal) ℓ) (c : Dev nD) (y : FVec Ideal S4096x8192 .f32)
    (hy : y = refY (m ((c : Thread nD τ).loc main_arg0)) (m ((c : Thread nD τ).loc main_arg1))) (i : S4096x8192.Idx) :
    ((dats m 0 c).arrAt 2 cfg0.N i : EReal)
      = min ((448 : ℝ) : EReal) (max ((-448 : ℝ) : EReal) (Ideal.div (y i) (Ideal.div (refMax y ix0) ((448 : ℝ) : EReal))))
        * Ideal.div (refMax y ix0) ((448 : ℝ) : EReal) := by
  rw [arr_eq, V_quantised, V_scale, ← hy]
  refine (out_apply _ _ i).trans ?_
  rw [refQ_apply]
  exact congrArg _ (refScale_apply y _)

end Cert.ReferenceIdeal.Ring
-- ==== Proof.Ring.Equation.lean ====
/- The kernel's result is the reference's: every whole sum is an element of the product, the greatest magnitude is the
   product's, and the two ways of quantising agree. -/
module

public import proofs.«01_k».proof.Defs
public import proofs.«01_k».proof.Proof.Ring.Launch
public import proofs.«01_k».proof.Proof.Ring.Greatest
public import proofs.«01_k».proof.Proof.Ring.Reference

@[expose] public section

set_option maxRecDepth 4096

noncomputable section

namespace Cert.KernelIdeal.Ring

open Idealize.ShloMosaic Idealize.ShloMosaic.TcCoe Idealize.ShloMosaic.ValueIdx Idealize.SL.Sem Cert.KernelIdeal.Gen
open Cert.ReferenceIdeal.Ring (refY refMax refY_apply refMax_le)

/-! ## The devices' shares of the arguments -/

section Shares

variable (xs : Dev nD → Vec Ideal S4096x256 .bf16) (ws : Dev nD → Vec Ideal S256x8192 .bf16)
variable (A : FVec Ideal ⟨2, ![4096, 4096]⟩ .bf16) (B : FVec Ideal ⟨2, ![4096, 8192]⟩ .bf16)

/-- Column `k` of device `d`'s share. -/
def inner (d : Dev nD) (k : Fin 256) : Fin 4096 := ⟨256 * d.val + k.val, by have : d.val < 16 := d.isLt; omega⟩

/-- The devices hold blocks of the arguments. -/
structure Shares : Prop where
  x : ∀ (d : Dev nD) (r : Fin 4096) (k : Fin 256), xs d (ix2 r k) = A (ix2 r (inner d k))
  w : ∀ (d : Dev nD) (k : Fin 256) (j : Fin 8192), ws d (ix2 k j) = B (ix2 (inner d k) j)

/-- A sum over the devices and their shares is a sum over the whole. -/
theorem sum_inner (f : Fin 4096 → EReal) : ∑ d : Dev nD, ∑ k : Fin 256, f (inner d k) = ∑ k : Fin 4096, f k := by
  rw [← Fintype.sum_prod_type' fun (d : Fin 16) (k : Fin 256) => f (inner d k)]
  refine Fintype.sum_equiv (finProdFinEquiv (m := 16) (n := 256)) _ _ fun p => congrArg f (Fin.ext ?_)
  show 256 * p.1.val + p.2.val = p.2.val + 256 * p.1.val
  omega

variable {xs ws A B}

theorem pF_product (h : Shares xs ws A B) (X : Fin 4) (c : Dev nD) (r : Fin 256) (j : Fin 2048) :
    (pF xs ws X 4 c (ix3 0 r j) : EReal) = refY A B (ix2 (row (back X c 15) r) (col X j)) := by
  rw [pF_whole, refY_apply, ← sum_inner]
  refine Finset.sum_congr rfl fun d _ => Finset.sum_congr rfl fun k _ => ?_
  rw [h.x, h.w]

/-- Every index is in one lane of one block. -/
theorem split_row (a : Fin 4096) : ∃ (b : Fin 16) (r : Fin 256), a = row b r :=
  ⟨⟨a.val / 256, by omega⟩, ⟨a.val % 256, by omega⟩, Fin.ext (by show a.val = 256 * (a.val / 256) + a.val % 256; omega)⟩
theorem split_col (a : Fin 8192) : ∃ (X : Fin 4) (j : Fin 2048), a = col X j :=
  ⟨⟨a.val / 2048, by omega⟩, ⟨a.val % 2048, by omega⟩, Fin.ext (by show a.val = 2048 * (a.val / 2048) + a.val % 2048; omega)⟩

theorem amax_eq (h : Shares xs ws A B) : amax xs ws = refMax (refY A B) ix0 := by
  refine eq_of_forall_ge_iff fun z => ?_
  rw [amax_le]
  refine Iff.trans ?_ (refMax_le (refY A B) z).symm
  constructor
  · intro hz i
    obtain ⟨a, b, rfl⟩ : ∃ (a : Fin 4096) (b : Fin 8192), i = ix2 a b := ⟨i 0, i 1, eq_ix2 i⟩
    obtain ⟨b', r, rfl⟩ := split_row a
    obtain ⟨X, j, rfl⟩ := split_col b
    have e := pF_product h X (owner X b') r j
    rw [back_owner] at e
    rw [← e]
    exact hz (owner X b') X r j
  · intro hz c X r j
    rw [pF_product h]
    exact hz _

theorem le_amax (h : Shares xs ws A B) (i : (⟨2, ![4096, 8192]⟩ : Shape).Idx) :
    max (refY A B i : EReal) (-(refY A B i : EReal)) ≤ refMax (refY A B) ix0 :=
  (refMax_le (refY A B) _).1 le_rfl i

theorem scaleOf_eq (v : Vec Ideal S16x128 .f32) : (scaleOf v : EReal) = Ideal.div (k0_pay120 (F := Ideal) v) ((448 : ℝ) : EReal) := by
  unfold scaleOf k0_pay121
  exact congrArg (Ideal.div _) bits_top
theorem invOf_eq (v : Vec Ideal S16x128 .f32) : (invOf v : EReal) = Ideal.div ((448 : ℝ) : EReal) (k0_pay120 (F := Ideal) v) := by
  unfold invOf k0_pay122
  generalize k0_pay120 (F := Ideal) v = a
  show Ideal.div (Ideal.ofBits .f32 0x43E00000#32) a = _
  rw [bits_top]
theorem qv_zero (X : Fin 4) (c : Dev nD) : qv xs ws X 0 c = quant (invOf (maxs xs ws)) (pF xs ws X 4 c) := rfl

/-- The result where a row of a block meets a column of a lane. -/
theorem OUT_lane (b : Fin 16) (r : Fin 256) (X : Fin 4) (j : Fin 2048) :
    OUT xs ws (ix2 (row b r) (col X j)) = deq (scaleOf (maxs xs ws)) (qv xs ws X 0 (owner X b)) (ix3 0 r j) := by
  have hX : (⟨(col X j).val / 2048, Nat.div_lt_of_lt_mul (col X j).isLt⟩ : Fin 4) = X :=
    Fin.ext (by show (2048 * X.val + j.val) / 2048 = X.val; omega)
  have hb : (⟨(row b r).val / 256, Nat.div_lt_of_lt_mul (row b r).isLt⟩ : Fin 16) = b :=
    Fin.ext (by show (256 * b.val + r.val) / 256 = b.val; omega)
  have e : OUT xs ws (ix2 (row b r) (col X j)) = deq (scaleOf (maxs xs ws))
      (qv xs ws ⟨(col X j).val / 2048, Nat.div_lt_of_lt_mul (col X j).isLt⟩ 0
        (owner ⟨(col X j).val / 2048, Nat.div_lt_of_lt_mul (col X j).isLt⟩ ⟨(row b r).val / 256, Nat.div_lt_of_lt_mul (row b r).isLt⟩))
      (ix3 0 r j) := by
    refine congrArg (deq _ _) (funext fun a => Fin.ext ?_)
    match a with
    | 0 => rfl
    | 1 => show (256 * b.val + r.val) % 256 = r.val; omega
    | 2 => show (2048 * X.val + j.val) % 2048 = j.val; omega
  rw [e, hX, hb]

/-- The result is the reference's. -/
theorem OUT_eq (h : Shares xs ws A B) (i : S4096x8192.Idx) : (OUT xs ws i : EReal)
    = min ((448 : ℝ) : EReal) (max ((-448 : ℝ) : EReal)
        (Ideal.div (refY A B i) (Ideal.div (refMax (refY A B) ix0) ((448 : ℝ) : EReal))))
      * Ideal.div (refMax (refY A B) ix0) ((448 : ℝ) : EReal) := by
  rw [← quantise_eq _ _ (le_amax h i), ← amax_eq h]
  obtain ⟨a, b, rfl⟩ : ∃ (a : Fin 4096) (b : Fin 8192), i = ix2 a b := ⟨i 0, i 1, eq_ix2 i⟩
  obtain ⟨b', r, rfl⟩ := split_row a
  obtain ⟨X, j, rfl⟩ := split_col b
  rw [OUT_lane, deq_apply, scaleOf_eq, qv_zero, quant_apply, invOf_eq, pF_product h, back_owner]
  rfl

end Shares

/-! ## The claim -/

/-- The kernel's window of `x` is its argument. -/
theorem xOf_eq {F : FTy → Type} [FloatOps F] (m : (ℓ : Loc nD τ sig) → Buf (Elt F) ℓ) (c : Dev nD) :
    xOf m c = m ((c : Thread nD τ).loc main_arg0) :=
  funext fun y => congrArg (m ((c : Thread nD τ).loc main_arg0))
    (funext fun a => Fin.ext (win0_0.rect_emb_val_of_index_zero t0_0 a rfl y))
/-- And of `w`. -/
theorem wOf_eq {F : FTy → Type} [FloatOps F] (m : (ℓ : Loc nD τ sig) → Buf (Elt F) ℓ) (c : Dev nD) :
    wOf m c = m ((c : Thread nD τ).loc main_arg1) :=
  funext fun y => congrArg (m ((c : Thread nD τ).loc main_arg1))
    (funext fun a => Fin.ext (win0_1.rect_emb_val_of_index_zero t0_0 a rfl y))

theorem shares_of_blocks (xs : Dev nD → Vec Ideal S4096x256 .bf16) (ws : Dev nD → Vec Ideal S256x8192 .bf16)
    (A : FVec Ideal ⟨2, ![4096, 4096]⟩ .bf16) (B : FVec Ideal ⟨2, ![4096, 8192]⟩ .bf16)
    (hx : ∀ c : Dev nD, xs c = Layout.block ⟨2, ![4096, 256]⟩ ⟨2, ![4096, 4096]⟩ 1 16 c A)
    (hw : ∀ c : Dev nD, ws c = Layout.block ⟨2, ![256, 8192]⟩ ⟨2, ![4096, 8192]⟩ 0 16 c B) : Shares xs ws A B where
  x d r k := by
    rw [hx, Layout.block_apply]
    refine congrArg A (funext fun a => Fin.ext ?_)
    match a with
    | 0 => rfl
    | 1 => show d.val * 256 + k.val = 256 * d.val + k.val; omega
  w d k j := by
    rw [hw, Layout.block_apply]
    refine congrArg B (funext fun a => Fin.ext ?_)
    match a with
    | 0 => show d.val * 256 + k.val = 256 * d.val + k.val; omega
    | 1 => rfl

/-- The two results are the same array. -/
theorem out_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hx : ∀ c : Dev nD, m ((c : Thread nD τ).loc main_arg0) = Layout.block ⟨2, ![4096, 256]⟩ ⟨2, ![4096, 4096]⟩ 1 16 c
      (m' (((0 : Dev Cert.ReferenceIdeal.nD) : Thread Cert.ReferenceIdeal.nD Cert.ReferenceIdeal.τ).loc Cert.ReferenceIdeal.main_arg0)))
    (hw : ∀ c : Dev nD, m ((c : Thread nD τ).loc main_arg1) = Layout.block ⟨2, ![256, 8192]⟩ ⟨2, ![4096, 8192]⟩ 0 16 c
      (m' (((0 : Dev Cert.ReferenceIdeal.nD) : Thread Cert.ReferenceIdeal.nD Cert.ReferenceIdeal.τ).loc Cert.ReferenceIdeal.main_arg1))) :
    OUT (xOf m) (wOf m) = (Cert.ReferenceIdeal.Gen.dats m' 0 0).arrAt 2 Cert.ReferenceIdeal.cfg0.N := by
  have hs := shares_of_blocks (xOf m) (wOf m) _ _ (fun c => (xOf_eq m c).trans (hx c)) (fun c => (wOf_eq m c).trans (hw c))
  funext i
  exact (OUT_eq hs i).trans (Cert.ReferenceIdeal.Ring.final_apply m' 0 _ rfl i).symm

theorem algebraic : Cert.algebraic_KernelIdeal_ReferenceIdeal (hKernelIdeal := Cert.KernelIdeal.Gen.facts)
    (hReferenceIdeal := Cert.ReferenceIdeal.Gen.facts) := by
  intro m g m' g' _ hin
  refine ⟨(Cert.ReferenceIdeal.Gen.dats m' 0 0).arrAt 2 Cert.ReferenceIdeal.cfg0.N, ?_, ?_⟩
  · refine (θ_run defs _ _).mono (fun r h c => ?_) (run_main (F := Ideal) m g)
    refine ⟨(h.1 c).1.trans ?_, (h.1 c).2⟩
    exact out_eq m m' (fun c => (hin c).1) (fun c => (hin c).2)
  · refine (θ_run Cert.ReferenceIdeal.defs _ _).mono (fun r h => ?_) (Cert.ReferenceIdeal.Value.run_blocks (F := Ideal) m' g')
    exact h 0

end Cert.KernelIdeal.Ring
-- ==== Proof.lean ====
module

public import proofs.«01_k».proof.Defs
public import proofs.«01_k».proof.Proof.Gen.ReferenceIdeal.Value
public import proofs.«01_k».proof.Proof.Ring.Frames
public import proofs.«01_k».proof.Proof.Ring.Equation

@[expose] public section

noncomputable section

namespace Cert.Proof

theorem claim : Cert.Claim := ⟨Cert.Kernel.Gen.facts, Cert.KernelIdeal.Gen.facts, Cert.ReferenceIdeal.Gen.facts,
  Cert.KernelIdeal.Ring.frame_kernel, Cert.KernelIdeal.Ring.frame_ideal, fun m ρ _ => Cert.ReferenceIdeal.Gen.frame m ρ,
  trivial, Cert.KernelIdeal.Ring.algebraic⟩

end Cert.Proof

end
